-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![64, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![64, 32768]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S64x2048 : Shape := ⟨2, ![64, 2048]⟩
abbrev S2x1024 : Shape := ⟨2, ![2, 1024]⟩
abbrev S32 : Shape := ⟨1, ![32]⟩
abbrev S_ : Shape := ⟨0, ![]⟩
abbrev S1024x1024 : Shape := ⟨2, ![1024, 1024]⟩
abbrev S1 : Shape := ⟨1, ![1]⟩

abbrev nBuf : Space → Nat
  | .hbm => 8
  | .vmem => 14
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S1024x2048, .f32⟩
  | .local _ .vmem, ⟨2, _⟩ => ⟨S2048x1024, .f32⟩
  | .local _ .vmem, ⟨3, _⟩ => ⟨S1024x2048, .f32⟩
  | .local _ .vmem, ⟨4, _⟩ => ⟨S2048x1024, .f32⟩
  | .local _ .vmem, ⟨5, _⟩ => ⟨S1024x2048, .f32⟩
  | .local _ .vmem, ⟨6, _⟩ => ⟨S2048x1024, .f32⟩
  | .local _ .vmem, ⟨7, _⟩ => ⟨S64x1024, .f32⟩
  | .local _ .vmem, ⟨8, _⟩ => ⟨S64x2048, .bf16⟩
  | .local _ .vmem, ⟨9, _⟩ => ⟨S64x1024, .bf16⟩
  | .local _ .vmem, ⟨10, _⟩ => ⟨S64x1024, .bf16⟩
  | .local _ .vmem, ⟨11, _⟩ => ⟨S64x2048, .bf16⟩
  | .local _ .vmem, ⟨12, _⟩ => ⟨S2x1024, .bf16⟩
  | .local _ .vmem, ⟨13, _⟩ => ⟨S2x1024, .bf16⟩
  | _, _ => ⟨S64x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 268 → Bool
  | ⟨i, _⟩ => dmaSemScopedAt i

abbrev sig : RefSig :=
  (ofTc nBuf bufTy 1 268 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let c2_i32_131 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v140 : BitVec 32 := Scalar.muli c2_i32_131 v2
  let c0_i32_132 : BitVec 32 := 0#32
  ![v140.toNat, 0]
def k0_off2 (d0 : Dev nD) : Fin 2 → Nat :=
  let c2_i32_130 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v139 : BitVec 32 := Scalar.muli c2_i32_130 v2
  let c0_i32_133 : BitVec 32 := 0#32
  ![v139.toNat, 0]
def k0_off3 (d0 : Dev nD) (c1_i32_134 : BitVec 32) : Fin 2 → Nat :=
  let c2_i32_136 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v143 : BitVec 32 := Scalar.addi v2 c1_i32_134
  let c32_i32_135 : BitVec 32 := 32#32
  let v144 : BitVec 32 := Scalar.remsi v143 c32_i32_135
  let v145 : BitVec 32 := Scalar.muli c2_i32_136 v144
  let c0_i32_143 : BitVec 32 := 0#32
  ![v145.toNat, 0]
def k0_dev32 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_134 : BitVec 32 := 1#32
  let v143 : BitVec 32 := Scalar.addi v2 c1_i32_134
  let c32_i32_135 : BitVec 32 := 32#32
  let v144 : BitVec 32 := Scalar.remsi v143 c32_i32_135
  let c1_i32_140 : BitVec 32 := 1#32
  let v147 : BitVec 32 := Scalar.muli v144 c1_i32_140
  let v148 : BitVec 32 := Scalar.addi c0_i32_141 v147
  v148.toNat
def k0_dev33 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_144 : BitVec 32 := 2#32
  let v155 : BitVec 32 := Scalar.addi v2 c2_i32_144
  let c32_i32_145 : BitVec 32 := 32#32
  let v156 : BitVec 32 := Scalar.remsi v155 c32_i32_145
  let c1_i32_150 : BitVec 32 := 1#32
  let v159 : BitVec 32 := Scalar.muli v156 c1_i32_150
  let v160 : BitVec 32 := Scalar.addi c0_i32_151 v159
  v160.toNat
def k0_dev34 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_154 : BitVec 32 := 3#32
  let v167 : BitVec 32 := Scalar.addi v2 c3_i32_154
  let c32_i32_155 : BitVec 32 := 32#32
  let v168 : BitVec 32 := Scalar.remsi v167 c32_i32_155
  let c1_i32_160 : BitVec 32 := 1#32
  let v171 : BitVec 32 := Scalar.muli v168 c1_i32_160
  let v172 : BitVec 32 := Scalar.addi c0_i32_161 v171
  v172.toNat
def k0_dev35 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_164 : BitVec 32 := 4#32
  let v179 : BitVec 32 := Scalar.addi v2 c4_i32_164
  let c32_i32_165 : BitVec 32 := 32#32
  let v180 : BitVec 32 := Scalar.remsi v179 c32_i32_165
  let c1_i32_170 : BitVec 32 := 1#32
  let v183 : BitVec 32 := Scalar.muli v180 c1_i32_170
  let v184 : BitVec 32 := Scalar.addi c0_i32_171 v183
  v184.toNat
def k0_dev36 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_174 : BitVec 32 := 5#32
  let v191 : BitVec 32 := Scalar.addi v2 c5_i32_174
  let c32_i32_175 : BitVec 32 := 32#32
  let v192 : BitVec 32 := Scalar.remsi v191 c32_i32_175
  let c1_i32_180 : BitVec 32 := 1#32
  let v195 : BitVec 32 := Scalar.muli v192 c1_i32_180
  let v196 : BitVec 32 := Scalar.addi c0_i32_181 v195
  v196.toNat
def k0_dev37 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_184 : BitVec 32 := 6#32
  let v203 : BitVec 32 := Scalar.addi v2 c6_i32_184
  let c32_i32_185 : BitVec 32 := 32#32
  let v204 : BitVec 32 := Scalar.remsi v203 c32_i32_185
  let c1_i32_190 : BitVec 32 := 1#32
  let v207 : BitVec 32 := Scalar.muli v204 c1_i32_190
  let v208 : BitVec 32 := Scalar.addi c0_i32_191 v207
  v208.toNat
def k0_dev38 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_194 : BitVec 32 := 7#32
  let v215 : BitVec 32 := Scalar.addi v2 c7_i32_194
  let c32_i32_195 : BitVec 32 := 32#32
  let v216 : BitVec 32 := Scalar.remsi v215 c32_i32_195
  let c1_i32_200 : BitVec 32 := 1#32
  let v219 : BitVec 32 := Scalar.muli v216 c1_i32_200
  let v220 : BitVec 32 := Scalar.addi c0_i32_201 v219
  v220.toNat
def k0_dev39 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_204 : BitVec 32 := 8#32
  let v227 : BitVec 32 := Scalar.addi v2 c8_i32_204
  let c32_i32_205 : BitVec 32 := 32#32
  let v228 : BitVec 32 := Scalar.remsi v227 c32_i32_205
  let c1_i32_210 : BitVec 32 := 1#32
  let v231 : BitVec 32 := Scalar.muli v228 c1_i32_210
  let v232 : BitVec 32 := Scalar.addi c0_i32_211 v231
  v232.toNat
def k0_dev40 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_214 : BitVec 32 := 9#32
  let v239 : BitVec 32 := Scalar.addi v2 c9_i32_214
  let c32_i32_215 : BitVec 32 := 32#32
  let v240 : BitVec 32 := Scalar.remsi v239 c32_i32_215
  let c1_i32_220 : BitVec 32 := 1#32
  let v243 : BitVec 32 := Scalar.muli v240 c1_i32_220
  let v244 : BitVec 32 := Scalar.addi c0_i32_221 v243
  v244.toNat
def k0_dev41 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_224 : BitVec 32 := 10#32
  let v251 : BitVec 32 := Scalar.addi v2 c10_i32_224
  let c32_i32_225 : BitVec 32 := 32#32
  let v252 : BitVec 32 := Scalar.remsi v251 c32_i32_225
  let c1_i32_230 : BitVec 32 := 1#32
  let v255 : BitVec 32 := Scalar.muli v252 c1_i32_230
  let v256 : BitVec 32 := Scalar.addi c0_i32_231 v255
  v256.toNat
def k0_dev42 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_234 : BitVec 32 := 11#32
  let v263 : BitVec 32 := Scalar.addi v2 c11_i32_234
  let c32_i32_235 : BitVec 32 := 32#32
  let v264 : BitVec 32 := Scalar.remsi v263 c32_i32_235
  let c1_i32_240 : BitVec 32 := 1#32
  let v267 : BitVec 32 := Scalar.muli v264 c1_i32_240
  let v268 : BitVec 32 := Scalar.addi c0_i32_241 v267
  v268.toNat
def k0_dev43 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_244 : BitVec 32 := 12#32
  let v275 : BitVec 32 := Scalar.addi v2 c12_i32_244
  let c32_i32_245 : BitVec 32 := 32#32
  let v276 : BitVec 32 := Scalar.remsi v275 c32_i32_245
  let c1_i32_250 : BitVec 32 := 1#32
  let v279 : BitVec 32 := Scalar.muli v276 c1_i32_250
  let v280 : BitVec 32 := Scalar.addi c0_i32_251 v279
  v280.toNat
def k0_dev44 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_254 : BitVec 32 := 13#32
  let v287 : BitVec 32 := Scalar.addi v2 c13_i32_254
  let c32_i32_255 : BitVec 32 := 32#32
  let v288 : BitVec 32 := Scalar.remsi v287 c32_i32_255
  let c1_i32_260 : BitVec 32 := 1#32
  let v291 : BitVec 32 := Scalar.muli v288 c1_i32_260
  let v292 : BitVec 32 := Scalar.addi c0_i32_261 v291
  v292.toNat
def k0_dev45 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_264 : BitVec 32 := 14#32
  let v299 : BitVec 32 := Scalar.addi v2 c14_i32_264
  let c32_i32_265 : BitVec 32 := 32#32
  let v300 : BitVec 32 := Scalar.remsi v299 c32_i32_265
  let c1_i32_270 : BitVec 32 := 1#32
  let v303 : BitVec 32 := Scalar.muli v300 c1_i32_270
  let v304 : BitVec 32 := Scalar.addi c0_i32_271 v303
  v304.toNat
def k0_dev46 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_274 : BitVec 32 := 15#32
  let v311 : BitVec 32 := Scalar.addi v2 c15_i32_274
  let c32_i32_275 : BitVec 32 := 32#32
  let v312 : BitVec 32 := Scalar.remsi v311 c32_i32_275
  let c1_i32_280 : BitVec 32 := 1#32
  let v315 : BitVec 32 := Scalar.muli v312 c1_i32_280
  let v316 : BitVec 32 := Scalar.addi c0_i32_281 v315
  v316.toNat
def k0_dev47 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_284 : BitVec 32 := 16#32
  let v323 : BitVec 32 := Scalar.addi v2 c16_i32_284
  let c32_i32_285 : BitVec 32 := 32#32
  let v324 : BitVec 32 := Scalar.remsi v323 c32_i32_285
  let c1_i32_290 : BitVec 32 := 1#32
  let v327 : BitVec 32 := Scalar.muli v324 c1_i32_290
  let v328 : BitVec 32 := Scalar.addi c0_i32_291 v327
  v328.toNat
def k0_dev48 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_294 : BitVec 32 := 17#32
  let v335 : BitVec 32 := Scalar.addi v2 c17_i32_294
  let c32_i32_295 : BitVec 32 := 32#32
  let v336 : BitVec 32 := Scalar.remsi v335 c32_i32_295
  let c1_i32_300 : BitVec 32 := 1#32
  let v339 : BitVec 32 := Scalar.muli v336 c1_i32_300
  let v340 : BitVec 32 := Scalar.addi c0_i32_301 v339
  v340.toNat
def k0_dev49 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_304 : BitVec 32 := 18#32
  let v347 : BitVec 32 := Scalar.addi v2 c18_i32_304
  let c32_i32_305 : BitVec 32 := 32#32
  let v348 : BitVec 32 := Scalar.remsi v347 c32_i32_305
  let c1_i32_310 : BitVec 32 := 1#32
  let v351 : BitVec 32 := Scalar.muli v348 c1_i32_310
  let v352 : BitVec 32 := Scalar.addi c0_i32_311 v351
  v352.toNat
def k0_dev50 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_314 : BitVec 32 := 19#32
  let v359 : BitVec 32 := Scalar.addi v2 c19_i32_314
  let c32_i32_315 : BitVec 32 := 32#32
  let v360 : BitVec 32 := Scalar.remsi v359 c32_i32_315
  let c1_i32_320 : BitVec 32 := 1#32
  let v363 : BitVec 32 := Scalar.muli v360 c1_i32_320
  let v364 : BitVec 32 := Scalar.addi c0_i32_321 v363
  v364.toNat
def k0_dev51 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_324 : BitVec 32 := 20#32
  let v371 : BitVec 32 := Scalar.addi v2 c20_i32_324
  let c32_i32_325 : BitVec 32 := 32#32
  let v372 : BitVec 32 := Scalar.remsi v371 c32_i32_325
  let c1_i32_330 : BitVec 32 := 1#32
  let v375 : BitVec 32 := Scalar.muli v372 c1_i32_330
  let v376 : BitVec 32 := Scalar.addi c0_i32_331 v375
  v376.toNat
def k0_dev52 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_334 : BitVec 32 := 21#32
  let v383 : BitVec 32 := Scalar.addi v2 c21_i32_334
  let c32_i32_335 : BitVec 32 := 32#32
  let v384 : BitVec 32 := Scalar.remsi v383 c32_i32_335
  let c1_i32_340 : BitVec 32 := 1#32
  let v387 : BitVec 32 := Scalar.muli v384 c1_i32_340
  let v388 : BitVec 32 := Scalar.addi c0_i32_341 v387
  v388.toNat
def k0_dev53 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_344 : BitVec 32 := 22#32
  let v395 : BitVec 32 := Scalar.addi v2 c22_i32_344
  let c32_i32_345 : BitVec 32 := 32#32
  let v396 : BitVec 32 := Scalar.remsi v395 c32_i32_345
  let c1_i32_350 : BitVec 32 := 1#32
  let v399 : BitVec 32 := Scalar.muli v396 c1_i32_350
  let v400 : BitVec 32 := Scalar.addi c0_i32_351 v399
  v400.toNat
def k0_dev54 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_354 : BitVec 32 := 23#32
  let v407 : BitVec 32 := Scalar.addi v2 c23_i32_354
  let c32_i32_355 : BitVec 32 := 32#32
  let v408 : BitVec 32 := Scalar.remsi v407 c32_i32_355
  let c1_i32_360 : BitVec 32 := 1#32
  let v411 : BitVec 32 := Scalar.muli v408 c1_i32_360
  let v412 : BitVec 32 := Scalar.addi c0_i32_361 v411
  v412.toNat
def k0_dev55 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_364 : BitVec 32 := 24#32
  let v419 : BitVec 32 := Scalar.addi v2 c24_i32_364
  let c32_i32_365 : BitVec 32 := 32#32
  let v420 : BitVec 32 := Scalar.remsi v419 c32_i32_365
  let c1_i32_370 : BitVec 32 := 1#32
  let v423 : BitVec 32 := Scalar.muli v420 c1_i32_370
  let v424 : BitVec 32 := Scalar.addi c0_i32_371 v423
  v424.toNat
def k0_dev56 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_374 : BitVec 32 := 25#32
  let v431 : BitVec 32 := Scalar.addi v2 c25_i32_374
  let c32_i32_375 : BitVec 32 := 32#32
  let v432 : BitVec 32 := Scalar.remsi v431 c32_i32_375
  let c1_i32_380 : BitVec 32 := 1#32
  let v435 : BitVec 32 := Scalar.muli v432 c1_i32_380
  let v436 : BitVec 32 := Scalar.addi c0_i32_381 v435
  v436.toNat
def k0_dev57 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_384 : BitVec 32 := 26#32
  let v443 : BitVec 32 := Scalar.addi v2 c26_i32_384
  let c32_i32_385 : BitVec 32 := 32#32
  let v444 : BitVec 32 := Scalar.remsi v443 c32_i32_385
  let c1_i32_390 : BitVec 32 := 1#32
  let v447 : BitVec 32 := Scalar.muli v444 c1_i32_390
  let v448 : BitVec 32 := Scalar.addi c0_i32_391 v447
  v448.toNat
def k0_dev58 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_394 : BitVec 32 := 27#32
  let v455 : BitVec 32 := Scalar.addi v2 c27_i32_394
  let c32_i32_395 : BitVec 32 := 32#32
  let v456 : BitVec 32 := Scalar.remsi v455 c32_i32_395
  let c1_i32_400 : BitVec 32 := 1#32
  let v459 : BitVec 32 := Scalar.muli v456 c1_i32_400
  let v460 : BitVec 32 := Scalar.addi c0_i32_401 v459
  v460.toNat
def k0_dev59 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_404 : BitVec 32 := 28#32
  let v467 : BitVec 32 := Scalar.addi v2 c28_i32_404
  let c32_i32_405 : BitVec 32 := 32#32
  let v468 : BitVec 32 := Scalar.remsi v467 c32_i32_405
  let c1_i32_410 : BitVec 32 := 1#32
  let v471 : BitVec 32 := Scalar.muli v468 c1_i32_410
  let v472 : BitVec 32 := Scalar.addi c0_i32_411 v471
  v472.toNat
def k0_dev60 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_414 : BitVec 32 := 29#32
  let v479 : BitVec 32 := Scalar.addi v2 c29_i32_414
  let c32_i32_415 : BitVec 32 := 32#32
  let v480 : BitVec 32 := Scalar.remsi v479 c32_i32_415
  let c1_i32_420 : BitVec 32 := 1#32
  let v483 : BitVec 32 := Scalar.muli v480 c1_i32_420
  let v484 : BitVec 32 := Scalar.addi c0_i32_421 v483
  v484.toNat
def k0_dev61 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_424 : BitVec 32 := 30#32
  let v491 : BitVec 32 := Scalar.addi v2 c30_i32_424
  let c32_i32_425 : BitVec 32 := 32#32
  let v492 : BitVec 32 := Scalar.remsi v491 c32_i32_425
  let c1_i32_430 : BitVec 32 := 1#32
  let v495 : BitVec 32 := Scalar.muli v492 c1_i32_430
  let v496 : BitVec 32 := Scalar.addi c0_i32_431 v495
  v496.toNat
def k0_dev62 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_434 : BitVec 32 := 31#32
  let v503 : BitVec 32 := Scalar.addi v2 c31_i32_434
  let c32_i32_435 : BitVec 32 := 32#32
  let v504 : BitVec 32 := Scalar.remsi v503 c32_i32_435
  let c1_i32_440 : BitVec 32 := 1#32
  let v507 : BitVec 32 := Scalar.muli v504 c1_i32_440
  let v508 : BitVec 32 := Scalar.addi c0_i32_441 v507
  v508.toNat
def k0_off4 (d0 : Dev nD) : Fin 2 → Nat :=
  let c2_i32_448 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v523 : BitVec 32 := Scalar.muli c2_i32_448 v2
  let c1024_i32 : BitVec 32 := 1024#32
  ![v523.toNat, 1024]
def k0_off5 (d0 : Dev nD) (c1_i32_451 : BitVec 32) : Fin 2 → Nat :=
  let c2_i32_453 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v527 : BitVec 32 := Scalar.addi v2 c1_i32_451
  let c32_i32_452 : BitVec 32 := 32#32
  let v528 : BitVec 32 := Scalar.remsi v527 c32_i32_452
  let v529 : BitVec 32 := Scalar.muli c2_i32_453 v528
  let c1024_i32_460 : BitVec 32 := 1024#32
  ![v529.toNat, 1024]
def k0_dev63 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_451 : BitVec 32 := 1#32
  let v527 : BitVec 32 := Scalar.addi v2 c1_i32_451
  let c32_i32_452 : BitVec 32 := 32#32
  let v528 : BitVec 32 := Scalar.remsi v527 c32_i32_452
  let c1_i32_457 : BitVec 32 := 1#32
  let v531 : BitVec 32 := Scalar.muli v528 c1_i32_457
  let v532 : BitVec 32 := Scalar.addi c0_i32_458 v531
  v532.toNat
def k0_dev64 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_461 : BitVec 32 := 2#32
  let v539 : BitVec 32 := Scalar.addi v2 c2_i32_461
  let c32_i32_462 : BitVec 32 := 32#32
  let v540 : BitVec 32 := Scalar.remsi v539 c32_i32_462
  let c1_i32_467 : BitVec 32 := 1#32
  let v543 : BitVec 32 := Scalar.muli v540 c1_i32_467
  let v544 : BitVec 32 := Scalar.addi c0_i32_468 v543
  v544.toNat
def k0_dev65 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_471 : BitVec 32 := 3#32
  let v551 : BitVec 32 := Scalar.addi v2 c3_i32_471
  let c32_i32_472 : BitVec 32 := 32#32
  let v552 : BitVec 32 := Scalar.remsi v551 c32_i32_472
  let c1_i32_477 : BitVec 32 := 1#32
  let v555 : BitVec 32 := Scalar.muli v552 c1_i32_477
  let v556 : BitVec 32 := Scalar.addi c0_i32_478 v555
  v556.toNat
def k0_dev66 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_481 : BitVec 32 := 4#32
  let v563 : BitVec 32 := Scalar.addi v2 c4_i32_481
  let c32_i32_482 : BitVec 32 := 32#32
  let v564 : BitVec 32 := Scalar.remsi v563 c32_i32_482
  let c1_i32_487 : BitVec 32 := 1#32
  let v567 : BitVec 32 := Scalar.muli v564 c1_i32_487
  let v568 : BitVec 32 := Scalar.addi c0_i32_488 v567
  v568.toNat
def k0_dev67 (d0 : Dev nD) : Nat :=
  let c0_i32_498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_491 : BitVec 32 := 5#32
  let v575 : BitVec 32 := Scalar.addi v2 c5_i32_491
  let c32_i32_492 : BitVec 32 := 32#32
  let v576 : BitVec 32 := Scalar.remsi v575 c32_i32_492
  let c1_i32_497 : BitVec 32 := 1#32
  let v579 : BitVec 32 := Scalar.muli v576 c1_i32_497
  let v580 : BitVec 32 := Scalar.addi c0_i32_498 v579
  v580.toNat
def k0_dev68 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_501 : BitVec 32 := 6#32
  let v587 : BitVec 32 := Scalar.addi v2 c6_i32_501
  let c32_i32_502 : BitVec 32 := 32#32
  let v588 : BitVec 32 := Scalar.remsi v587 c32_i32_502
  let c1_i32_507 : BitVec 32 := 1#32
  let v591 : BitVec 32 := Scalar.muli v588 c1_i32_507
  let v592 : BitVec 32 := Scalar.addi c0_i32_508 v591
  v592.toNat
def k0_dev69 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_511 : BitVec 32 := 7#32
  let v599 : BitVec 32 := Scalar.addi v2 c7_i32_511
  let c32_i32_512 : BitVec 32 := 32#32
  let v600 : BitVec 32 := Scalar.remsi v599 c32_i32_512
  let c1_i32_517 : BitVec 32 := 1#32
  let v603 : BitVec 32 := Scalar.muli v600 c1_i32_517
  let v604 : BitVec 32 := Scalar.addi c0_i32_518 v603
  v604.toNat
def k0_dev70 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_521 : BitVec 32 := 8#32
  let v611 : BitVec 32 := Scalar.addi v2 c8_i32_521
  let c32_i32_522 : BitVec 32 := 32#32
  let v612 : BitVec 32 := Scalar.remsi v611 c32_i32_522
  let c1_i32_527 : BitVec 32 := 1#32
  let v615 : BitVec 32 := Scalar.muli v612 c1_i32_527
  let v616 : BitVec 32 := Scalar.addi c0_i32_528 v615
  v616.toNat
def k0_dev71 (d0 : Dev nD) : Nat :=
  let c0_i32_538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_531 : BitVec 32 := 9#32
  let v623 : BitVec 32 := Scalar.addi v2 c9_i32_531
  let c32_i32_532 : BitVec 32 := 32#32
  let v624 : BitVec 32 := Scalar.remsi v623 c32_i32_532
  let c1_i32_537 : BitVec 32 := 1#32
  let v627 : BitVec 32 := Scalar.muli v624 c1_i32_537
  let v628 : BitVec 32 := Scalar.addi c0_i32_538 v627
  v628.toNat
def k0_dev72 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_541 : BitVec 32 := 10#32
  let v635 : BitVec 32 := Scalar.addi v2 c10_i32_541
  let c32_i32_542 : BitVec 32 := 32#32
  let v636 : BitVec 32 := Scalar.remsi v635 c32_i32_542
  let c1_i32_547 : BitVec 32 := 1#32
  let v639 : BitVec 32 := Scalar.muli v636 c1_i32_547
  let v640 : BitVec 32 := Scalar.addi c0_i32_548 v639
  v640.toNat
def k0_dev73 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_551 : BitVec 32 := 11#32
  let v647 : BitVec 32 := Scalar.addi v2 c11_i32_551
  let c32_i32_552 : BitVec 32 := 32#32
  let v648 : BitVec 32 := Scalar.remsi v647 c32_i32_552
  let c1_i32_557 : BitVec 32 := 1#32
  let v651 : BitVec 32 := Scalar.muli v648 c1_i32_557
  let v652 : BitVec 32 := Scalar.addi c0_i32_558 v651
  v652.toNat
def k0_dev74 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_561 : BitVec 32 := 12#32
  let v659 : BitVec 32 := Scalar.addi v2 c12_i32_561
  let c32_i32_562 : BitVec 32 := 32#32
  let v660 : BitVec 32 := Scalar.remsi v659 c32_i32_562
  let c1_i32_567 : BitVec 32 := 1#32
  let v663 : BitVec 32 := Scalar.muli v660 c1_i32_567
  let v664 : BitVec 32 := Scalar.addi c0_i32_568 v663
  v664.toNat
def k0_dev75 (d0 : Dev nD) : Nat :=
  let c0_i32_578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_571 : BitVec 32 := 13#32
  let v671 : BitVec 32 := Scalar.addi v2 c13_i32_571
  let c32_i32_572 : BitVec 32 := 32#32
  let v672 : BitVec 32 := Scalar.remsi v671 c32_i32_572
  let c1_i32_577 : BitVec 32 := 1#32
  let v675 : BitVec 32 := Scalar.muli v672 c1_i32_577
  let v676 : BitVec 32 := Scalar.addi c0_i32_578 v675
  v676.toNat
def k0_dev76 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_581 : BitVec 32 := 14#32
  let v683 : BitVec 32 := Scalar.addi v2 c14_i32_581
  let c32_i32_582 : BitVec 32 := 32#32
  let v684 : BitVec 32 := Scalar.remsi v683 c32_i32_582
  let c1_i32_587 : BitVec 32 := 1#32
  let v687 : BitVec 32 := Scalar.muli v684 c1_i32_587
  let v688 : BitVec 32 := Scalar.addi c0_i32_588 v687
  v688.toNat
def k0_dev77 (d0 : Dev nD) : Nat :=
  let c0_i32_598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_591 : BitVec 32 := 15#32
  let v695 : BitVec 32 := Scalar.addi v2 c15_i32_591
  let c32_i32_592 : BitVec 32 := 32#32
  let v696 : BitVec 32 := Scalar.remsi v695 c32_i32_592
  let c1_i32_597 : BitVec 32 := 1#32
  let v699 : BitVec 32 := Scalar.muli v696 c1_i32_597
  let v700 : BitVec 32 := Scalar.addi c0_i32_598 v699
  v700.toNat
def k0_dev78 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_601 : BitVec 32 := 16#32
  let v707 : BitVec 32 := Scalar.addi v2 c16_i32_601
  let c32_i32_602 : BitVec 32 := 32#32
  let v708 : BitVec 32 := Scalar.remsi v707 c32_i32_602
  let c1_i32_607 : BitVec 32 := 1#32
  let v711 : BitVec 32 := Scalar.muli v708 c1_i32_607
  let v712 : BitVec 32 := Scalar.addi c0_i32_608 v711
  v712.toNat
def k0_dev79 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_611 : BitVec 32 := 17#32
  let v719 : BitVec 32 := Scalar.addi v2 c17_i32_611
  let c32_i32_612 : BitVec 32 := 32#32
  let v720 : BitVec 32 := Scalar.remsi v719 c32_i32_612
  let c1_i32_617 : BitVec 32 := 1#32
  let v723 : BitVec 32 := Scalar.muli v720 c1_i32_617
  let v724 : BitVec 32 := Scalar.addi c0_i32_618 v723
  v724.toNat
def k0_dev80 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_621 : BitVec 32 := 18#32
  let v731 : BitVec 32 := Scalar.addi v2 c18_i32_621
  let c32_i32_622 : BitVec 32 := 32#32
  let v732 : BitVec 32 := Scalar.remsi v731 c32_i32_622
  let c1_i32_627 : BitVec 32 := 1#32
  let v735 : BitVec 32 := Scalar.muli v732 c1_i32_627
  let v736 : BitVec 32 := Scalar.addi c0_i32_628 v735
  v736.toNat
def k0_dev81 (d0 : Dev nD) : Nat :=
  let c0_i32_638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_631 : BitVec 32 := 19#32
  let v743 : BitVec 32 := Scalar.addi v2 c19_i32_631
  let c32_i32_632 : BitVec 32 := 32#32
  let v744 : BitVec 32 := Scalar.remsi v743 c32_i32_632
  let c1_i32_637 : BitVec 32 := 1#32
  let v747 : BitVec 32 := Scalar.muli v744 c1_i32_637
  let v748 : BitVec 32 := Scalar.addi c0_i32_638 v747
  v748.toNat
def k0_dev82 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_641 : BitVec 32 := 20#32
  let v755 : BitVec 32 := Scalar.addi v2 c20_i32_641
  let c32_i32_642 : BitVec 32 := 32#32
  let v756 : BitVec 32 := Scalar.remsi v755 c32_i32_642
  let c1_i32_647 : BitVec 32 := 1#32
  let v759 : BitVec 32 := Scalar.muli v756 c1_i32_647
  let v760 : BitVec 32 := Scalar.addi c0_i32_648 v759
  v760.toNat
def k0_dev83 (d0 : Dev nD) : Nat :=
  let c0_i32_658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_651 : BitVec 32 := 21#32
  let v767 : BitVec 32 := Scalar.addi v2 c21_i32_651
  let c32_i32_652 : BitVec 32 := 32#32
  let v768 : BitVec 32 := Scalar.remsi v767 c32_i32_652
  let c1_i32_657 : BitVec 32 := 1#32
  let v771 : BitVec 32 := Scalar.muli v768 c1_i32_657
  let v772 : BitVec 32 := Scalar.addi c0_i32_658 v771
  v772.toNat
def k0_dev84 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_661 : BitVec 32 := 22#32
  let v779 : BitVec 32 := Scalar.addi v2 c22_i32_661
  let c32_i32_662 : BitVec 32 := 32#32
  let v780 : BitVec 32 := Scalar.remsi v779 c32_i32_662
  let c1_i32_667 : BitVec 32 := 1#32
  let v783 : BitVec 32 := Scalar.muli v780 c1_i32_667
  let v784 : BitVec 32 := Scalar.addi c0_i32_668 v783
  v784.toNat
def k0_dev85 (d0 : Dev nD) : Nat :=
  let c0_i32_678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_671 : BitVec 32 := 23#32
  let v791 : BitVec 32 := Scalar.addi v2 c23_i32_671
  let c32_i32_672 : BitVec 32 := 32#32
  let v792 : BitVec 32 := Scalar.remsi v791 c32_i32_672
  let c1_i32_677 : BitVec 32 := 1#32
  let v795 : BitVec 32 := Scalar.muli v792 c1_i32_677
  let v796 : BitVec 32 := Scalar.addi c0_i32_678 v795
  v796.toNat
def k0_dev86 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_681 : BitVec 32 := 24#32
  let v803 : BitVec 32 := Scalar.addi v2 c24_i32_681
  let c32_i32_682 : BitVec 32 := 32#32
  let v804 : BitVec 32 := Scalar.remsi v803 c32_i32_682
  let c1_i32_687 : BitVec 32 := 1#32
  let v807 : BitVec 32 := Scalar.muli v804 c1_i32_687
  let v808 : BitVec 32 := Scalar.addi c0_i32_688 v807
  v808.toNat
def k0_dev87 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_691 : BitVec 32 := 25#32
  let v815 : BitVec 32 := Scalar.addi v2 c25_i32_691
  let c32_i32_692 : BitVec 32 := 32#32
  let v816 : BitVec 32 := Scalar.remsi v815 c32_i32_692
  let c1_i32_697 : BitVec 32 := 1#32
  let v819 : BitVec 32 := Scalar.muli v816 c1_i32_697
  let v820 : BitVec 32 := Scalar.addi c0_i32_698 v819
  v820.toNat
def k0_dev88 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_701 : BitVec 32 := 26#32
  let v827 : BitVec 32 := Scalar.addi v2 c26_i32_701
  let c32_i32_702 : BitVec 32 := 32#32
  let v828 : BitVec 32 := Scalar.remsi v827 c32_i32_702
  let c1_i32_707 : BitVec 32 := 1#32
  let v831 : BitVec 32 := Scalar.muli v828 c1_i32_707
  let v832 : BitVec 32 := Scalar.addi c0_i32_708 v831
  v832.toNat
def k0_dev89 (d0 : Dev nD) : Nat :=
  let c0_i32_718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_711 : BitVec 32 := 27#32
  let v839 : BitVec 32 := Scalar.addi v2 c27_i32_711
  let c32_i32_712 : BitVec 32 := 32#32
  let v840 : BitVec 32 := Scalar.remsi v839 c32_i32_712
  let c1_i32_717 : BitVec 32 := 1#32
  let v843 : BitVec 32 := Scalar.muli v840 c1_i32_717
  let v844 : BitVec 32 := Scalar.addi c0_i32_718 v843
  v844.toNat
def k0_dev90 (d0 : Dev nD) : Nat :=
  let c0_i32_728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_721 : BitVec 32 := 28#32
  let v851 : BitVec 32 := Scalar.addi v2 c28_i32_721
  let c32_i32_722 : BitVec 32 := 32#32
  let v852 : BitVec 32 := Scalar.remsi v851 c32_i32_722
  let c1_i32_727 : BitVec 32 := 1#32
  let v855 : BitVec 32 := Scalar.muli v852 c1_i32_727
  let v856 : BitVec 32 := Scalar.addi c0_i32_728 v855
  v856.toNat
def k0_dev91 (d0 : Dev nD) : Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_731 : BitVec 32 := 29#32
  let v863 : BitVec 32 := Scalar.addi v2 c29_i32_731
  let c32_i32_732 : BitVec 32 := 32#32
  let v864 : BitVec 32 := Scalar.remsi v863 c32_i32_732
  let c1_i32_737 : BitVec 32 := 1#32
  let v867 : BitVec 32 := Scalar.muli v864 c1_i32_737
  let v868 : BitVec 32 := Scalar.addi c0_i32_738 v867
  v868.toNat
def k0_dev92 (d0 : Dev nD) : Nat :=
  let c0_i32_748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_741 : BitVec 32 := 30#32
  let v875 : BitVec 32 := Scalar.addi v2 c30_i32_741
  let c32_i32_742 : BitVec 32 := 32#32
  let v876 : BitVec 32 := Scalar.remsi v875 c32_i32_742
  let c1_i32_747 : BitVec 32 := 1#32
  let v879 : BitVec 32 := Scalar.muli v876 c1_i32_747
  let v880 : BitVec 32 := Scalar.addi c0_i32_748 v879
  v880.toNat
def k0_dev93 (d0 : Dev nD) : Nat :=
  let c0_i32_758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_751 : BitVec 32 := 31#32
  let v887 : BitVec 32 := Scalar.addi v2 c31_i32_751
  let c32_i32_752 : BitVec 32 := 32#32
  let v888 : BitVec 32 := Scalar.remsi v887 c32_i32_752
  let c1_i32_757 : BitVec 32 := 1#32
  let v891 : BitVec 32 := Scalar.muli v888 c1_i32_757
  let v892 : BitVec 32 := Scalar.addi c0_i32_758 v891
  v892.toNat
def k0_off6 (d0 : Dev nD) (c1_i32_761 : BitVec 32) : Fin 2 → Nat :=
  let c2_i32_765 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v899 : BitVec 32 := Scalar.subi v2 c1_i32_761
  let c32_i32_762 : BitVec 32 := 32#32
  let v900 : BitVec 32 := Scalar.addi v899 c32_i32_762
  let c32_i32_763 : BitVec 32 := 32#32
  let v901 : BitVec 32 := Scalar.remsi v900 c32_i32_763
  let v903 : BitVec 32 := Scalar.muli c2_i32_765 v901
  let c0_i32_770 : BitVec 32 := 0#32
  ![v903.toNat, 0]
def k0_off7 (d0 : Dev nD) (c1_i32_761 : BitVec 32) : Fin 2 → Nat :=
  let c2_i32_764 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v899 : BitVec 32 := Scalar.subi v2 c1_i32_761
  let c32_i32_762 : BitVec 32 := 32#32
  let v900 : BitVec 32 := Scalar.addi v899 c32_i32_762
  let c32_i32_763 : BitVec 32 := 32#32
  let v901 : BitVec 32 := Scalar.remsi v900 c32_i32_763
  let v902 : BitVec 32 := Scalar.muli c2_i32_764 v901
  let c0_i32_771 : BitVec 32 := 0#32
  ![v902.toNat, 0]
def k0_dev94 (d0 : Dev nD) : Nat :=
  let c0_i32_1272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1267 : BitVec 32 := 1#32
  let v1440 : BitVec 32 := Scalar.addi v2 c1_i32_1267
  let c32_i32_1268 : BitVec 32 := 32#32
  let v1441 : BitVec 32 := Scalar.remsi v1440 c32_i32_1268
  let c1_i32_1271 : BitVec 32 := 1#32
  let v1442 : BitVec 32 := Scalar.muli v1441 c1_i32_1271
  let v1443 : BitVec 32 := Scalar.addi c0_i32_1272 v1442
  v1443.toNat
def k0_dev95 (d0 : Dev nD) : Nat :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1275 : BitVec 32 := 2#32
  let v1450 : BitVec 32 := Scalar.addi v2 c2_i32_1275
  let c32_i32_1276 : BitVec 32 := 32#32
  let v1451 : BitVec 32 := Scalar.remsi v1450 c32_i32_1276
  let c1_i32_1279 : BitVec 32 := 1#32
  let v1452 : BitVec 32 := Scalar.muli v1451 c1_i32_1279
  let v1453 : BitVec 32 := Scalar.addi c0_i32_1280 v1452
  v1453.toNat
def k0_dev96 (d0 : Dev nD) : Nat :=
  let c0_i32_1288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1283 : BitVec 32 := 3#32
  let v1460 : BitVec 32 := Scalar.addi v2 c3_i32_1283
  let c32_i32_1284 : BitVec 32 := 32#32
  let v1461 : BitVec 32 := Scalar.remsi v1460 c32_i32_1284
  let c1_i32_1287 : BitVec 32 := 1#32
  let v1462 : BitVec 32 := Scalar.muli v1461 c1_i32_1287
  let v1463 : BitVec 32 := Scalar.addi c0_i32_1288 v1462
  v1463.toNat
def k0_dev97 (d0 : Dev nD) : Nat :=
  let c0_i32_1296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1291 : BitVec 32 := 4#32
  let v1470 : BitVec 32 := Scalar.addi v2 c4_i32_1291
  let c32_i32_1292 : BitVec 32 := 32#32
  let v1471 : BitVec 32 := Scalar.remsi v1470 c32_i32_1292
  let c1_i32_1295 : BitVec 32 := 1#32
  let v1472 : BitVec 32 := Scalar.muli v1471 c1_i32_1295
  let v1473 : BitVec 32 := Scalar.addi c0_i32_1296 v1472
  v1473.toNat
def k0_dev98 (d0 : Dev nD) : Nat :=
  let c0_i32_1304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1299 : BitVec 32 := 5#32
  let v1480 : BitVec 32 := Scalar.addi v2 c5_i32_1299
  let c32_i32_1300 : BitVec 32 := 32#32
  let v1481 : BitVec 32 := Scalar.remsi v1480 c32_i32_1300
  let c1_i32_1303 : BitVec 32 := 1#32
  let v1482 : BitVec 32 := Scalar.muli v1481 c1_i32_1303
  let v1483 : BitVec 32 := Scalar.addi c0_i32_1304 v1482
  v1483.toNat
def k0_dev99 (d0 : Dev nD) : Nat :=
  let c0_i32_1312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1307 : BitVec 32 := 6#32
  let v1490 : BitVec 32 := Scalar.addi v2 c6_i32_1307
  let c32_i32_1308 : BitVec 32 := 32#32
  let v1491 : BitVec 32 := Scalar.remsi v1490 c32_i32_1308
  let c1_i32_1311 : BitVec 32 := 1#32
  let v1492 : BitVec 32 := Scalar.muli v1491 c1_i32_1311
  let v1493 : BitVec 32 := Scalar.addi c0_i32_1312 v1492
  v1493.toNat
def k0_dev100 (d0 : Dev nD) : Nat :=
  let c0_i32_1320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1315 : BitVec 32 := 7#32
  let v1500 : BitVec 32 := Scalar.addi v2 c7_i32_1315
  let c32_i32_1316 : BitVec 32 := 32#32
  let v1501 : BitVec 32 := Scalar.remsi v1500 c32_i32_1316
  let c1_i32_1319 : BitVec 32 := 1#32
  let v1502 : BitVec 32 := Scalar.muli v1501 c1_i32_1319
  let v1503 : BitVec 32 := Scalar.addi c0_i32_1320 v1502
  v1503.toNat
def k0_dev101 (d0 : Dev nD) : Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1323 : BitVec 32 := 8#32
  let v1510 : BitVec 32 := Scalar.addi v2 c8_i32_1323
  let c32_i32_1324 : BitVec 32 := 32#32
  let v1511 : BitVec 32 := Scalar.remsi v1510 c32_i32_1324
  let c1_i32_1327 : BitVec 32 := 1#32
  let v1512 : BitVec 32 := Scalar.muli v1511 c1_i32_1327
  let v1513 : BitVec 32 := Scalar.addi c0_i32_1328 v1512
  v1513.toNat
def k0_dev102 (d0 : Dev nD) : Nat :=
  let c0_i32_1336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1331 : BitVec 32 := 9#32
  let v1520 : BitVec 32 := Scalar.addi v2 c9_i32_1331
  let c32_i32_1332 : BitVec 32 := 32#32
  let v1521 : BitVec 32 := Scalar.remsi v1520 c32_i32_1332
  let c1_i32_1335 : BitVec 32 := 1#32
  let v1522 : BitVec 32 := Scalar.muli v1521 c1_i32_1335
  let v1523 : BitVec 32 := Scalar.addi c0_i32_1336 v1522
  v1523.toNat
def k0_dev103 (d0 : Dev nD) : Nat :=
  let c0_i32_1344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1339 : BitVec 32 := 10#32
  let v1530 : BitVec 32 := Scalar.addi v2 c10_i32_1339
  let c32_i32_1340 : BitVec 32 := 32#32
  let v1531 : BitVec 32 := Scalar.remsi v1530 c32_i32_1340
  let c1_i32_1343 : BitVec 32 := 1#32
  let v1532 : BitVec 32 := Scalar.muli v1531 c1_i32_1343
  let v1533 : BitVec 32 := Scalar.addi c0_i32_1344 v1532
  v1533.toNat
def k0_dev104 (d0 : Dev nD) : Nat :=
  let c0_i32_1352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1347 : BitVec 32 := 11#32
  let v1540 : BitVec 32 := Scalar.addi v2 c11_i32_1347
  let c32_i32_1348 : BitVec 32 := 32#32
  let v1541 : BitVec 32 := Scalar.remsi v1540 c32_i32_1348
  let c1_i32_1351 : BitVec 32 := 1#32
  let v1542 : BitVec 32 := Scalar.muli v1541 c1_i32_1351
  let v1543 : BitVec 32 := Scalar.addi c0_i32_1352 v1542
  v1543.toNat
def k0_dev105 (d0 : Dev nD) : Nat :=
  let c0_i32_1360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1355 : BitVec 32 := 12#32
  let v1550 : BitVec 32 := Scalar.addi v2 c12_i32_1355
  let c32_i32_1356 : BitVec 32 := 32#32
  let v1551 : BitVec 32 := Scalar.remsi v1550 c32_i32_1356
  let c1_i32_1359 : BitVec 32 := 1#32
  let v1552 : BitVec 32 := Scalar.muli v1551 c1_i32_1359
  let v1553 : BitVec 32 := Scalar.addi c0_i32_1360 v1552
  v1553.toNat
def k0_dev106 (d0 : Dev nD) : Nat :=
  let c0_i32_1368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1363 : BitVec 32 := 13#32
  let v1560 : BitVec 32 := Scalar.addi v2 c13_i32_1363
  let c32_i32_1364 : BitVec 32 := 32#32
  let v1561 : BitVec 32 := Scalar.remsi v1560 c32_i32_1364
  let c1_i32_1367 : BitVec 32 := 1#32
  let v1562 : BitVec 32 := Scalar.muli v1561 c1_i32_1367
  let v1563 : BitVec 32 := Scalar.addi c0_i32_1368 v1562
  v1563.toNat
def k0_dev107 (d0 : Dev nD) : Nat :=
  let c0_i32_1376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1371 : BitVec 32 := 14#32
  let v1570 : BitVec 32 := Scalar.addi v2 c14_i32_1371
  let c32_i32_1372 : BitVec 32 := 32#32
  let v1571 : BitVec 32 := Scalar.remsi v1570 c32_i32_1372
  let c1_i32_1375 : BitVec 32 := 1#32
  let v1572 : BitVec 32 := Scalar.muli v1571 c1_i32_1375
  let v1573 : BitVec 32 := Scalar.addi c0_i32_1376 v1572
  v1573.toNat
def k0_dev108 (d0 : Dev nD) : Nat :=
  let c0_i32_1384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1379 : BitVec 32 := 15#32
  let v1580 : BitVec 32 := Scalar.addi v2 c15_i32_1379
  let c32_i32_1380 : BitVec 32 := 32#32
  let v1581 : BitVec 32 := Scalar.remsi v1580 c32_i32_1380
  let c1_i32_1383 : BitVec 32 := 1#32
  let v1582 : BitVec 32 := Scalar.muli v1581 c1_i32_1383
  let v1583 : BitVec 32 := Scalar.addi c0_i32_1384 v1582
  v1583.toNat
def k0_dev109 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1387 : BitVec 32 := 16#32
  let v1590 : BitVec 32 := Scalar.addi v2 c16_i32_1387
  let c32_i32_1388 : BitVec 32 := 32#32
  let v1591 : BitVec 32 := Scalar.remsi v1590 c32_i32_1388
  let c1_i32_1391 : BitVec 32 := 1#32
  let v1592 : BitVec 32 := Scalar.muli v1591 c1_i32_1391
  let v1593 : BitVec 32 := Scalar.addi c0_i32_1392 v1592
  v1593.toNat
def k0_dev110 (d0 : Dev nD) : Nat :=
  let c0_i32_1400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1395 : BitVec 32 := 17#32
  let v1600 : BitVec 32 := Scalar.addi v2 c17_i32_1395
  let c32_i32_1396 : BitVec 32 := 32#32
  let v1601 : BitVec 32 := Scalar.remsi v1600 c32_i32_1396
  let c1_i32_1399 : BitVec 32 := 1#32
  let v1602 : BitVec 32 := Scalar.muli v1601 c1_i32_1399
  let v1603 : BitVec 32 := Scalar.addi c0_i32_1400 v1602
  v1603.toNat
def k0_dev111 (d0 : Dev nD) : Nat :=
  let c0_i32_1408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1403 : BitVec 32 := 18#32
  let v1610 : BitVec 32 := Scalar.addi v2 c18_i32_1403
  let c32_i32_1404 : BitVec 32 := 32#32
  let v1611 : BitVec 32 := Scalar.remsi v1610 c32_i32_1404
  let c1_i32_1407 : BitVec 32 := 1#32
  let v1612 : BitVec 32 := Scalar.muli v1611 c1_i32_1407
  let v1613 : BitVec 32 := Scalar.addi c0_i32_1408 v1612
  v1613.toNat
def k0_dev112 (d0 : Dev nD) : Nat :=
  let c0_i32_1416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1411 : BitVec 32 := 19#32
  let v1620 : BitVec 32 := Scalar.addi v2 c19_i32_1411
  let c32_i32_1412 : BitVec 32 := 32#32
  let v1621 : BitVec 32 := Scalar.remsi v1620 c32_i32_1412
  let c1_i32_1415 : BitVec 32 := 1#32
  let v1622 : BitVec 32 := Scalar.muli v1621 c1_i32_1415
  let v1623 : BitVec 32 := Scalar.addi c0_i32_1416 v1622
  v1623.toNat
def k0_dev113 (d0 : Dev nD) : Nat :=
  let c0_i32_1424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1419 : BitVec 32 := 20#32
  let v1630 : BitVec 32 := Scalar.addi v2 c20_i32_1419
  let c32_i32_1420 : BitVec 32 := 32#32
  let v1631 : BitVec 32 := Scalar.remsi v1630 c32_i32_1420
  let c1_i32_1423 : BitVec 32 := 1#32
  let v1632 : BitVec 32 := Scalar.muli v1631 c1_i32_1423
  let v1633 : BitVec 32 := Scalar.addi c0_i32_1424 v1632
  v1633.toNat
def k0_dev114 (d0 : Dev nD) : Nat :=
  let c0_i32_1432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1427 : BitVec 32 := 21#32
  let v1640 : BitVec 32 := Scalar.addi v2 c21_i32_1427
  let c32_i32_1428 : BitVec 32 := 32#32
  let v1641 : BitVec 32 := Scalar.remsi v1640 c32_i32_1428
  let c1_i32_1431 : BitVec 32 := 1#32
  let v1642 : BitVec 32 := Scalar.muli v1641 c1_i32_1431
  let v1643 : BitVec 32 := Scalar.addi c0_i32_1432 v1642
  v1643.toNat
def k0_dev115 (d0 : Dev nD) : Nat :=
  let c0_i32_1440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1435 : BitVec 32 := 22#32
  let v1650 : BitVec 32 := Scalar.addi v2 c22_i32_1435
  let c32_i32_1436 : BitVec 32 := 32#32
  let v1651 : BitVec 32 := Scalar.remsi v1650 c32_i32_1436
  let c1_i32_1439 : BitVec 32 := 1#32
  let v1652 : BitVec 32 := Scalar.muli v1651 c1_i32_1439
  let v1653 : BitVec 32 := Scalar.addi c0_i32_1440 v1652
  v1653.toNat
def k0_dev116 (d0 : Dev nD) : Nat :=
  let c0_i32_1448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1443 : BitVec 32 := 23#32
  let v1660 : BitVec 32 := Scalar.addi v2 c23_i32_1443
  let c32_i32_1444 : BitVec 32 := 32#32
  let v1661 : BitVec 32 := Scalar.remsi v1660 c32_i32_1444
  let c1_i32_1447 : BitVec 32 := 1#32
  let v1662 : BitVec 32 := Scalar.muli v1661 c1_i32_1447
  let v1663 : BitVec 32 := Scalar.addi c0_i32_1448 v1662
  v1663.toNat
def k0_dev117 (d0 : Dev nD) : Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1451 : BitVec 32 := 24#32
  let v1670 : BitVec 32 := Scalar.addi v2 c24_i32_1451
  let c32_i32_1452 : BitVec 32 := 32#32
  let v1671 : BitVec 32 := Scalar.remsi v1670 c32_i32_1452
  let c1_i32_1455 : BitVec 32 := 1#32
  let v1672 : BitVec 32 := Scalar.muli v1671 c1_i32_1455
  let v1673 : BitVec 32 := Scalar.addi c0_i32_1456 v1672
  v1673.toNat
def k0_dev118 (d0 : Dev nD) : Nat :=
  let c0_i32_1464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1459 : BitVec 32 := 25#32
  let v1680 : BitVec 32 := Scalar.addi v2 c25_i32_1459
  let c32_i32_1460 : BitVec 32 := 32#32
  let v1681 : BitVec 32 := Scalar.remsi v1680 c32_i32_1460
  let c1_i32_1463 : BitVec 32 := 1#32
  let v1682 : BitVec 32 := Scalar.muli v1681 c1_i32_1463
  let v1683 : BitVec 32 := Scalar.addi c0_i32_1464 v1682
  v1683.toNat
def k0_dev119 (d0 : Dev nD) : Nat :=
  let c0_i32_1472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1467 : BitVec 32 := 26#32
  let v1690 : BitVec 32 := Scalar.addi v2 c26_i32_1467
  let c32_i32_1468 : BitVec 32 := 32#32
  let v1691 : BitVec 32 := Scalar.remsi v1690 c32_i32_1468
  let c1_i32_1471 : BitVec 32 := 1#32
  let v1692 : BitVec 32 := Scalar.muli v1691 c1_i32_1471
  let v1693 : BitVec 32 := Scalar.addi c0_i32_1472 v1692
  v1693.toNat
def k0_dev120 (d0 : Dev nD) : Nat :=
  let c0_i32_1480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1475 : BitVec 32 := 27#32
  let v1700 : BitVec 32 := Scalar.addi v2 c27_i32_1475
  let c32_i32_1476 : BitVec 32 := 32#32
  let v1701 : BitVec 32 := Scalar.remsi v1700 c32_i32_1476
  let c1_i32_1479 : BitVec 32 := 1#32
  let v1702 : BitVec 32 := Scalar.muli v1701 c1_i32_1479
  let v1703 : BitVec 32 := Scalar.addi c0_i32_1480 v1702
  v1703.toNat
def k0_dev121 (d0 : Dev nD) : Nat :=
  let c0_i32_1488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1483 : BitVec 32 := 28#32
  let v1710 : BitVec 32 := Scalar.addi v2 c28_i32_1483
  let c32_i32_1484 : BitVec 32 := 32#32
  let v1711 : BitVec 32 := Scalar.remsi v1710 c32_i32_1484
  let c1_i32_1487 : BitVec 32 := 1#32
  let v1712 : BitVec 32 := Scalar.muli v1711 c1_i32_1487
  let v1713 : BitVec 32 := Scalar.addi c0_i32_1488 v1712
  v1713.toNat
def k0_dev122 (d0 : Dev nD) : Nat :=
  let c0_i32_1496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1491 : BitVec 32 := 29#32
  let v1720 : BitVec 32 := Scalar.addi v2 c29_i32_1491
  let c32_i32_1492 : BitVec 32 := 32#32
  let v1721 : BitVec 32 := Scalar.remsi v1720 c32_i32_1492
  let c1_i32_1495 : BitVec 32 := 1#32
  let v1722 : BitVec 32 := Scalar.muli v1721 c1_i32_1495
  let v1723 : BitVec 32 := Scalar.addi c0_i32_1496 v1722
  v1723.toNat
def k0_dev123 (d0 : Dev nD) : Nat :=
  let c0_i32_1504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1499 : BitVec 32 := 30#32
  let v1730 : BitVec 32 := Scalar.addi v2 c30_i32_1499
  let c32_i32_1500 : BitVec 32 := 32#32
  let v1731 : BitVec 32 := Scalar.remsi v1730 c32_i32_1500
  let c1_i32_1503 : BitVec 32 := 1#32
  let v1732 : BitVec 32 := Scalar.muli v1731 c1_i32_1503
  let v1733 : BitVec 32 := Scalar.addi c0_i32_1504 v1732
  v1733.toNat
def k0_dev124 (d0 : Dev nD) : Nat :=
  let c0_i32_1512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1507 : BitVec 32 := 31#32
  let v1740 : BitVec 32 := Scalar.addi v2 c31_i32_1507
  let c32_i32_1508 : BitVec 32 := 32#32
  let v1741 : BitVec 32 := Scalar.remsi v1740 c32_i32_1508
  let c1_i32_1511 : BitVec 32 := 1#32
  let v1742 : BitVec 32 := Scalar.muli v1741 c1_i32_1511
  let v1743 : BitVec 32 := Scalar.addi c0_i32_1512 v1742
  v1743.toNat
def k0_off8 (d0 : Dev nD) (c1_i32_1514 : BitVec 32) : Fin 2 → Nat :=
  let c2_i32_1517 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1749 : BitVec 32 := Scalar.subi v2 c1_i32_1514
  let c32_i32_1515 : BitVec 32 := 32#32
  let v1750 : BitVec 32 := Scalar.addi v1749 c32_i32_1515
  let c32_i32_1516 : BitVec 32 := 32#32
  let v1751 : BitVec 32 := Scalar.remsi v1750 c32_i32_1516
  let v1752 : BitVec 32 := Scalar.muli c2_i32_1517 v1751
  let c1024_i32_1524 : BitVec 32 := 1024#32
  ![v1752.toNat, 1024]
def k0_dev125 (d0 : Dev nD) : Nat :=
  let c0_i32_2025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2020 : BitVec 32 := 1#32
  let v2290 : BitVec 32 := Scalar.addi v2 c1_i32_2020
  let c32_i32_2021 : BitVec 32 := 32#32
  let v2291 : BitVec 32 := Scalar.remsi v2290 c32_i32_2021
  let c1_i32_2024 : BitVec 32 := 1#32
  let v2292 : BitVec 32 := Scalar.muli v2291 c1_i32_2024
  let v2293 : BitVec 32 := Scalar.addi c0_i32_2025 v2292
  v2293.toNat
def k0_dev126 (d0 : Dev nD) : Nat :=
  let c0_i32_2033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2028 : BitVec 32 := 2#32
  let v2300 : BitVec 32 := Scalar.addi v2 c2_i32_2028
  let c32_i32_2029 : BitVec 32 := 32#32
  let v2301 : BitVec 32 := Scalar.remsi v2300 c32_i32_2029
  let c1_i32_2032 : BitVec 32 := 1#32
  let v2302 : BitVec 32 := Scalar.muli v2301 c1_i32_2032
  let v2303 : BitVec 32 := Scalar.addi c0_i32_2033 v2302
  v2303.toNat
def k0_dev127 (d0 : Dev nD) : Nat :=
  let c0_i32_2041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2036 : BitVec 32 := 3#32
  let v2310 : BitVec 32 := Scalar.addi v2 c3_i32_2036
  let c32_i32_2037 : BitVec 32 := 32#32
  let v2311 : BitVec 32 := Scalar.remsi v2310 c32_i32_2037
  let c1_i32_2040 : BitVec 32 := 1#32
  let v2312 : BitVec 32 := Scalar.muli v2311 c1_i32_2040
  let v2313 : BitVec 32 := Scalar.addi c0_i32_2041 v2312
  v2313.toNat
def k0_dev128 (d0 : Dev nD) : Nat :=
  let c0_i32_2049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2044 : BitVec 32 := 4#32
  let v2320 : BitVec 32 := Scalar.addi v2 c4_i32_2044
  let c32_i32_2045 : BitVec 32 := 32#32
  let v2321 : BitVec 32 := Scalar.remsi v2320 c32_i32_2045
  let c1_i32_2048 : BitVec 32 := 1#32
  let v2322 : BitVec 32 := Scalar.muli v2321 c1_i32_2048
  let v2323 : BitVec 32 := Scalar.addi c0_i32_2049 v2322
  v2323.toNat
def k0_dev129 (d0 : Dev nD) : Nat :=
  let c0_i32_2057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2052 : BitVec 32 := 5#32
  let v2330 : BitVec 32 := Scalar.addi v2 c5_i32_2052
  let c32_i32_2053 : BitVec 32 := 32#32
  let v2331 : BitVec 32 := Scalar.remsi v2330 c32_i32_2053
  let c1_i32_2056 : BitVec 32 := 1#32
  let v2332 : BitVec 32 := Scalar.muli v2331 c1_i32_2056
  let v2333 : BitVec 32 := Scalar.addi c0_i32_2057 v2332
  v2333.toNat
def k0_dev130 (d0 : Dev nD) : Nat :=
  let c0_i32_2065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2060 : BitVec 32 := 6#32
  let v2340 : BitVec 32 := Scalar.addi v2 c6_i32_2060
  let c32_i32_2061 : BitVec 32 := 32#32
  let v2341 : BitVec 32 := Scalar.remsi v2340 c32_i32_2061
  let c1_i32_2064 : BitVec 32 := 1#32
  let v2342 : BitVec 32 := Scalar.muli v2341 c1_i32_2064
  let v2343 : BitVec 32 := Scalar.addi c0_i32_2065 v2342
  v2343.toNat
def k0_dev131 (d0 : Dev nD) : Nat :=
  let c0_i32_2073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2068 : BitVec 32 := 7#32
  let v2350 : BitVec 32 := Scalar.addi v2 c7_i32_2068
  let c32_i32_2069 : BitVec 32 := 32#32
  let v2351 : BitVec 32 := Scalar.remsi v2350 c32_i32_2069
  let c1_i32_2072 : BitVec 32 := 1#32
  let v2352 : BitVec 32 := Scalar.muli v2351 c1_i32_2072
  let v2353 : BitVec 32 := Scalar.addi c0_i32_2073 v2352
  v2353.toNat
def k0_dev132 (d0 : Dev nD) : Nat :=
  let c0_i32_2081 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2076 : BitVec 32 := 8#32
  let v2360 : BitVec 32 := Scalar.addi v2 c8_i32_2076
  let c32_i32_2077 : BitVec 32 := 32#32
  let v2361 : BitVec 32 := Scalar.remsi v2360 c32_i32_2077
  let c1_i32_2080 : BitVec 32 := 1#32
  let v2362 : BitVec 32 := Scalar.muli v2361 c1_i32_2080
  let v2363 : BitVec 32 := Scalar.addi c0_i32_2081 v2362
  v2363.toNat
def k0_dev133 (d0 : Dev nD) : Nat :=
  let c0_i32_2089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2084 : BitVec 32 := 9#32
  let v2370 : BitVec 32 := Scalar.addi v2 c9_i32_2084
  let c32_i32_2085 : BitVec 32 := 32#32
  let v2371 : BitVec 32 := Scalar.remsi v2370 c32_i32_2085
  let c1_i32_2088 : BitVec 32 := 1#32
  let v2372 : BitVec 32 := Scalar.muli v2371 c1_i32_2088
  let v2373 : BitVec 32 := Scalar.addi c0_i32_2089 v2372
  v2373.toNat
def k0_dev134 (d0 : Dev nD) : Nat :=
  let c0_i32_2097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2092 : BitVec 32 := 10#32
  let v2380 : BitVec 32 := Scalar.addi v2 c10_i32_2092
  let c32_i32_2093 : BitVec 32 := 32#32
  let v2381 : BitVec 32 := Scalar.remsi v2380 c32_i32_2093
  let c1_i32_2096 : BitVec 32 := 1#32
  let v2382 : BitVec 32 := Scalar.muli v2381 c1_i32_2096
  let v2383 : BitVec 32 := Scalar.addi c0_i32_2097 v2382
  v2383.toNat
def k0_dev135 (d0 : Dev nD) : Nat :=
  let c0_i32_2105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2100 : BitVec 32 := 11#32
  let v2390 : BitVec 32 := Scalar.addi v2 c11_i32_2100
  let c32_i32_2101 : BitVec 32 := 32#32
  let v2391 : BitVec 32 := Scalar.remsi v2390 c32_i32_2101
  let c1_i32_2104 : BitVec 32 := 1#32
  let v2392 : BitVec 32 := Scalar.muli v2391 c1_i32_2104
  let v2393 : BitVec 32 := Scalar.addi c0_i32_2105 v2392
  v2393.toNat
def k0_dev136 (d0 : Dev nD) : Nat :=
  let c0_i32_2113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2108 : BitVec 32 := 12#32
  let v2400 : BitVec 32 := Scalar.addi v2 c12_i32_2108
  let c32_i32_2109 : BitVec 32 := 32#32
  let v2401 : BitVec 32 := Scalar.remsi v2400 c32_i32_2109
  let c1_i32_2112 : BitVec 32 := 1#32
  let v2402 : BitVec 32 := Scalar.muli v2401 c1_i32_2112
  let v2403 : BitVec 32 := Scalar.addi c0_i32_2113 v2402
  v2403.toNat
def k0_dev137 (d0 : Dev nD) : Nat :=
  let c0_i32_2121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2116 : BitVec 32 := 13#32
  let v2410 : BitVec 32 := Scalar.addi v2 c13_i32_2116
  let c32_i32_2117 : BitVec 32 := 32#32
  let v2411 : BitVec 32 := Scalar.remsi v2410 c32_i32_2117
  let c1_i32_2120 : BitVec 32 := 1#32
  let v2412 : BitVec 32 := Scalar.muli v2411 c1_i32_2120
  let v2413 : BitVec 32 := Scalar.addi c0_i32_2121 v2412
  v2413.toNat
def k0_dev138 (d0 : Dev nD) : Nat :=
  let c0_i32_2129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2124 : BitVec 32 := 14#32
  let v2420 : BitVec 32 := Scalar.addi v2 c14_i32_2124
  let c32_i32_2125 : BitVec 32 := 32#32
  let v2421 : BitVec 32 := Scalar.remsi v2420 c32_i32_2125
  let c1_i32_2128 : BitVec 32 := 1#32
  let v2422 : BitVec 32 := Scalar.muli v2421 c1_i32_2128
  let v2423 : BitVec 32 := Scalar.addi c0_i32_2129 v2422
  v2423.toNat
def k0_dev139 (d0 : Dev nD) : Nat :=
  let c0_i32_2137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2132 : BitVec 32 := 15#32
  let v2430 : BitVec 32 := Scalar.addi v2 c15_i32_2132
  let c32_i32_2133 : BitVec 32 := 32#32
  let v2431 : BitVec 32 := Scalar.remsi v2430 c32_i32_2133
  let c1_i32_2136 : BitVec 32 := 1#32
  let v2432 : BitVec 32 := Scalar.muli v2431 c1_i32_2136
  let v2433 : BitVec 32 := Scalar.addi c0_i32_2137 v2432
  v2433.toNat
def k0_dev140 (d0 : Dev nD) : Nat :=
  let c0_i32_2145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2140 : BitVec 32 := 16#32
  let v2440 : BitVec 32 := Scalar.addi v2 c16_i32_2140
  let c32_i32_2141 : BitVec 32 := 32#32
  let v2441 : BitVec 32 := Scalar.remsi v2440 c32_i32_2141
  let c1_i32_2144 : BitVec 32 := 1#32
  let v2442 : BitVec 32 := Scalar.muli v2441 c1_i32_2144
  let v2443 : BitVec 32 := Scalar.addi c0_i32_2145 v2442
  v2443.toNat
def k0_dev141 (d0 : Dev nD) : Nat :=
  let c0_i32_2153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2148 : BitVec 32 := 17#32
  let v2450 : BitVec 32 := Scalar.addi v2 c17_i32_2148
  let c32_i32_2149 : BitVec 32 := 32#32
  let v2451 : BitVec 32 := Scalar.remsi v2450 c32_i32_2149
  let c1_i32_2152 : BitVec 32 := 1#32
  let v2452 : BitVec 32 := Scalar.muli v2451 c1_i32_2152
  let v2453 : BitVec 32 := Scalar.addi c0_i32_2153 v2452
  v2453.toNat
def k0_dev142 (d0 : Dev nD) : Nat :=
  let c0_i32_2161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2156 : BitVec 32 := 18#32
  let v2460 : BitVec 32 := Scalar.addi v2 c18_i32_2156
  let c32_i32_2157 : BitVec 32 := 32#32
  let v2461 : BitVec 32 := Scalar.remsi v2460 c32_i32_2157
  let c1_i32_2160 : BitVec 32 := 1#32
  let v2462 : BitVec 32 := Scalar.muli v2461 c1_i32_2160
  let v2463 : BitVec 32 := Scalar.addi c0_i32_2161 v2462
  v2463.toNat
def k0_dev143 (d0 : Dev nD) : Nat :=
  let c0_i32_2169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2164 : BitVec 32 := 19#32
  let v2470 : BitVec 32 := Scalar.addi v2 c19_i32_2164
  let c32_i32_2165 : BitVec 32 := 32#32
  let v2471 : BitVec 32 := Scalar.remsi v2470 c32_i32_2165
  let c1_i32_2168 : BitVec 32 := 1#32
  let v2472 : BitVec 32 := Scalar.muli v2471 c1_i32_2168
  let v2473 : BitVec 32 := Scalar.addi c0_i32_2169 v2472
  v2473.toNat
def k0_dev144 (d0 : Dev nD) : Nat :=
  let c0_i32_2177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2172 : BitVec 32 := 20#32
  let v2480 : BitVec 32 := Scalar.addi v2 c20_i32_2172
  let c32_i32_2173 : BitVec 32 := 32#32
  let v2481 : BitVec 32 := Scalar.remsi v2480 c32_i32_2173
  let c1_i32_2176 : BitVec 32 := 1#32
  let v2482 : BitVec 32 := Scalar.muli v2481 c1_i32_2176
  let v2483 : BitVec 32 := Scalar.addi c0_i32_2177 v2482
  v2483.toNat
def k0_dev145 (d0 : Dev nD) : Nat :=
  let c0_i32_2185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2180 : BitVec 32 := 21#32
  let v2490 : BitVec 32 := Scalar.addi v2 c21_i32_2180
  let c32_i32_2181 : BitVec 32 := 32#32
  let v2491 : BitVec 32 := Scalar.remsi v2490 c32_i32_2181
  let c1_i32_2184 : BitVec 32 := 1#32
  let v2492 : BitVec 32 := Scalar.muli v2491 c1_i32_2184
  let v2493 : BitVec 32 := Scalar.addi c0_i32_2185 v2492
  v2493.toNat
def k0_dev146 (d0 : Dev nD) : Nat :=
  let c0_i32_2193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2188 : BitVec 32 := 22#32
  let v2500 : BitVec 32 := Scalar.addi v2 c22_i32_2188
  let c32_i32_2189 : BitVec 32 := 32#32
  let v2501 : BitVec 32 := Scalar.remsi v2500 c32_i32_2189
  let c1_i32_2192 : BitVec 32 := 1#32
  let v2502 : BitVec 32 := Scalar.muli v2501 c1_i32_2192
  let v2503 : BitVec 32 := Scalar.addi c0_i32_2193 v2502
  v2503.toNat
def k0_dev147 (d0 : Dev nD) : Nat :=
  let c0_i32_2201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2196 : BitVec 32 := 23#32
  let v2510 : BitVec 32 := Scalar.addi v2 c23_i32_2196
  let c32_i32_2197 : BitVec 32 := 32#32
  let v2511 : BitVec 32 := Scalar.remsi v2510 c32_i32_2197
  let c1_i32_2200 : BitVec 32 := 1#32
  let v2512 : BitVec 32 := Scalar.muli v2511 c1_i32_2200
  let v2513 : BitVec 32 := Scalar.addi c0_i32_2201 v2512
  v2513.toNat
def k0_dev148 (d0 : Dev nD) : Nat :=
  let c0_i32_2209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2204 : BitVec 32 := 24#32
  let v2520 : BitVec 32 := Scalar.addi v2 c24_i32_2204
  let c32_i32_2205 : BitVec 32 := 32#32
  let v2521 : BitVec 32 := Scalar.remsi v2520 c32_i32_2205
  let c1_i32_2208 : BitVec 32 := 1#32
  let v2522 : BitVec 32 := Scalar.muli v2521 c1_i32_2208
  let v2523 : BitVec 32 := Scalar.addi c0_i32_2209 v2522
  v2523.toNat
def k0_dev149 (d0 : Dev nD) : Nat :=
  let c0_i32_2217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2212 : BitVec 32 := 25#32
  let v2530 : BitVec 32 := Scalar.addi v2 c25_i32_2212
  let c32_i32_2213 : BitVec 32 := 32#32
  let v2531 : BitVec 32 := Scalar.remsi v2530 c32_i32_2213
  let c1_i32_2216 : BitVec 32 := 1#32
  let v2532 : BitVec 32 := Scalar.muli v2531 c1_i32_2216
  let v2533 : BitVec 32 := Scalar.addi c0_i32_2217 v2532
  v2533.toNat
def k0_dev150 (d0 : Dev nD) : Nat :=
  let c0_i32_2225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2220 : BitVec 32 := 26#32
  let v2540 : BitVec 32 := Scalar.addi v2 c26_i32_2220
  let c32_i32_2221 : BitVec 32 := 32#32
  let v2541 : BitVec 32 := Scalar.remsi v2540 c32_i32_2221
  let c1_i32_2224 : BitVec 32 := 1#32
  let v2542 : BitVec 32 := Scalar.muli v2541 c1_i32_2224
  let v2543 : BitVec 32 := Scalar.addi c0_i32_2225 v2542
  v2543.toNat
def k0_dev151 (d0 : Dev nD) : Nat :=
  let c0_i32_2233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2228 : BitVec 32 := 27#32
  let v2550 : BitVec 32 := Scalar.addi v2 c27_i32_2228
  let c32_i32_2229 : BitVec 32 := 32#32
  let v2551 : BitVec 32 := Scalar.remsi v2550 c32_i32_2229
  let c1_i32_2232 : BitVec 32 := 1#32
  let v2552 : BitVec 32 := Scalar.muli v2551 c1_i32_2232
  let v2553 : BitVec 32 := Scalar.addi c0_i32_2233 v2552
  v2553.toNat
def k0_dev152 (d0 : Dev nD) : Nat :=
  let c0_i32_2241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2236 : BitVec 32 := 28#32
  let v2560 : BitVec 32 := Scalar.addi v2 c28_i32_2236
  let c32_i32_2237 : BitVec 32 := 32#32
  let v2561 : BitVec 32 := Scalar.remsi v2560 c32_i32_2237
  let c1_i32_2240 : BitVec 32 := 1#32
  let v2562 : BitVec 32 := Scalar.muli v2561 c1_i32_2240
  let v2563 : BitVec 32 := Scalar.addi c0_i32_2241 v2562
  v2563.toNat
def k0_dev153 (d0 : Dev nD) : Nat :=
  let c0_i32_2249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2244 : BitVec 32 := 29#32
  let v2570 : BitVec 32 := Scalar.addi v2 c29_i32_2244
  let c32_i32_2245 : BitVec 32 := 32#32
  let v2571 : BitVec 32 := Scalar.remsi v2570 c32_i32_2245
  let c1_i32_2248 : BitVec 32 := 1#32
  let v2572 : BitVec 32 := Scalar.muli v2571 c1_i32_2248
  let v2573 : BitVec 32 := Scalar.addi c0_i32_2249 v2572
  v2573.toNat
def k0_dev154 (d0 : Dev nD) : Nat :=
  let c0_i32_2257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2252 : BitVec 32 := 30#32
  let v2580 : BitVec 32 := Scalar.addi v2 c30_i32_2252
  let c32_i32_2253 : BitVec 32 := 32#32
  let v2581 : BitVec 32 := Scalar.remsi v2580 c32_i32_2253
  let c1_i32_2256 : BitVec 32 := 1#32
  let v2582 : BitVec 32 := Scalar.muli v2581 c1_i32_2256
  let v2583 : BitVec 32 := Scalar.addi c0_i32_2257 v2582
  v2583.toNat
def k0_dev155 (d0 : Dev nD) : Nat :=
  let c0_i32_2265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2260 : BitVec 32 := 31#32
  let v2590 : BitVec 32 := Scalar.addi v2 c31_i32_2260
  let c32_i32_2261 : BitVec 32 := 32#32
  let v2591 : BitVec 32 := Scalar.remsi v2590 c32_i32_2261
  let c1_i32_2264 : BitVec 32 := 1#32
  let v2592 : BitVec 32 := Scalar.muli v2591 c1_i32_2264
  let v2593 : BitVec 32 := Scalar.addi c0_i32_2265 v2592
  v2593.toNat
def k0_dev156 (d0 : Dev nD) : Nat :=
  let c0_i32_3101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3094 : BitVec 32 := 1#32
  let v3369 : BitVec 32 := Scalar.addi v2 c1_i32_3094
  let c32_i32_3095 : BitVec 32 := 32#32
  let v3370 : BitVec 32 := Scalar.remsi v3369 c32_i32_3095
  let c1_i32_3100 : BitVec 32 := 1#32
  let v3373 : BitVec 32 := Scalar.muli v3370 c1_i32_3100
  let v3374 : BitVec 32 := Scalar.addi c0_i32_3101 v3373
  v3374.toNat
def k0_dev157 (d0 : Dev nD) : Nat :=
  let c0_i32_3111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3104 : BitVec 32 := 2#32
  let v3381 : BitVec 32 := Scalar.addi v2 c2_i32_3104
  let c32_i32_3105 : BitVec 32 := 32#32
  let v3382 : BitVec 32 := Scalar.remsi v3381 c32_i32_3105
  let c1_i32_3110 : BitVec 32 := 1#32
  let v3385 : BitVec 32 := Scalar.muli v3382 c1_i32_3110
  let v3386 : BitVec 32 := Scalar.addi c0_i32_3111 v3385
  v3386.toNat
def k0_dev158 (d0 : Dev nD) : Nat :=
  let c0_i32_3121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3114 : BitVec 32 := 3#32
  let v3393 : BitVec 32 := Scalar.addi v2 c3_i32_3114
  let c32_i32_3115 : BitVec 32 := 32#32
  let v3394 : BitVec 32 := Scalar.remsi v3393 c32_i32_3115
  let c1_i32_3120 : BitVec 32 := 1#32
  let v3397 : BitVec 32 := Scalar.muli v3394 c1_i32_3120
  let v3398 : BitVec 32 := Scalar.addi c0_i32_3121 v3397
  v3398.toNat
def k0_dev159 (d0 : Dev nD) : Nat :=
  let c0_i32_3131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3124 : BitVec 32 := 4#32
  let v3405 : BitVec 32 := Scalar.addi v2 c4_i32_3124
  let c32_i32_3125 : BitVec 32 := 32#32
  let v3406 : BitVec 32 := Scalar.remsi v3405 c32_i32_3125
  let c1_i32_3130 : BitVec 32 := 1#32
  let v3409 : BitVec 32 := Scalar.muli v3406 c1_i32_3130
  let v3410 : BitVec 32 := Scalar.addi c0_i32_3131 v3409
  v3410.toNat
def k0_dev160 (d0 : Dev nD) : Nat :=
  let c0_i32_3141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3134 : BitVec 32 := 5#32
  let v3417 : BitVec 32 := Scalar.addi v2 c5_i32_3134
  let c32_i32_3135 : BitVec 32 := 32#32
  let v3418 : BitVec 32 := Scalar.remsi v3417 c32_i32_3135
  let c1_i32_3140 : BitVec 32 := 1#32
  let v3421 : BitVec 32 := Scalar.muli v3418 c1_i32_3140
  let v3422 : BitVec 32 := Scalar.addi c0_i32_3141 v3421
  v3422.toNat
def k0_dev161 (d0 : Dev nD) : Nat :=
  let c0_i32_3151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3144 : BitVec 32 := 6#32
  let v3429 : BitVec 32 := Scalar.addi v2 c6_i32_3144
  let c32_i32_3145 : BitVec 32 := 32#32
  let v3430 : BitVec 32 := Scalar.remsi v3429 c32_i32_3145
  let c1_i32_3150 : BitVec 32 := 1#32
  let v3433 : BitVec 32 := Scalar.muli v3430 c1_i32_3150
  let v3434 : BitVec 32 := Scalar.addi c0_i32_3151 v3433
  v3434.toNat
def k0_dev162 (d0 : Dev nD) : Nat :=
  let c0_i32_3161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3154 : BitVec 32 := 7#32
  let v3441 : BitVec 32 := Scalar.addi v2 c7_i32_3154
  let c32_i32_3155 : BitVec 32 := 32#32
  let v3442 : BitVec 32 := Scalar.remsi v3441 c32_i32_3155
  let c1_i32_3160 : BitVec 32 := 1#32
  let v3445 : BitVec 32 := Scalar.muli v3442 c1_i32_3160
  let v3446 : BitVec 32 := Scalar.addi c0_i32_3161 v3445
  v3446.toNat
def k0_dev163 (d0 : Dev nD) : Nat :=
  let c0_i32_3171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3164 : BitVec 32 := 8#32
  let v3453 : BitVec 32 := Scalar.addi v2 c8_i32_3164
  let c32_i32_3165 : BitVec 32 := 32#32
  let v3454 : BitVec 32 := Scalar.remsi v3453 c32_i32_3165
  let c1_i32_3170 : BitVec 32 := 1#32
  let v3457 : BitVec 32 := Scalar.muli v3454 c1_i32_3170
  let v3458 : BitVec 32 := Scalar.addi c0_i32_3171 v3457
  v3458.toNat
def k0_dev164 (d0 : Dev nD) : Nat :=
  let c0_i32_3181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3174 : BitVec 32 := 9#32
  let v3465 : BitVec 32 := Scalar.addi v2 c9_i32_3174
  let c32_i32_3175 : BitVec 32 := 32#32
  let v3466 : BitVec 32 := Scalar.remsi v3465 c32_i32_3175
  let c1_i32_3180 : BitVec 32 := 1#32
  let v3469 : BitVec 32 := Scalar.muli v3466 c1_i32_3180
  let v3470 : BitVec 32 := Scalar.addi c0_i32_3181 v3469
  v3470.toNat
def k0_dev165 (d0 : Dev nD) : Nat :=
  let c0_i32_3191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3184 : BitVec 32 := 10#32
  let v3477 : BitVec 32 := Scalar.addi v2 c10_i32_3184
  let c32_i32_3185 : BitVec 32 := 32#32
  let v3478 : BitVec 32 := Scalar.remsi v3477 c32_i32_3185
  let c1_i32_3190 : BitVec 32 := 1#32
  let v3481 : BitVec 32 := Scalar.muli v3478 c1_i32_3190
  let v3482 : BitVec 32 := Scalar.addi c0_i32_3191 v3481
  v3482.toNat
def k0_dev166 (d0 : Dev nD) : Nat :=
  let c0_i32_3201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3194 : BitVec 32 := 11#32
  let v3489 : BitVec 32 := Scalar.addi v2 c11_i32_3194
  let c32_i32_3195 : BitVec 32 := 32#32
  let v3490 : BitVec 32 := Scalar.remsi v3489 c32_i32_3195
  let c1_i32_3200 : BitVec 32 := 1#32
  let v3493 : BitVec 32 := Scalar.muli v3490 c1_i32_3200
  let v3494 : BitVec 32 := Scalar.addi c0_i32_3201 v3493
  v3494.toNat
def k0_dev167 (d0 : Dev nD) : Nat :=
  let c0_i32_3211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3204 : BitVec 32 := 12#32
  let v3501 : BitVec 32 := Scalar.addi v2 c12_i32_3204
  let c32_i32_3205 : BitVec 32 := 32#32
  let v3502 : BitVec 32 := Scalar.remsi v3501 c32_i32_3205
  let c1_i32_3210 : BitVec 32 := 1#32
  let v3505 : BitVec 32 := Scalar.muli v3502 c1_i32_3210
  let v3506 : BitVec 32 := Scalar.addi c0_i32_3211 v3505
  v3506.toNat
def k0_dev168 (d0 : Dev nD) : Nat :=
  let c0_i32_3221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3214 : BitVec 32 := 13#32
  let v3513 : BitVec 32 := Scalar.addi v2 c13_i32_3214
  let c32_i32_3215 : BitVec 32 := 32#32
  let v3514 : BitVec 32 := Scalar.remsi v3513 c32_i32_3215
  let c1_i32_3220 : BitVec 32 := 1#32
  let v3517 : BitVec 32 := Scalar.muli v3514 c1_i32_3220
  let v3518 : BitVec 32 := Scalar.addi c0_i32_3221 v3517
  v3518.toNat
def k0_dev169 (d0 : Dev nD) : Nat :=
  let c0_i32_3231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3224 : BitVec 32 := 14#32
  let v3525 : BitVec 32 := Scalar.addi v2 c14_i32_3224
  let c32_i32_3225 : BitVec 32 := 32#32
  let v3526 : BitVec 32 := Scalar.remsi v3525 c32_i32_3225
  let c1_i32_3230 : BitVec 32 := 1#32
  let v3529 : BitVec 32 := Scalar.muli v3526 c1_i32_3230
  let v3530 : BitVec 32 := Scalar.addi c0_i32_3231 v3529
  v3530.toNat
def k0_dev170 (d0 : Dev nD) : Nat :=
  let c0_i32_3241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3234 : BitVec 32 := 15#32
  let v3537 : BitVec 32 := Scalar.addi v2 c15_i32_3234
  let c32_i32_3235 : BitVec 32 := 32#32
  let v3538 : BitVec 32 := Scalar.remsi v3537 c32_i32_3235
  let c1_i32_3240 : BitVec 32 := 1#32
  let v3541 : BitVec 32 := Scalar.muli v3538 c1_i32_3240
  let v3542 : BitVec 32 := Scalar.addi c0_i32_3241 v3541
  v3542.toNat
def k0_dev171 (d0 : Dev nD) : Nat :=
  let c0_i32_3251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3244 : BitVec 32 := 16#32
  let v3549 : BitVec 32 := Scalar.addi v2 c16_i32_3244
  let c32_i32_3245 : BitVec 32 := 32#32
  let v3550 : BitVec 32 := Scalar.remsi v3549 c32_i32_3245
  let c1_i32_3250 : BitVec 32 := 1#32
  let v3553 : BitVec 32 := Scalar.muli v3550 c1_i32_3250
  let v3554 : BitVec 32 := Scalar.addi c0_i32_3251 v3553
  v3554.toNat
def k0_dev172 (d0 : Dev nD) : Nat :=
  let c0_i32_3261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3254 : BitVec 32 := 17#32
  let v3561 : BitVec 32 := Scalar.addi v2 c17_i32_3254
  let c32_i32_3255 : BitVec 32 := 32#32
  let v3562 : BitVec 32 := Scalar.remsi v3561 c32_i32_3255
  let c1_i32_3260 : BitVec 32 := 1#32
  let v3565 : BitVec 32 := Scalar.muli v3562 c1_i32_3260
  let v3566 : BitVec 32 := Scalar.addi c0_i32_3261 v3565
  v3566.toNat
def k0_dev173 (d0 : Dev nD) : Nat :=
  let c0_i32_3271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3264 : BitVec 32 := 18#32
  let v3573 : BitVec 32 := Scalar.addi v2 c18_i32_3264
  let c32_i32_3265 : BitVec 32 := 32#32
  let v3574 : BitVec 32 := Scalar.remsi v3573 c32_i32_3265
  let c1_i32_3270 : BitVec 32 := 1#32
  let v3577 : BitVec 32 := Scalar.muli v3574 c1_i32_3270
  let v3578 : BitVec 32 := Scalar.addi c0_i32_3271 v3577
  v3578.toNat
def k0_dev174 (d0 : Dev nD) : Nat :=
  let c0_i32_3281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3274 : BitVec 32 := 19#32
  let v3585 : BitVec 32 := Scalar.addi v2 c19_i32_3274
  let c32_i32_3275 : BitVec 32 := 32#32
  let v3586 : BitVec 32 := Scalar.remsi v3585 c32_i32_3275
  let c1_i32_3280 : BitVec 32 := 1#32
  let v3589 : BitVec 32 := Scalar.muli v3586 c1_i32_3280
  let v3590 : BitVec 32 := Scalar.addi c0_i32_3281 v3589
  v3590.toNat
def k0_dev175 (d0 : Dev nD) : Nat :=
  let c0_i32_3291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3284 : BitVec 32 := 20#32
  let v3597 : BitVec 32 := Scalar.addi v2 c20_i32_3284
  let c32_i32_3285 : BitVec 32 := 32#32
  let v3598 : BitVec 32 := Scalar.remsi v3597 c32_i32_3285
  let c1_i32_3290 : BitVec 32 := 1#32
  let v3601 : BitVec 32 := Scalar.muli v3598 c1_i32_3290
  let v3602 : BitVec 32 := Scalar.addi c0_i32_3291 v3601
  v3602.toNat
def k0_dev176 (d0 : Dev nD) : Nat :=
  let c0_i32_3301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3294 : BitVec 32 := 21#32
  let v3609 : BitVec 32 := Scalar.addi v2 c21_i32_3294
  let c32_i32_3295 : BitVec 32 := 32#32
  let v3610 : BitVec 32 := Scalar.remsi v3609 c32_i32_3295
  let c1_i32_3300 : BitVec 32 := 1#32
  let v3613 : BitVec 32 := Scalar.muli v3610 c1_i32_3300
  let v3614 : BitVec 32 := Scalar.addi c0_i32_3301 v3613
  v3614.toNat
def k0_dev177 (d0 : Dev nD) : Nat :=
  let c0_i32_3311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3304 : BitVec 32 := 22#32
  let v3621 : BitVec 32 := Scalar.addi v2 c22_i32_3304
  let c32_i32_3305 : BitVec 32 := 32#32
  let v3622 : BitVec 32 := Scalar.remsi v3621 c32_i32_3305
  let c1_i32_3310 : BitVec 32 := 1#32
  let v3625 : BitVec 32 := Scalar.muli v3622 c1_i32_3310
  let v3626 : BitVec 32 := Scalar.addi c0_i32_3311 v3625
  v3626.toNat
def k0_dev178 (d0 : Dev nD) : Nat :=
  let c0_i32_3321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3314 : BitVec 32 := 23#32
  let v3633 : BitVec 32 := Scalar.addi v2 c23_i32_3314
  let c32_i32_3315 : BitVec 32 := 32#32
  let v3634 : BitVec 32 := Scalar.remsi v3633 c32_i32_3315
  let c1_i32_3320 : BitVec 32 := 1#32
  let v3637 : BitVec 32 := Scalar.muli v3634 c1_i32_3320
  let v3638 : BitVec 32 := Scalar.addi c0_i32_3321 v3637
  v3638.toNat
def k0_dev179 (d0 : Dev nD) : Nat :=
  let c0_i32_3331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3324 : BitVec 32 := 24#32
  let v3645 : BitVec 32 := Scalar.addi v2 c24_i32_3324
  let c32_i32_3325 : BitVec 32 := 32#32
  let v3646 : BitVec 32 := Scalar.remsi v3645 c32_i32_3325
  let c1_i32_3330 : BitVec 32 := 1#32
  let v3649 : BitVec 32 := Scalar.muli v3646 c1_i32_3330
  let v3650 : BitVec 32 := Scalar.addi c0_i32_3331 v3649
  v3650.toNat
def k0_dev180 (d0 : Dev nD) : Nat :=
  let c0_i32_3341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3334 : BitVec 32 := 25#32
  let v3657 : BitVec 32 := Scalar.addi v2 c25_i32_3334
  let c32_i32_3335 : BitVec 32 := 32#32
  let v3658 : BitVec 32 := Scalar.remsi v3657 c32_i32_3335
  let c1_i32_3340 : BitVec 32 := 1#32
  let v3661 : BitVec 32 := Scalar.muli v3658 c1_i32_3340
  let v3662 : BitVec 32 := Scalar.addi c0_i32_3341 v3661
  v3662.toNat
def k0_dev181 (d0 : Dev nD) : Nat :=
  let c0_i32_3351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3344 : BitVec 32 := 26#32
  let v3669 : BitVec 32 := Scalar.addi v2 c26_i32_3344
  let c32_i32_3345 : BitVec 32 := 32#32
  let v3670 : BitVec 32 := Scalar.remsi v3669 c32_i32_3345
  let c1_i32_3350 : BitVec 32 := 1#32
  let v3673 : BitVec 32 := Scalar.muli v3670 c1_i32_3350
  let v3674 : BitVec 32 := Scalar.addi c0_i32_3351 v3673
  v3674.toNat
def k0_dev182 (d0 : Dev nD) : Nat :=
  let c0_i32_3361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3354 : BitVec 32 := 27#32
  let v3681 : BitVec 32 := Scalar.addi v2 c27_i32_3354
  let c32_i32_3355 : BitVec 32 := 32#32
  let v3682 : BitVec 32 := Scalar.remsi v3681 c32_i32_3355
  let c1_i32_3360 : BitVec 32 := 1#32
  let v3685 : BitVec 32 := Scalar.muli v3682 c1_i32_3360
  let v3686 : BitVec 32 := Scalar.addi c0_i32_3361 v3685
  v3686.toNat
def k0_dev183 (d0 : Dev nD) : Nat :=
  let c0_i32_3371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3364 : BitVec 32 := 28#32
  let v3693 : BitVec 32 := Scalar.addi v2 c28_i32_3364
  let c32_i32_3365 : BitVec 32 := 32#32
  let v3694 : BitVec 32 := Scalar.remsi v3693 c32_i32_3365
  let c1_i32_3370 : BitVec 32 := 1#32
  let v3697 : BitVec 32 := Scalar.muli v3694 c1_i32_3370
  let v3698 : BitVec 32 := Scalar.addi c0_i32_3371 v3697
  v3698.toNat
def k0_dev184 (d0 : Dev nD) : Nat :=
  let c0_i32_3381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3374 : BitVec 32 := 29#32
  let v3705 : BitVec 32 := Scalar.addi v2 c29_i32_3374
  let c32_i32_3375 : BitVec 32 := 32#32
  let v3706 : BitVec 32 := Scalar.remsi v3705 c32_i32_3375
  let c1_i32_3380 : BitVec 32 := 1#32
  let v3709 : BitVec 32 := Scalar.muli v3706 c1_i32_3380
  let v3710 : BitVec 32 := Scalar.addi c0_i32_3381 v3709
  v3710.toNat
def k0_dev185 (d0 : Dev nD) : Nat :=
  let c0_i32_3391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3384 : BitVec 32 := 30#32
  let v3717 : BitVec 32 := Scalar.addi v2 c30_i32_3384
  let c32_i32_3385 : BitVec 32 := 32#32
  let v3718 : BitVec 32 := Scalar.remsi v3717 c32_i32_3385
  let c1_i32_3390 : BitVec 32 := 1#32
  let v3721 : BitVec 32 := Scalar.muli v3718 c1_i32_3390
  let v3722 : BitVec 32 := Scalar.addi c0_i32_3391 v3721
  v3722.toNat
def k0_dev186 (d0 : Dev nD) : Nat :=
  let c0_i32_3401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3394 : BitVec 32 := 31#32
  let v3729 : BitVec 32 := Scalar.addi v2 c31_i32_3394
  let c32_i32_3395 : BitVec 32 := 32#32
  let v3730 : BitVec 32 := Scalar.remsi v3729 c32_i32_3395
  let c1_i32_3400 : BitVec 32 := 1#32
  let v3733 : BitVec 32 := Scalar.muli v3730 c1_i32_3400
  let v3734 : BitVec 32 := Scalar.addi c0_i32_3401 v3733
  v3734.toNat
def k0_dev187 (d0 : Dev nD) : Nat :=
  let c0_i32_3420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3413 : BitVec 32 := 1#32
  let v3753 : BitVec 32 := Scalar.addi v2 c1_i32_3413
  let c32_i32_3414 : BitVec 32 := 32#32
  let v3754 : BitVec 32 := Scalar.remsi v3753 c32_i32_3414
  let c1_i32_3419 : BitVec 32 := 1#32
  let v3757 : BitVec 32 := Scalar.muli v3754 c1_i32_3419
  let v3758 : BitVec 32 := Scalar.addi c0_i32_3420 v3757
  v3758.toNat
def k0_dev188 (d0 : Dev nD) : Nat :=
  let c0_i32_3430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3423 : BitVec 32 := 2#32
  let v3765 : BitVec 32 := Scalar.addi v2 c2_i32_3423
  let c32_i32_3424 : BitVec 32 := 32#32
  let v3766 : BitVec 32 := Scalar.remsi v3765 c32_i32_3424
  let c1_i32_3429 : BitVec 32 := 1#32
  let v3769 : BitVec 32 := Scalar.muli v3766 c1_i32_3429
  let v3770 : BitVec 32 := Scalar.addi c0_i32_3430 v3769
  v3770.toNat
def k0_dev189 (d0 : Dev nD) : Nat :=
  let c0_i32_3440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3433 : BitVec 32 := 3#32
  let v3777 : BitVec 32 := Scalar.addi v2 c3_i32_3433
  let c32_i32_3434 : BitVec 32 := 32#32
  let v3778 : BitVec 32 := Scalar.remsi v3777 c32_i32_3434
  let c1_i32_3439 : BitVec 32 := 1#32
  let v3781 : BitVec 32 := Scalar.muli v3778 c1_i32_3439
  let v3782 : BitVec 32 := Scalar.addi c0_i32_3440 v3781
  v3782.toNat
def k0_dev190 (d0 : Dev nD) : Nat :=
  let c0_i32_3450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3443 : BitVec 32 := 4#32
  let v3789 : BitVec 32 := Scalar.addi v2 c4_i32_3443
  let c32_i32_3444 : BitVec 32 := 32#32
  let v3790 : BitVec 32 := Scalar.remsi v3789 c32_i32_3444
  let c1_i32_3449 : BitVec 32 := 1#32
  let v3793 : BitVec 32 := Scalar.muli v3790 c1_i32_3449
  let v3794 : BitVec 32 := Scalar.addi c0_i32_3450 v3793
  v3794.toNat
def k0_dev191 (d0 : Dev nD) : Nat :=
  let c0_i32_3460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3453 : BitVec 32 := 5#32
  let v3801 : BitVec 32 := Scalar.addi v2 c5_i32_3453
  let c32_i32_3454 : BitVec 32 := 32#32
  let v3802 : BitVec 32 := Scalar.remsi v3801 c32_i32_3454
  let c1_i32_3459 : BitVec 32 := 1#32
  let v3805 : BitVec 32 := Scalar.muli v3802 c1_i32_3459
  let v3806 : BitVec 32 := Scalar.addi c0_i32_3460 v3805
  v3806.toNat
def k0_dev192 (d0 : Dev nD) : Nat :=
  let c0_i32_3470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3463 : BitVec 32 := 6#32
  let v3813 : BitVec 32 := Scalar.addi v2 c6_i32_3463
  let c32_i32_3464 : BitVec 32 := 32#32
  let v3814 : BitVec 32 := Scalar.remsi v3813 c32_i32_3464
  let c1_i32_3469 : BitVec 32 := 1#32
  let v3817 : BitVec 32 := Scalar.muli v3814 c1_i32_3469
  let v3818 : BitVec 32 := Scalar.addi c0_i32_3470 v3817
  v3818.toNat
def k0_dev193 (d0 : Dev nD) : Nat :=
  let c0_i32_3480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3473 : BitVec 32 := 7#32
  let v3825 : BitVec 32 := Scalar.addi v2 c7_i32_3473
  let c32_i32_3474 : BitVec 32 := 32#32
  let v3826 : BitVec 32 := Scalar.remsi v3825 c32_i32_3474
  let c1_i32_3479 : BitVec 32 := 1#32
  let v3829 : BitVec 32 := Scalar.muli v3826 c1_i32_3479
  let v3830 : BitVec 32 := Scalar.addi c0_i32_3480 v3829
  v3830.toNat
def k0_dev194 (d0 : Dev nD) : Nat :=
  let c0_i32_3490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3483 : BitVec 32 := 8#32
  let v3837 : BitVec 32 := Scalar.addi v2 c8_i32_3483
  let c32_i32_3484 : BitVec 32 := 32#32
  let v3838 : BitVec 32 := Scalar.remsi v3837 c32_i32_3484
  let c1_i32_3489 : BitVec 32 := 1#32
  let v3841 : BitVec 32 := Scalar.muli v3838 c1_i32_3489
  let v3842 : BitVec 32 := Scalar.addi c0_i32_3490 v3841
  v3842.toNat
def k0_dev195 (d0 : Dev nD) : Nat :=
  let c0_i32_3500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3493 : BitVec 32 := 9#32
  let v3849 : BitVec 32 := Scalar.addi v2 c9_i32_3493
  let c32_i32_3494 : BitVec 32 := 32#32
  let v3850 : BitVec 32 := Scalar.remsi v3849 c32_i32_3494
  let c1_i32_3499 : BitVec 32 := 1#32
  let v3853 : BitVec 32 := Scalar.muli v3850 c1_i32_3499
  let v3854 : BitVec 32 := Scalar.addi c0_i32_3500 v3853
  v3854.toNat
def k0_dev196 (d0 : Dev nD) : Nat :=
  let c0_i32_3510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3503 : BitVec 32 := 10#32
  let v3861 : BitVec 32 := Scalar.addi v2 c10_i32_3503
  let c32_i32_3504 : BitVec 32 := 32#32
  let v3862 : BitVec 32 := Scalar.remsi v3861 c32_i32_3504
  let c1_i32_3509 : BitVec 32 := 1#32
  let v3865 : BitVec 32 := Scalar.muli v3862 c1_i32_3509
  let v3866 : BitVec 32 := Scalar.addi c0_i32_3510 v3865
  v3866.toNat
def k0_dev197 (d0 : Dev nD) : Nat :=
  let c0_i32_3520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3513 : BitVec 32 := 11#32
  let v3873 : BitVec 32 := Scalar.addi v2 c11_i32_3513
  let c32_i32_3514 : BitVec 32 := 32#32
  let v3874 : BitVec 32 := Scalar.remsi v3873 c32_i32_3514
  let c1_i32_3519 : BitVec 32 := 1#32
  let v3877 : BitVec 32 := Scalar.muli v3874 c1_i32_3519
  let v3878 : BitVec 32 := Scalar.addi c0_i32_3520 v3877
  v3878.toNat
def k0_dev198 (d0 : Dev nD) : Nat :=
  let c0_i32_3530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3523 : BitVec 32 := 12#32
  let v3885 : BitVec 32 := Scalar.addi v2 c12_i32_3523
  let c32_i32_3524 : BitVec 32 := 32#32
  let v3886 : BitVec 32 := Scalar.remsi v3885 c32_i32_3524
  let c1_i32_3529 : BitVec 32 := 1#32
  let v3889 : BitVec 32 := Scalar.muli v3886 c1_i32_3529
  let v3890 : BitVec 32 := Scalar.addi c0_i32_3530 v3889
  v3890.toNat
def k0_dev199 (d0 : Dev nD) : Nat :=
  let c0_i32_3540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3533 : BitVec 32 := 13#32
  let v3897 : BitVec 32 := Scalar.addi v2 c13_i32_3533
  let c32_i32_3534 : BitVec 32 := 32#32
  let v3898 : BitVec 32 := Scalar.remsi v3897 c32_i32_3534
  let c1_i32_3539 : BitVec 32 := 1#32
  let v3901 : BitVec 32 := Scalar.muli v3898 c1_i32_3539
  let v3902 : BitVec 32 := Scalar.addi c0_i32_3540 v3901
  v3902.toNat
def k0_dev200 (d0 : Dev nD) : Nat :=
  let c0_i32_3550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3543 : BitVec 32 := 14#32
  let v3909 : BitVec 32 := Scalar.addi v2 c14_i32_3543
  let c32_i32_3544 : BitVec 32 := 32#32
  let v3910 : BitVec 32 := Scalar.remsi v3909 c32_i32_3544
  let c1_i32_3549 : BitVec 32 := 1#32
  let v3913 : BitVec 32 := Scalar.muli v3910 c1_i32_3549
  let v3914 : BitVec 32 := Scalar.addi c0_i32_3550 v3913
  v3914.toNat
def k0_dev201 (d0 : Dev nD) : Nat :=
  let c0_i32_3560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3553 : BitVec 32 := 15#32
  let v3921 : BitVec 32 := Scalar.addi v2 c15_i32_3553
  let c32_i32_3554 : BitVec 32 := 32#32
  let v3922 : BitVec 32 := Scalar.remsi v3921 c32_i32_3554
  let c1_i32_3559 : BitVec 32 := 1#32
  let v3925 : BitVec 32 := Scalar.muli v3922 c1_i32_3559
  let v3926 : BitVec 32 := Scalar.addi c0_i32_3560 v3925
  v3926.toNat
def k0_dev202 (d0 : Dev nD) : Nat :=
  let c0_i32_3570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3563 : BitVec 32 := 16#32
  let v3933 : BitVec 32 := Scalar.addi v2 c16_i32_3563
  let c32_i32_3564 : BitVec 32 := 32#32
  let v3934 : BitVec 32 := Scalar.remsi v3933 c32_i32_3564
  let c1_i32_3569 : BitVec 32 := 1#32
  let v3937 : BitVec 32 := Scalar.muli v3934 c1_i32_3569
  let v3938 : BitVec 32 := Scalar.addi c0_i32_3570 v3937
  v3938.toNat
def k0_dev203 (d0 : Dev nD) : Nat :=
  let c0_i32_3580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3573 : BitVec 32 := 17#32
  let v3945 : BitVec 32 := Scalar.addi v2 c17_i32_3573
  let c32_i32_3574 : BitVec 32 := 32#32
  let v3946 : BitVec 32 := Scalar.remsi v3945 c32_i32_3574
  let c1_i32_3579 : BitVec 32 := 1#32
  let v3949 : BitVec 32 := Scalar.muli v3946 c1_i32_3579
  let v3950 : BitVec 32 := Scalar.addi c0_i32_3580 v3949
  v3950.toNat
def k0_dev204 (d0 : Dev nD) : Nat :=
  let c0_i32_3590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3583 : BitVec 32 := 18#32
  let v3957 : BitVec 32 := Scalar.addi v2 c18_i32_3583
  let c32_i32_3584 : BitVec 32 := 32#32
  let v3958 : BitVec 32 := Scalar.remsi v3957 c32_i32_3584
  let c1_i32_3589 : BitVec 32 := 1#32
  let v3961 : BitVec 32 := Scalar.muli v3958 c1_i32_3589
  let v3962 : BitVec 32 := Scalar.addi c0_i32_3590 v3961
  v3962.toNat
def k0_dev205 (d0 : Dev nD) : Nat :=
  let c0_i32_3600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3593 : BitVec 32 := 19#32
  let v3969 : BitVec 32 := Scalar.addi v2 c19_i32_3593
  let c32_i32_3594 : BitVec 32 := 32#32
  let v3970 : BitVec 32 := Scalar.remsi v3969 c32_i32_3594
  let c1_i32_3599 : BitVec 32 := 1#32
  let v3973 : BitVec 32 := Scalar.muli v3970 c1_i32_3599
  let v3974 : BitVec 32 := Scalar.addi c0_i32_3600 v3973
  v3974.toNat
def k0_dev206 (d0 : Dev nD) : Nat :=
  let c0_i32_3610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3603 : BitVec 32 := 20#32
  let v3981 : BitVec 32 := Scalar.addi v2 c20_i32_3603
  let c32_i32_3604 : BitVec 32 := 32#32
  let v3982 : BitVec 32 := Scalar.remsi v3981 c32_i32_3604
  let c1_i32_3609 : BitVec 32 := 1#32
  let v3985 : BitVec 32 := Scalar.muli v3982 c1_i32_3609
  let v3986 : BitVec 32 := Scalar.addi c0_i32_3610 v3985
  v3986.toNat
def k0_dev207 (d0 : Dev nD) : Nat :=
  let c0_i32_3620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3613 : BitVec 32 := 21#32
  let v3993 : BitVec 32 := Scalar.addi v2 c21_i32_3613
  let c32_i32_3614 : BitVec 32 := 32#32
  let v3994 : BitVec 32 := Scalar.remsi v3993 c32_i32_3614
  let c1_i32_3619 : BitVec 32 := 1#32
  let v3997 : BitVec 32 := Scalar.muli v3994 c1_i32_3619
  let v3998 : BitVec 32 := Scalar.addi c0_i32_3620 v3997
  v3998.toNat
def k0_dev208 (d0 : Dev nD) : Nat :=
  let c0_i32_3630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3623 : BitVec 32 := 22#32
  let v4005 : BitVec 32 := Scalar.addi v2 c22_i32_3623
  let c32_i32_3624 : BitVec 32 := 32#32
  let v4006 : BitVec 32 := Scalar.remsi v4005 c32_i32_3624
  let c1_i32_3629 : BitVec 32 := 1#32
  let v4009 : BitVec 32 := Scalar.muli v4006 c1_i32_3629
  let v4010 : BitVec 32 := Scalar.addi c0_i32_3630 v4009
  v4010.toNat
def k0_dev209 (d0 : Dev nD) : Nat :=
  let c0_i32_3640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3633 : BitVec 32 := 23#32
  let v4017 : BitVec 32 := Scalar.addi v2 c23_i32_3633
  let c32_i32_3634 : BitVec 32 := 32#32
  let v4018 : BitVec 32 := Scalar.remsi v4017 c32_i32_3634
  let c1_i32_3639 : BitVec 32 := 1#32
  let v4021 : BitVec 32 := Scalar.muli v4018 c1_i32_3639
  let v4022 : BitVec 32 := Scalar.addi c0_i32_3640 v4021
  v4022.toNat
def k0_dev210 (d0 : Dev nD) : Nat :=
  let c0_i32_3650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3643 : BitVec 32 := 24#32
  let v4029 : BitVec 32 := Scalar.addi v2 c24_i32_3643
  let c32_i32_3644 : BitVec 32 := 32#32
  let v4030 : BitVec 32 := Scalar.remsi v4029 c32_i32_3644
  let c1_i32_3649 : BitVec 32 := 1#32
  let v4033 : BitVec 32 := Scalar.muli v4030 c1_i32_3649
  let v4034 : BitVec 32 := Scalar.addi c0_i32_3650 v4033
  v4034.toNat
def k0_dev211 (d0 : Dev nD) : Nat :=
  let c0_i32_3660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3653 : BitVec 32 := 25#32
  let v4041 : BitVec 32 := Scalar.addi v2 c25_i32_3653
  let c32_i32_3654 : BitVec 32 := 32#32
  let v4042 : BitVec 32 := Scalar.remsi v4041 c32_i32_3654
  let c1_i32_3659 : BitVec 32 := 1#32
  let v4045 : BitVec 32 := Scalar.muli v4042 c1_i32_3659
  let v4046 : BitVec 32 := Scalar.addi c0_i32_3660 v4045
  v4046.toNat
def k0_dev212 (d0 : Dev nD) : Nat :=
  let c0_i32_3670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3663 : BitVec 32 := 26#32
  let v4053 : BitVec 32 := Scalar.addi v2 c26_i32_3663
  let c32_i32_3664 : BitVec 32 := 32#32
  let v4054 : BitVec 32 := Scalar.remsi v4053 c32_i32_3664
  let c1_i32_3669 : BitVec 32 := 1#32
  let v4057 : BitVec 32 := Scalar.muli v4054 c1_i32_3669
  let v4058 : BitVec 32 := Scalar.addi c0_i32_3670 v4057
  v4058.toNat
def k0_dev213 (d0 : Dev nD) : Nat :=
  let c0_i32_3680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3673 : BitVec 32 := 27#32
  let v4065 : BitVec 32 := Scalar.addi v2 c27_i32_3673
  let c32_i32_3674 : BitVec 32 := 32#32
  let v4066 : BitVec 32 := Scalar.remsi v4065 c32_i32_3674
  let c1_i32_3679 : BitVec 32 := 1#32
  let v4069 : BitVec 32 := Scalar.muli v4066 c1_i32_3679
  let v4070 : BitVec 32 := Scalar.addi c0_i32_3680 v4069
  v4070.toNat
def k0_dev214 (d0 : Dev nD) : Nat :=
  let c0_i32_3690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3683 : BitVec 32 := 28#32
  let v4077 : BitVec 32 := Scalar.addi v2 c28_i32_3683
  let c32_i32_3684 : BitVec 32 := 32#32
  let v4078 : BitVec 32 := Scalar.remsi v4077 c32_i32_3684
  let c1_i32_3689 : BitVec 32 := 1#32
  let v4081 : BitVec 32 := Scalar.muli v4078 c1_i32_3689
  let v4082 : BitVec 32 := Scalar.addi c0_i32_3690 v4081
  v4082.toNat
def k0_dev215 (d0 : Dev nD) : Nat :=
  let c0_i32_3700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3693 : BitVec 32 := 29#32
  let v4089 : BitVec 32 := Scalar.addi v2 c29_i32_3693
  let c32_i32_3694 : BitVec 32 := 32#32
  let v4090 : BitVec 32 := Scalar.remsi v4089 c32_i32_3694
  let c1_i32_3699 : BitVec 32 := 1#32
  let v4093 : BitVec 32 := Scalar.muli v4090 c1_i32_3699
  let v4094 : BitVec 32 := Scalar.addi c0_i32_3700 v4093
  v4094.toNat
def k0_dev216 (d0 : Dev nD) : Nat :=
  let c0_i32_3710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3703 : BitVec 32 := 30#32
  let v4101 : BitVec 32 := Scalar.addi v2 c30_i32_3703
  let c32_i32_3704 : BitVec 32 := 32#32
  let v4102 : BitVec 32 := Scalar.remsi v4101 c32_i32_3704
  let c1_i32_3709 : BitVec 32 := 1#32
  let v4105 : BitVec 32 := Scalar.muli v4102 c1_i32_3709
  let v4106 : BitVec 32 := Scalar.addi c0_i32_3710 v4105
  v4106.toNat
def k0_dev217 (d0 : Dev nD) : Nat :=
  let c0_i32_3720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3713 : BitVec 32 := 31#32
  let v4113 : BitVec 32 := Scalar.addi v2 c31_i32_3713
  let c32_i32_3714 : BitVec 32 := 32#32
  let v4114 : BitVec 32 := Scalar.remsi v4113 c32_i32_3714
  let c1_i32_3719 : BitVec 32 := 1#32
  let v4117 : BitVec 32 := Scalar.muli v4114 c1_i32_3719
  let v4118 : BitVec 32 := Scalar.addi c0_i32_3720 v4117
  v4118.toNat
def k0_dev218 (d0 : Dev nD) : Nat :=
  let c0_i32_4234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4229 : BitVec 32 := 1#32
  let v4666 : BitVec 32 := Scalar.addi v2 c1_i32_4229
  let c32_i32_4230 : BitVec 32 := 32#32
  let v4667 : BitVec 32 := Scalar.remsi v4666 c32_i32_4230
  let c1_i32_4233 : BitVec 32 := 1#32
  let v4668 : BitVec 32 := Scalar.muli v4667 c1_i32_4233
  let v4669 : BitVec 32 := Scalar.addi c0_i32_4234 v4668
  v4669.toNat
def k0_dev219 (d0 : Dev nD) : Nat :=
  let c0_i32_4242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4237 : BitVec 32 := 2#32
  let v4676 : BitVec 32 := Scalar.addi v2 c2_i32_4237
  let c32_i32_4238 : BitVec 32 := 32#32
  let v4677 : BitVec 32 := Scalar.remsi v4676 c32_i32_4238
  let c1_i32_4241 : BitVec 32 := 1#32
  let v4678 : BitVec 32 := Scalar.muli v4677 c1_i32_4241
  let v4679 : BitVec 32 := Scalar.addi c0_i32_4242 v4678
  v4679.toNat
def k0_dev220 (d0 : Dev nD) : Nat :=
  let c0_i32_4250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4245 : BitVec 32 := 3#32
  let v4686 : BitVec 32 := Scalar.addi v2 c3_i32_4245
  let c32_i32_4246 : BitVec 32 := 32#32
  let v4687 : BitVec 32 := Scalar.remsi v4686 c32_i32_4246
  let c1_i32_4249 : BitVec 32 := 1#32
  let v4688 : BitVec 32 := Scalar.muli v4687 c1_i32_4249
  let v4689 : BitVec 32 := Scalar.addi c0_i32_4250 v4688
  v4689.toNat
def k0_dev221 (d0 : Dev nD) : Nat :=
  let c0_i32_4258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_4253 : BitVec 32 := 4#32
  let v4696 : BitVec 32 := Scalar.addi v2 c4_i32_4253
  let c32_i32_4254 : BitVec 32 := 32#32
  let v4697 : BitVec 32 := Scalar.remsi v4696 c32_i32_4254
  let c1_i32_4257 : BitVec 32 := 1#32
  let v4698 : BitVec 32 := Scalar.muli v4697 c1_i32_4257
  let v4699 : BitVec 32 := Scalar.addi c0_i32_4258 v4698
  v4699.toNat
def k0_dev222 (d0 : Dev nD) : Nat :=
  let c0_i32_4266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_4261 : BitVec 32 := 5#32
  let v4706 : BitVec 32 := Scalar.addi v2 c5_i32_4261
  let c32_i32_4262 : BitVec 32 := 32#32
  let v4707 : BitVec 32 := Scalar.remsi v4706 c32_i32_4262
  let c1_i32_4265 : BitVec 32 := 1#32
  let v4708 : BitVec 32 := Scalar.muli v4707 c1_i32_4265
  let v4709 : BitVec 32 := Scalar.addi c0_i32_4266 v4708
  v4709.toNat
def k0_dev223 (d0 : Dev nD) : Nat :=
  let c0_i32_4274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_4269 : BitVec 32 := 6#32
  let v4716 : BitVec 32 := Scalar.addi v2 c6_i32_4269
  let c32_i32_4270 : BitVec 32 := 32#32
  let v4717 : BitVec 32 := Scalar.remsi v4716 c32_i32_4270
  let c1_i32_4273 : BitVec 32 := 1#32
  let v4718 : BitVec 32 := Scalar.muli v4717 c1_i32_4273
  let v4719 : BitVec 32 := Scalar.addi c0_i32_4274 v4718
  v4719.toNat
def k0_dev224 (d0 : Dev nD) : Nat :=
  let c0_i32_4282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_4277 : BitVec 32 := 7#32
  let v4726 : BitVec 32 := Scalar.addi v2 c7_i32_4277
  let c32_i32_4278 : BitVec 32 := 32#32
  let v4727 : BitVec 32 := Scalar.remsi v4726 c32_i32_4278
  let c1_i32_4281 : BitVec 32 := 1#32
  let v4728 : BitVec 32 := Scalar.muli v4727 c1_i32_4281
  let v4729 : BitVec 32 := Scalar.addi c0_i32_4282 v4728
  v4729.toNat
def k0_dev225 (d0 : Dev nD) : Nat :=
  let c0_i32_4290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_4285 : BitVec 32 := 8#32
  let v4736 : BitVec 32 := Scalar.addi v2 c8_i32_4285
  let c32_i32_4286 : BitVec 32 := 32#32
  let v4737 : BitVec 32 := Scalar.remsi v4736 c32_i32_4286
  let c1_i32_4289 : BitVec 32 := 1#32
  let v4738 : BitVec 32 := Scalar.muli v4737 c1_i32_4289
  let v4739 : BitVec 32 := Scalar.addi c0_i32_4290 v4738
  v4739.toNat
def k0_dev226 (d0 : Dev nD) : Nat :=
  let c0_i32_4298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_4293 : BitVec 32 := 9#32
  let v4746 : BitVec 32 := Scalar.addi v2 c9_i32_4293
  let c32_i32_4294 : BitVec 32 := 32#32
  let v4747 : BitVec 32 := Scalar.remsi v4746 c32_i32_4294
  let c1_i32_4297 : BitVec 32 := 1#32
  let v4748 : BitVec 32 := Scalar.muli v4747 c1_i32_4297
  let v4749 : BitVec 32 := Scalar.addi c0_i32_4298 v4748
  v4749.toNat
def k0_dev227 (d0 : Dev nD) : Nat :=
  let c0_i32_4306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_4301 : BitVec 32 := 10#32
  let v4756 : BitVec 32 := Scalar.addi v2 c10_i32_4301
  let c32_i32_4302 : BitVec 32 := 32#32
  let v4757 : BitVec 32 := Scalar.remsi v4756 c32_i32_4302
  let c1_i32_4305 : BitVec 32 := 1#32
  let v4758 : BitVec 32 := Scalar.muli v4757 c1_i32_4305
  let v4759 : BitVec 32 := Scalar.addi c0_i32_4306 v4758
  v4759.toNat
def k0_dev228 (d0 : Dev nD) : Nat :=
  let c0_i32_4314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_4309 : BitVec 32 := 11#32
  let v4766 : BitVec 32 := Scalar.addi v2 c11_i32_4309
  let c32_i32_4310 : BitVec 32 := 32#32
  let v4767 : BitVec 32 := Scalar.remsi v4766 c32_i32_4310
  let c1_i32_4313 : BitVec 32 := 1#32
  let v4768 : BitVec 32 := Scalar.muli v4767 c1_i32_4313
  let v4769 : BitVec 32 := Scalar.addi c0_i32_4314 v4768
  v4769.toNat
def k0_dev229 (d0 : Dev nD) : Nat :=
  let c0_i32_4322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_4317 : BitVec 32 := 12#32
  let v4776 : BitVec 32 := Scalar.addi v2 c12_i32_4317
  let c32_i32_4318 : BitVec 32 := 32#32
  let v4777 : BitVec 32 := Scalar.remsi v4776 c32_i32_4318
  let c1_i32_4321 : BitVec 32 := 1#32
  let v4778 : BitVec 32 := Scalar.muli v4777 c1_i32_4321
  let v4779 : BitVec 32 := Scalar.addi c0_i32_4322 v4778
  v4779.toNat
def k0_dev230 (d0 : Dev nD) : Nat :=
  let c0_i32_4330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_4325 : BitVec 32 := 13#32
  let v4786 : BitVec 32 := Scalar.addi v2 c13_i32_4325
  let c32_i32_4326 : BitVec 32 := 32#32
  let v4787 : BitVec 32 := Scalar.remsi v4786 c32_i32_4326
  let c1_i32_4329 : BitVec 32 := 1#32
  let v4788 : BitVec 32 := Scalar.muli v4787 c1_i32_4329
  let v4789 : BitVec 32 := Scalar.addi c0_i32_4330 v4788
  v4789.toNat
def k0_dev231 (d0 : Dev nD) : Nat :=
  let c0_i32_4338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_4333 : BitVec 32 := 14#32
  let v4796 : BitVec 32 := Scalar.addi v2 c14_i32_4333
  let c32_i32_4334 : BitVec 32 := 32#32
  let v4797 : BitVec 32 := Scalar.remsi v4796 c32_i32_4334
  let c1_i32_4337 : BitVec 32 := 1#32
  let v4798 : BitVec 32 := Scalar.muli v4797 c1_i32_4337
  let v4799 : BitVec 32 := Scalar.addi c0_i32_4338 v4798
  v4799.toNat
def k0_dev232 (d0 : Dev nD) : Nat :=
  let c0_i32_4346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_4341 : BitVec 32 := 15#32
  let v4806 : BitVec 32 := Scalar.addi v2 c15_i32_4341
  let c32_i32_4342 : BitVec 32 := 32#32
  let v4807 : BitVec 32 := Scalar.remsi v4806 c32_i32_4342
  let c1_i32_4345 : BitVec 32 := 1#32
  let v4808 : BitVec 32 := Scalar.muli v4807 c1_i32_4345
  let v4809 : BitVec 32 := Scalar.addi c0_i32_4346 v4808
  v4809.toNat
def k0_dev233 (d0 : Dev nD) : Nat :=
  let c0_i32_4354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4349 : BitVec 32 := 16#32
  let v4816 : BitVec 32 := Scalar.addi v2 c16_i32_4349
  let c32_i32_4350 : BitVec 32 := 32#32
  let v4817 : BitVec 32 := Scalar.remsi v4816 c32_i32_4350
  let c1_i32_4353 : BitVec 32 := 1#32
  let v4818 : BitVec 32 := Scalar.muli v4817 c1_i32_4353
  let v4819 : BitVec 32 := Scalar.addi c0_i32_4354 v4818
  v4819.toNat
def k0_dev234 (d0 : Dev nD) : Nat :=
  let c0_i32_4362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_4357 : BitVec 32 := 17#32
  let v4826 : BitVec 32 := Scalar.addi v2 c17_i32_4357
  let c32_i32_4358 : BitVec 32 := 32#32
  let v4827 : BitVec 32 := Scalar.remsi v4826 c32_i32_4358
  let c1_i32_4361 : BitVec 32 := 1#32
  let v4828 : BitVec 32 := Scalar.muli v4827 c1_i32_4361
  let v4829 : BitVec 32 := Scalar.addi c0_i32_4362 v4828
  v4829.toNat
def k0_dev235 (d0 : Dev nD) : Nat :=
  let c0_i32_4370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_4365 : BitVec 32 := 18#32
  let v4836 : BitVec 32 := Scalar.addi v2 c18_i32_4365
  let c32_i32_4366 : BitVec 32 := 32#32
  let v4837 : BitVec 32 := Scalar.remsi v4836 c32_i32_4366
  let c1_i32_4369 : BitVec 32 := 1#32
  let v4838 : BitVec 32 := Scalar.muli v4837 c1_i32_4369
  let v4839 : BitVec 32 := Scalar.addi c0_i32_4370 v4838
  v4839.toNat
def k0_dev236 (d0 : Dev nD) : Nat :=
  let c0_i32_4378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_4373 : BitVec 32 := 19#32
  let v4846 : BitVec 32 := Scalar.addi v2 c19_i32_4373
  let c32_i32_4374 : BitVec 32 := 32#32
  let v4847 : BitVec 32 := Scalar.remsi v4846 c32_i32_4374
  let c1_i32_4377 : BitVec 32 := 1#32
  let v4848 : BitVec 32 := Scalar.muli v4847 c1_i32_4377
  let v4849 : BitVec 32 := Scalar.addi c0_i32_4378 v4848
  v4849.toNat
def k0_dev237 (d0 : Dev nD) : Nat :=
  let c0_i32_4386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4381 : BitVec 32 := 20#32
  let v4856 : BitVec 32 := Scalar.addi v2 c20_i32_4381
  let c32_i32_4382 : BitVec 32 := 32#32
  let v4857 : BitVec 32 := Scalar.remsi v4856 c32_i32_4382
  let c1_i32_4385 : BitVec 32 := 1#32
  let v4858 : BitVec 32 := Scalar.muli v4857 c1_i32_4385
  let v4859 : BitVec 32 := Scalar.addi c0_i32_4386 v4858
  v4859.toNat
def k0_dev238 (d0 : Dev nD) : Nat :=
  let c0_i32_4394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4389 : BitVec 32 := 21#32
  let v4866 : BitVec 32 := Scalar.addi v2 c21_i32_4389
  let c32_i32_4390 : BitVec 32 := 32#32
  let v4867 : BitVec 32 := Scalar.remsi v4866 c32_i32_4390
  let c1_i32_4393 : BitVec 32 := 1#32
  let v4868 : BitVec 32 := Scalar.muli v4867 c1_i32_4393
  let v4869 : BitVec 32 := Scalar.addi c0_i32_4394 v4868
  v4869.toNat
def k0_dev239 (d0 : Dev nD) : Nat :=
  let c0_i32_4402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4397 : BitVec 32 := 22#32
  let v4876 : BitVec 32 := Scalar.addi v2 c22_i32_4397
  let c32_i32_4398 : BitVec 32 := 32#32
  let v4877 : BitVec 32 := Scalar.remsi v4876 c32_i32_4398
  let c1_i32_4401 : BitVec 32 := 1#32
  let v4878 : BitVec 32 := Scalar.muli v4877 c1_i32_4401
  let v4879 : BitVec 32 := Scalar.addi c0_i32_4402 v4878
  v4879.toNat
def k0_dev240 (d0 : Dev nD) : Nat :=
  let c0_i32_4410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4405 : BitVec 32 := 23#32
  let v4886 : BitVec 32 := Scalar.addi v2 c23_i32_4405
  let c32_i32_4406 : BitVec 32 := 32#32
  let v4887 : BitVec 32 := Scalar.remsi v4886 c32_i32_4406
  let c1_i32_4409 : BitVec 32 := 1#32
  let v4888 : BitVec 32 := Scalar.muli v4887 c1_i32_4409
  let v4889 : BitVec 32 := Scalar.addi c0_i32_4410 v4888
  v4889.toNat
def k0_dev241 (d0 : Dev nD) : Nat :=
  let c0_i32_4418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4413 : BitVec 32 := 24#32
  let v4896 : BitVec 32 := Scalar.addi v2 c24_i32_4413
  let c32_i32_4414 : BitVec 32 := 32#32
  let v4897 : BitVec 32 := Scalar.remsi v4896 c32_i32_4414
  let c1_i32_4417 : BitVec 32 := 1#32
  let v4898 : BitVec 32 := Scalar.muli v4897 c1_i32_4417
  let v4899 : BitVec 32 := Scalar.addi c0_i32_4418 v4898
  v4899.toNat
def k0_dev242 (d0 : Dev nD) : Nat :=
  let c0_i32_4426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4421 : BitVec 32 := 25#32
  let v4906 : BitVec 32 := Scalar.addi v2 c25_i32_4421
  let c32_i32_4422 : BitVec 32 := 32#32
  let v4907 : BitVec 32 := Scalar.remsi v4906 c32_i32_4422
  let c1_i32_4425 : BitVec 32 := 1#32
  let v4908 : BitVec 32 := Scalar.muli v4907 c1_i32_4425
  let v4909 : BitVec 32 := Scalar.addi c0_i32_4426 v4908
  v4909.toNat
def k0_dev243 (d0 : Dev nD) : Nat :=
  let c0_i32_4434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4429 : BitVec 32 := 26#32
  let v4916 : BitVec 32 := Scalar.addi v2 c26_i32_4429
  let c32_i32_4430 : BitVec 32 := 32#32
  let v4917 : BitVec 32 := Scalar.remsi v4916 c32_i32_4430
  let c1_i32_4433 : BitVec 32 := 1#32
  let v4918 : BitVec 32 := Scalar.muli v4917 c1_i32_4433
  let v4919 : BitVec 32 := Scalar.addi c0_i32_4434 v4918
  v4919.toNat
def k0_dev244 (d0 : Dev nD) : Nat :=
  let c0_i32_4442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4437 : BitVec 32 := 27#32
  let v4926 : BitVec 32 := Scalar.addi v2 c27_i32_4437
  let c32_i32_4438 : BitVec 32 := 32#32
  let v4927 : BitVec 32 := Scalar.remsi v4926 c32_i32_4438
  let c1_i32_4441 : BitVec 32 := 1#32
  let v4928 : BitVec 32 := Scalar.muli v4927 c1_i32_4441
  let v4929 : BitVec 32 := Scalar.addi c0_i32_4442 v4928
  v4929.toNat
def k0_dev245 (d0 : Dev nD) : Nat :=
  let c0_i32_4450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4445 : BitVec 32 := 28#32
  let v4936 : BitVec 32 := Scalar.addi v2 c28_i32_4445
  let c32_i32_4446 : BitVec 32 := 32#32
  let v4937 : BitVec 32 := Scalar.remsi v4936 c32_i32_4446
  let c1_i32_4449 : BitVec 32 := 1#32
  let v4938 : BitVec 32 := Scalar.muli v4937 c1_i32_4449
  let v4939 : BitVec 32 := Scalar.addi c0_i32_4450 v4938
  v4939.toNat
def k0_dev246 (d0 : Dev nD) : Nat :=
  let c0_i32_4458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4453 : BitVec 32 := 29#32
  let v4946 : BitVec 32 := Scalar.addi v2 c29_i32_4453
  let c32_i32_4454 : BitVec 32 := 32#32
  let v4947 : BitVec 32 := Scalar.remsi v4946 c32_i32_4454
  let c1_i32_4457 : BitVec 32 := 1#32
  let v4948 : BitVec 32 := Scalar.muli v4947 c1_i32_4457
  let v4949 : BitVec 32 := Scalar.addi c0_i32_4458 v4948
  v4949.toNat
def k0_dev247 (d0 : Dev nD) : Nat :=
  let c0_i32_4466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4461 : BitVec 32 := 30#32
  let v4956 : BitVec 32 := Scalar.addi v2 c30_i32_4461
  let c32_i32_4462 : BitVec 32 := 32#32
  let v4957 : BitVec 32 := Scalar.remsi v4956 c32_i32_4462
  let c1_i32_4465 : BitVec 32 := 1#32
  let v4958 : BitVec 32 := Scalar.muli v4957 c1_i32_4465
  let v4959 : BitVec 32 := Scalar.addi c0_i32_4466 v4958
  v4959.toNat
def k0_dev248 (d0 : Dev nD) : Nat :=
  let c0_i32_4474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4469 : BitVec 32 := 31#32
  let v4966 : BitVec 32 := Scalar.addi v2 c31_i32_4469
  let c32_i32_4470 : BitVec 32 := 32#32
  let v4967 : BitVec 32 := Scalar.remsi v4966 c32_i32_4470
  let c1_i32_4473 : BitVec 32 := 1#32
  let v4968 : BitVec 32 := Scalar.muli v4967 c1_i32_4473
  let v4969 : BitVec 32 := Scalar.addi c0_i32_4474 v4968
  v4969.toNat
def k0_dev249 (d0 : Dev nD) : Nat :=
  let c0_i32_4987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4982 : BitVec 32 := 1#32
  let v5516 : BitVec 32 := Scalar.addi v2 c1_i32_4982
  let c32_i32_4983 : BitVec 32 := 32#32
  let v5517 : BitVec 32 := Scalar.remsi v5516 c32_i32_4983
  let c1_i32_4986 : BitVec 32 := 1#32
  let v5518 : BitVec 32 := Scalar.muli v5517 c1_i32_4986
  let v5519 : BitVec 32 := Scalar.addi c0_i32_4987 v5518
  v5519.toNat
def k0_dev250 (d0 : Dev nD) : Nat :=
  let c0_i32_4995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_4990 : BitVec 32 := 2#32
  let v5526 : BitVec 32 := Scalar.addi v2 c2_i32_4990
  let c32_i32_4991 : BitVec 32 := 32#32
  let v5527 : BitVec 32 := Scalar.remsi v5526 c32_i32_4991
  let c1_i32_4994 : BitVec 32 := 1#32
  let v5528 : BitVec 32 := Scalar.muli v5527 c1_i32_4994
  let v5529 : BitVec 32 := Scalar.addi c0_i32_4995 v5528
  v5529.toNat
def k0_dev251 (d0 : Dev nD) : Nat :=
  let c0_i32_5003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_4998 : BitVec 32 := 3#32
  let v5536 : BitVec 32 := Scalar.addi v2 c3_i32_4998
  let c32_i32_4999 : BitVec 32 := 32#32
  let v5537 : BitVec 32 := Scalar.remsi v5536 c32_i32_4999
  let c1_i32_5002 : BitVec 32 := 1#32
  let v5538 : BitVec 32 := Scalar.muli v5537 c1_i32_5002
  let v5539 : BitVec 32 := Scalar.addi c0_i32_5003 v5538
  v5539.toNat
def k0_dev252 (d0 : Dev nD) : Nat :=
  let c0_i32_5011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_5006 : BitVec 32 := 4#32
  let v5546 : BitVec 32 := Scalar.addi v2 c4_i32_5006
  let c32_i32_5007 : BitVec 32 := 32#32
  let v5547 : BitVec 32 := Scalar.remsi v5546 c32_i32_5007
  let c1_i32_5010 : BitVec 32 := 1#32
  let v5548 : BitVec 32 := Scalar.muli v5547 c1_i32_5010
  let v5549 : BitVec 32 := Scalar.addi c0_i32_5011 v5548
  v5549.toNat
def k0_dev253 (d0 : Dev nD) : Nat :=
  let c0_i32_5019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_5014 : BitVec 32 := 5#32
  let v5556 : BitVec 32 := Scalar.addi v2 c5_i32_5014
  let c32_i32_5015 : BitVec 32 := 32#32
  let v5557 : BitVec 32 := Scalar.remsi v5556 c32_i32_5015
  let c1_i32_5018 : BitVec 32 := 1#32
  let v5558 : BitVec 32 := Scalar.muli v5557 c1_i32_5018
  let v5559 : BitVec 32 := Scalar.addi c0_i32_5019 v5558
  v5559.toNat
def k0_dev254 (d0 : Dev nD) : Nat :=
  let c0_i32_5027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_5022 : BitVec 32 := 6#32
  let v5566 : BitVec 32 := Scalar.addi v2 c6_i32_5022
  let c32_i32_5023 : BitVec 32 := 32#32
  let v5567 : BitVec 32 := Scalar.remsi v5566 c32_i32_5023
  let c1_i32_5026 : BitVec 32 := 1#32
  let v5568 : BitVec 32 := Scalar.muli v5567 c1_i32_5026
  let v5569 : BitVec 32 := Scalar.addi c0_i32_5027 v5568
  v5569.toNat
def k0_dev255 (d0 : Dev nD) : Nat :=
  let c0_i32_5035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_5030 : BitVec 32 := 7#32
  let v5576 : BitVec 32 := Scalar.addi v2 c7_i32_5030
  let c32_i32_5031 : BitVec 32 := 32#32
  let v5577 : BitVec 32 := Scalar.remsi v5576 c32_i32_5031
  let c1_i32_5034 : BitVec 32 := 1#32
  let v5578 : BitVec 32 := Scalar.muli v5577 c1_i32_5034
  let v5579 : BitVec 32 := Scalar.addi c0_i32_5035 v5578
  v5579.toNat
def k0_dev256 (d0 : Dev nD) : Nat :=
  let c0_i32_5043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5038 : BitVec 32 := 8#32
  let v5586 : BitVec 32 := Scalar.addi v2 c8_i32_5038
  let c32_i32_5039 : BitVec 32 := 32#32
  let v5587 : BitVec 32 := Scalar.remsi v5586 c32_i32_5039
  let c1_i32_5042 : BitVec 32 := 1#32
  let v5588 : BitVec 32 := Scalar.muli v5587 c1_i32_5042
  let v5589 : BitVec 32 := Scalar.addi c0_i32_5043 v5588
  v5589.toNat
def k0_dev257 (d0 : Dev nD) : Nat :=
  let c0_i32_5051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_5046 : BitVec 32 := 9#32
  let v5596 : BitVec 32 := Scalar.addi v2 c9_i32_5046
  let c32_i32_5047 : BitVec 32 := 32#32
  let v5597 : BitVec 32 := Scalar.remsi v5596 c32_i32_5047
  let c1_i32_5050 : BitVec 32 := 1#32
  let v5598 : BitVec 32 := Scalar.muli v5597 c1_i32_5050
  let v5599 : BitVec 32 := Scalar.addi c0_i32_5051 v5598
  v5599.toNat
def k0_dev258 (d0 : Dev nD) : Nat :=
  let c0_i32_5059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_5054 : BitVec 32 := 10#32
  let v5606 : BitVec 32 := Scalar.addi v2 c10_i32_5054
  let c32_i32_5055 : BitVec 32 := 32#32
  let v5607 : BitVec 32 := Scalar.remsi v5606 c32_i32_5055
  let c1_i32_5058 : BitVec 32 := 1#32
  let v5608 : BitVec 32 := Scalar.muli v5607 c1_i32_5058
  let v5609 : BitVec 32 := Scalar.addi c0_i32_5059 v5608
  v5609.toNat
def k0_dev259 (d0 : Dev nD) : Nat :=
  let c0_i32_5067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_5062 : BitVec 32 := 11#32
  let v5616 : BitVec 32 := Scalar.addi v2 c11_i32_5062
  let c32_i32_5063 : BitVec 32 := 32#32
  let v5617 : BitVec 32 := Scalar.remsi v5616 c32_i32_5063
  let c1_i32_5066 : BitVec 32 := 1#32
  let v5618 : BitVec 32 := Scalar.muli v5617 c1_i32_5066
  let v5619 : BitVec 32 := Scalar.addi c0_i32_5067 v5618
  v5619.toNat
def k0_dev260 (d0 : Dev nD) : Nat :=
  let c0_i32_5075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_5070 : BitVec 32 := 12#32
  let v5626 : BitVec 32 := Scalar.addi v2 c12_i32_5070
  let c32_i32_5071 : BitVec 32 := 32#32
  let v5627 : BitVec 32 := Scalar.remsi v5626 c32_i32_5071
  let c1_i32_5074 : BitVec 32 := 1#32
  let v5628 : BitVec 32 := Scalar.muli v5627 c1_i32_5074
  let v5629 : BitVec 32 := Scalar.addi c0_i32_5075 v5628
  v5629.toNat
def k0_dev261 (d0 : Dev nD) : Nat :=
  let c0_i32_5083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_5078 : BitVec 32 := 13#32
  let v5636 : BitVec 32 := Scalar.addi v2 c13_i32_5078
  let c32_i32_5079 : BitVec 32 := 32#32
  let v5637 : BitVec 32 := Scalar.remsi v5636 c32_i32_5079
  let c1_i32_5082 : BitVec 32 := 1#32
  let v5638 : BitVec 32 := Scalar.muli v5637 c1_i32_5082
  let v5639 : BitVec 32 := Scalar.addi c0_i32_5083 v5638
  v5639.toNat
def k0_dev262 (d0 : Dev nD) : Nat :=
  let c0_i32_5091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_5086 : BitVec 32 := 14#32
  let v5646 : BitVec 32 := Scalar.addi v2 c14_i32_5086
  let c32_i32_5087 : BitVec 32 := 32#32
  let v5647 : BitVec 32 := Scalar.remsi v5646 c32_i32_5087
  let c1_i32_5090 : BitVec 32 := 1#32
  let v5648 : BitVec 32 := Scalar.muli v5647 c1_i32_5090
  let v5649 : BitVec 32 := Scalar.addi c0_i32_5091 v5648
  v5649.toNat
def k0_dev263 (d0 : Dev nD) : Nat :=
  let c0_i32_5099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_5094 : BitVec 32 := 15#32
  let v5656 : BitVec 32 := Scalar.addi v2 c15_i32_5094
  let c32_i32_5095 : BitVec 32 := 32#32
  let v5657 : BitVec 32 := Scalar.remsi v5656 c32_i32_5095
  let c1_i32_5098 : BitVec 32 := 1#32
  let v5658 : BitVec 32 := Scalar.muli v5657 c1_i32_5098
  let v5659 : BitVec 32 := Scalar.addi c0_i32_5099 v5658
  v5659.toNat
def k0_dev264 (d0 : Dev nD) : Nat :=
  let c0_i32_5107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_5102 : BitVec 32 := 16#32
  let v5666 : BitVec 32 := Scalar.addi v2 c16_i32_5102
  let c32_i32_5103 : BitVec 32 := 32#32
  let v5667 : BitVec 32 := Scalar.remsi v5666 c32_i32_5103
  let c1_i32_5106 : BitVec 32 := 1#32
  let v5668 : BitVec 32 := Scalar.muli v5667 c1_i32_5106
  let v5669 : BitVec 32 := Scalar.addi c0_i32_5107 v5668
  v5669.toNat
def k0_dev265 (d0 : Dev nD) : Nat :=
  let c0_i32_5115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_5110 : BitVec 32 := 17#32
  let v5676 : BitVec 32 := Scalar.addi v2 c17_i32_5110
  let c32_i32_5111 : BitVec 32 := 32#32
  let v5677 : BitVec 32 := Scalar.remsi v5676 c32_i32_5111
  let c1_i32_5114 : BitVec 32 := 1#32
  let v5678 : BitVec 32 := Scalar.muli v5677 c1_i32_5114
  let v5679 : BitVec 32 := Scalar.addi c0_i32_5115 v5678
  v5679.toNat
def k0_dev266 (d0 : Dev nD) : Nat :=
  let c0_i32_5123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_5118 : BitVec 32 := 18#32
  let v5686 : BitVec 32 := Scalar.addi v2 c18_i32_5118
  let c32_i32_5119 : BitVec 32 := 32#32
  let v5687 : BitVec 32 := Scalar.remsi v5686 c32_i32_5119
  let c1_i32_5122 : BitVec 32 := 1#32
  let v5688 : BitVec 32 := Scalar.muli v5687 c1_i32_5122
  let v5689 : BitVec 32 := Scalar.addi c0_i32_5123 v5688
  v5689.toNat
def k0_dev267 (d0 : Dev nD) : Nat :=
  let c0_i32_5131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_5126 : BitVec 32 := 19#32
  let v5696 : BitVec 32 := Scalar.addi v2 c19_i32_5126
  let c32_i32_5127 : BitVec 32 := 32#32
  let v5697 : BitVec 32 := Scalar.remsi v5696 c32_i32_5127
  let c1_i32_5130 : BitVec 32 := 1#32
  let v5698 : BitVec 32 := Scalar.muli v5697 c1_i32_5130
  let v5699 : BitVec 32 := Scalar.addi c0_i32_5131 v5698
  v5699.toNat
def k0_dev268 (d0 : Dev nD) : Nat :=
  let c0_i32_5139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_5134 : BitVec 32 := 20#32
  let v5706 : BitVec 32 := Scalar.addi v2 c20_i32_5134
  let c32_i32_5135 : BitVec 32 := 32#32
  let v5707 : BitVec 32 := Scalar.remsi v5706 c32_i32_5135
  let c1_i32_5138 : BitVec 32 := 1#32
  let v5708 : BitVec 32 := Scalar.muli v5707 c1_i32_5138
  let v5709 : BitVec 32 := Scalar.addi c0_i32_5139 v5708
  v5709.toNat
def k0_dev269 (d0 : Dev nD) : Nat :=
  let c0_i32_5147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_5142 : BitVec 32 := 21#32
  let v5716 : BitVec 32 := Scalar.addi v2 c21_i32_5142
  let c32_i32_5143 : BitVec 32 := 32#32
  let v5717 : BitVec 32 := Scalar.remsi v5716 c32_i32_5143
  let c1_i32_5146 : BitVec 32 := 1#32
  let v5718 : BitVec 32 := Scalar.muli v5717 c1_i32_5146
  let v5719 : BitVec 32 := Scalar.addi c0_i32_5147 v5718
  v5719.toNat
def k0_dev270 (d0 : Dev nD) : Nat :=
  let c0_i32_5155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_5150 : BitVec 32 := 22#32
  let v5726 : BitVec 32 := Scalar.addi v2 c22_i32_5150
  let c32_i32_5151 : BitVec 32 := 32#32
  let v5727 : BitVec 32 := Scalar.remsi v5726 c32_i32_5151
  let c1_i32_5154 : BitVec 32 := 1#32
  let v5728 : BitVec 32 := Scalar.muli v5727 c1_i32_5154
  let v5729 : BitVec 32 := Scalar.addi c0_i32_5155 v5728
  v5729.toNat
def k0_dev271 (d0 : Dev nD) : Nat :=
  let c0_i32_5163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_5158 : BitVec 32 := 23#32
  let v5736 : BitVec 32 := Scalar.addi v2 c23_i32_5158
  let c32_i32_5159 : BitVec 32 := 32#32
  let v5737 : BitVec 32 := Scalar.remsi v5736 c32_i32_5159
  let c1_i32_5162 : BitVec 32 := 1#32
  let v5738 : BitVec 32 := Scalar.muli v5737 c1_i32_5162
  let v5739 : BitVec 32 := Scalar.addi c0_i32_5163 v5738
  v5739.toNat
def k0_dev272 (d0 : Dev nD) : Nat :=
  let c0_i32_5171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_5166 : BitVec 32 := 24#32
  let v5746 : BitVec 32 := Scalar.addi v2 c24_i32_5166
  let c32_i32_5167 : BitVec 32 := 32#32
  let v5747 : BitVec 32 := Scalar.remsi v5746 c32_i32_5167
  let c1_i32_5170 : BitVec 32 := 1#32
  let v5748 : BitVec 32 := Scalar.muli v5747 c1_i32_5170
  let v5749 : BitVec 32 := Scalar.addi c0_i32_5171 v5748
  v5749.toNat
def k0_dev273 (d0 : Dev nD) : Nat :=
  let c0_i32_5179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_5174 : BitVec 32 := 25#32
  let v5756 : BitVec 32 := Scalar.addi v2 c25_i32_5174
  let c32_i32_5175 : BitVec 32 := 32#32
  let v5757 : BitVec 32 := Scalar.remsi v5756 c32_i32_5175
  let c1_i32_5178 : BitVec 32 := 1#32
  let v5758 : BitVec 32 := Scalar.muli v5757 c1_i32_5178
  let v5759 : BitVec 32 := Scalar.addi c0_i32_5179 v5758
  v5759.toNat
def k0_dev274 (d0 : Dev nD) : Nat :=
  let c0_i32_5187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_5182 : BitVec 32 := 26#32
  let v5766 : BitVec 32 := Scalar.addi v2 c26_i32_5182
  let c32_i32_5183 : BitVec 32 := 32#32
  let v5767 : BitVec 32 := Scalar.remsi v5766 c32_i32_5183
  let c1_i32_5186 : BitVec 32 := 1#32
  let v5768 : BitVec 32 := Scalar.muli v5767 c1_i32_5186
  let v5769 : BitVec 32 := Scalar.addi c0_i32_5187 v5768
  v5769.toNat
def k0_dev275 (d0 : Dev nD) : Nat :=
  let c0_i32_5195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_5190 : BitVec 32 := 27#32
  let v5776 : BitVec 32 := Scalar.addi v2 c27_i32_5190
  let c32_i32_5191 : BitVec 32 := 32#32
  let v5777 : BitVec 32 := Scalar.remsi v5776 c32_i32_5191
  let c1_i32_5194 : BitVec 32 := 1#32
  let v5778 : BitVec 32 := Scalar.muli v5777 c1_i32_5194
  let v5779 : BitVec 32 := Scalar.addi c0_i32_5195 v5778
  v5779.toNat
def k0_dev276 (d0 : Dev nD) : Nat :=
  let c0_i32_5203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_5198 : BitVec 32 := 28#32
  let v5786 : BitVec 32 := Scalar.addi v2 c28_i32_5198
  let c32_i32_5199 : BitVec 32 := 32#32
  let v5787 : BitVec 32 := Scalar.remsi v5786 c32_i32_5199
  let c1_i32_5202 : BitVec 32 := 1#32
  let v5788 : BitVec 32 := Scalar.muli v5787 c1_i32_5202
  let v5789 : BitVec 32 := Scalar.addi c0_i32_5203 v5788
  v5789.toNat
def k0_dev277 (d0 : Dev nD) : Nat :=
  let c0_i32_5211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_5206 : BitVec 32 := 29#32
  let v5796 : BitVec 32 := Scalar.addi v2 c29_i32_5206
  let c32_i32_5207 : BitVec 32 := 32#32
  let v5797 : BitVec 32 := Scalar.remsi v5796 c32_i32_5207
  let c1_i32_5210 : BitVec 32 := 1#32
  let v5798 : BitVec 32 := Scalar.muli v5797 c1_i32_5210
  let v5799 : BitVec 32 := Scalar.addi c0_i32_5211 v5798
  v5799.toNat
def k0_dev278 (d0 : Dev nD) : Nat :=
  let c0_i32_5219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_5214 : BitVec 32 := 30#32
  let v5806 : BitVec 32 := Scalar.addi v2 c30_i32_5214
  let c32_i32_5215 : BitVec 32 := 32#32
  let v5807 : BitVec 32 := Scalar.remsi v5806 c32_i32_5215
  let c1_i32_5218 : BitVec 32 := 1#32
  let v5808 : BitVec 32 := Scalar.muli v5807 c1_i32_5218
  let v5809 : BitVec 32 := Scalar.addi c0_i32_5219 v5808
  v5809.toNat
def k0_dev279 (d0 : Dev nD) : Nat :=
  let c0_i32_5227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_5222 : BitVec 32 := 31#32
  let v5816 : BitVec 32 := Scalar.addi v2 c31_i32_5222
  let c32_i32_5223 : BitVec 32 := 32#32
  let v5817 : BitVec 32 := Scalar.remsi v5816 c32_i32_5223
  let c1_i32_5226 : BitVec 32 := 1#32
  let v5818 : BitVec 32 := Scalar.muli v5817 c1_i32_5226
  let v5819 : BitVec 32 := Scalar.addi c0_i32_5227 v5818
  v5819.toNat
def k0_dev280 (d0 : Dev nD) : Nat :=
  let c0_i32_6063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6056 : BitVec 32 := 1#32
  let v6595 : BitVec 32 := Scalar.addi v2 c1_i32_6056
  let c32_i32_6057 : BitVec 32 := 32#32
  let v6596 : BitVec 32 := Scalar.remsi v6595 c32_i32_6057
  let c1_i32_6062 : BitVec 32 := 1#32
  let v6599 : BitVec 32 := Scalar.muli v6596 c1_i32_6062
  let v6600 : BitVec 32 := Scalar.addi c0_i32_6063 v6599
  v6600.toNat
def k0_dev281 (d0 : Dev nD) : Nat :=
  let c0_i32_6073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_6066 : BitVec 32 := 2#32
  let v6607 : BitVec 32 := Scalar.addi v2 c2_i32_6066
  let c32_i32_6067 : BitVec 32 := 32#32
  let v6608 : BitVec 32 := Scalar.remsi v6607 c32_i32_6067
  let c1_i32_6072 : BitVec 32 := 1#32
  let v6611 : BitVec 32 := Scalar.muli v6608 c1_i32_6072
  let v6612 : BitVec 32 := Scalar.addi c0_i32_6073 v6611
  v6612.toNat
def k0_dev282 (d0 : Dev nD) : Nat :=
  let c0_i32_6083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_6076 : BitVec 32 := 3#32
  let v6619 : BitVec 32 := Scalar.addi v2 c3_i32_6076
  let c32_i32_6077 : BitVec 32 := 32#32
  let v6620 : BitVec 32 := Scalar.remsi v6619 c32_i32_6077
  let c1_i32_6082 : BitVec 32 := 1#32
  let v6623 : BitVec 32 := Scalar.muli v6620 c1_i32_6082
  let v6624 : BitVec 32 := Scalar.addi c0_i32_6083 v6623
  v6624.toNat
def k0_dev283 (d0 : Dev nD) : Nat :=
  let c0_i32_6093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_6086 : BitVec 32 := 4#32
  let v6631 : BitVec 32 := Scalar.addi v2 c4_i32_6086
  let c32_i32_6087 : BitVec 32 := 32#32
  let v6632 : BitVec 32 := Scalar.remsi v6631 c32_i32_6087
  let c1_i32_6092 : BitVec 32 := 1#32
  let v6635 : BitVec 32 := Scalar.muli v6632 c1_i32_6092
  let v6636 : BitVec 32 := Scalar.addi c0_i32_6093 v6635
  v6636.toNat
def k0_dev284 (d0 : Dev nD) : Nat :=
  let c0_i32_6103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_6096 : BitVec 32 := 5#32
  let v6643 : BitVec 32 := Scalar.addi v2 c5_i32_6096
  let c32_i32_6097 : BitVec 32 := 32#32
  let v6644 : BitVec 32 := Scalar.remsi v6643 c32_i32_6097
  let c1_i32_6102 : BitVec 32 := 1#32
  let v6647 : BitVec 32 := Scalar.muli v6644 c1_i32_6102
  let v6648 : BitVec 32 := Scalar.addi c0_i32_6103 v6647
  v6648.toNat
def k0_dev285 (d0 : Dev nD) : Nat :=
  let c0_i32_6113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_6106 : BitVec 32 := 6#32
  let v6655 : BitVec 32 := Scalar.addi v2 c6_i32_6106
  let c32_i32_6107 : BitVec 32 := 32#32
  let v6656 : BitVec 32 := Scalar.remsi v6655 c32_i32_6107
  let c1_i32_6112 : BitVec 32 := 1#32
  let v6659 : BitVec 32 := Scalar.muli v6656 c1_i32_6112
  let v6660 : BitVec 32 := Scalar.addi c0_i32_6113 v6659
  v6660.toNat
def k0_dev286 (d0 : Dev nD) : Nat :=
  let c0_i32_6123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_6116 : BitVec 32 := 7#32
  let v6667 : BitVec 32 := Scalar.addi v2 c7_i32_6116
  let c32_i32_6117 : BitVec 32 := 32#32
  let v6668 : BitVec 32 := Scalar.remsi v6667 c32_i32_6117
  let c1_i32_6122 : BitVec 32 := 1#32
  let v6671 : BitVec 32 := Scalar.muli v6668 c1_i32_6122
  let v6672 : BitVec 32 := Scalar.addi c0_i32_6123 v6671
  v6672.toNat
def k0_dev287 (d0 : Dev nD) : Nat :=
  let c0_i32_6133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_6126 : BitVec 32 := 8#32
  let v6679 : BitVec 32 := Scalar.addi v2 c8_i32_6126
  let c32_i32_6127 : BitVec 32 := 32#32
  let v6680 : BitVec 32 := Scalar.remsi v6679 c32_i32_6127
  let c1_i32_6132 : BitVec 32 := 1#32
  let v6683 : BitVec 32 := Scalar.muli v6680 c1_i32_6132
  let v6684 : BitVec 32 := Scalar.addi c0_i32_6133 v6683
  v6684.toNat
def k0_dev288 (d0 : Dev nD) : Nat :=
  let c0_i32_6143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_6136 : BitVec 32 := 9#32
  let v6691 : BitVec 32 := Scalar.addi v2 c9_i32_6136
  let c32_i32_6137 : BitVec 32 := 32#32
  let v6692 : BitVec 32 := Scalar.remsi v6691 c32_i32_6137
  let c1_i32_6142 : BitVec 32 := 1#32
  let v6695 : BitVec 32 := Scalar.muli v6692 c1_i32_6142
  let v6696 : BitVec 32 := Scalar.addi c0_i32_6143 v6695
  v6696.toNat
def k0_dev289 (d0 : Dev nD) : Nat :=
  let c0_i32_6153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_6146 : BitVec 32 := 10#32
  let v6703 : BitVec 32 := Scalar.addi v2 c10_i32_6146
  let c32_i32_6147 : BitVec 32 := 32#32
  let v6704 : BitVec 32 := Scalar.remsi v6703 c32_i32_6147
  let c1_i32_6152 : BitVec 32 := 1#32
  let v6707 : BitVec 32 := Scalar.muli v6704 c1_i32_6152
  let v6708 : BitVec 32 := Scalar.addi c0_i32_6153 v6707
  v6708.toNat
def k0_dev290 (d0 : Dev nD) : Nat :=
  let c0_i32_6163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_6156 : BitVec 32 := 11#32
  let v6715 : BitVec 32 := Scalar.addi v2 c11_i32_6156
  let c32_i32_6157 : BitVec 32 := 32#32
  let v6716 : BitVec 32 := Scalar.remsi v6715 c32_i32_6157
  let c1_i32_6162 : BitVec 32 := 1#32
  let v6719 : BitVec 32 := Scalar.muli v6716 c1_i32_6162
  let v6720 : BitVec 32 := Scalar.addi c0_i32_6163 v6719
  v6720.toNat
def k0_dev291 (d0 : Dev nD) : Nat :=
  let c0_i32_6173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_6166 : BitVec 32 := 12#32
  let v6727 : BitVec 32 := Scalar.addi v2 c12_i32_6166
  let c32_i32_6167 : BitVec 32 := 32#32
  let v6728 : BitVec 32 := Scalar.remsi v6727 c32_i32_6167
  let c1_i32_6172 : BitVec 32 := 1#32
  let v6731 : BitVec 32 := Scalar.muli v6728 c1_i32_6172
  let v6732 : BitVec 32 := Scalar.addi c0_i32_6173 v6731
  v6732.toNat
def k0_dev292 (d0 : Dev nD) : Nat :=
  let c0_i32_6183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_6176 : BitVec 32 := 13#32
  let v6739 : BitVec 32 := Scalar.addi v2 c13_i32_6176
  let c32_i32_6177 : BitVec 32 := 32#32
  let v6740 : BitVec 32 := Scalar.remsi v6739 c32_i32_6177
  let c1_i32_6182 : BitVec 32 := 1#32
  let v6743 : BitVec 32 := Scalar.muli v6740 c1_i32_6182
  let v6744 : BitVec 32 := Scalar.addi c0_i32_6183 v6743
  v6744.toNat
def k0_dev293 (d0 : Dev nD) : Nat :=
  let c0_i32_6193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_6186 : BitVec 32 := 14#32
  let v6751 : BitVec 32 := Scalar.addi v2 c14_i32_6186
  let c32_i32_6187 : BitVec 32 := 32#32
  let v6752 : BitVec 32 := Scalar.remsi v6751 c32_i32_6187
  let c1_i32_6192 : BitVec 32 := 1#32
  let v6755 : BitVec 32 := Scalar.muli v6752 c1_i32_6192
  let v6756 : BitVec 32 := Scalar.addi c0_i32_6193 v6755
  v6756.toNat
def k0_dev294 (d0 : Dev nD) : Nat :=
  let c0_i32_6203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_6196 : BitVec 32 := 15#32
  let v6763 : BitVec 32 := Scalar.addi v2 c15_i32_6196
  let c32_i32_6197 : BitVec 32 := 32#32
  let v6764 : BitVec 32 := Scalar.remsi v6763 c32_i32_6197
  let c1_i32_6202 : BitVec 32 := 1#32
  let v6767 : BitVec 32 := Scalar.muli v6764 c1_i32_6202
  let v6768 : BitVec 32 := Scalar.addi c0_i32_6203 v6767
  v6768.toNat
def k0_dev295 (d0 : Dev nD) : Nat :=
  let c0_i32_6213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_6206 : BitVec 32 := 16#32
  let v6775 : BitVec 32 := Scalar.addi v2 c16_i32_6206
  let c32_i32_6207 : BitVec 32 := 32#32
  let v6776 : BitVec 32 := Scalar.remsi v6775 c32_i32_6207
  let c1_i32_6212 : BitVec 32 := 1#32
  let v6779 : BitVec 32 := Scalar.muli v6776 c1_i32_6212
  let v6780 : BitVec 32 := Scalar.addi c0_i32_6213 v6779
  v6780.toNat
def k0_dev296 (d0 : Dev nD) : Nat :=
  let c0_i32_6223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_6216 : BitVec 32 := 17#32
  let v6787 : BitVec 32 := Scalar.addi v2 c17_i32_6216
  let c32_i32_6217 : BitVec 32 := 32#32
  let v6788 : BitVec 32 := Scalar.remsi v6787 c32_i32_6217
  let c1_i32_6222 : BitVec 32 := 1#32
  let v6791 : BitVec 32 := Scalar.muli v6788 c1_i32_6222
  let v6792 : BitVec 32 := Scalar.addi c0_i32_6223 v6791
  v6792.toNat
def k0_dev297 (d0 : Dev nD) : Nat :=
  let c0_i32_6233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_6226 : BitVec 32 := 18#32
  let v6799 : BitVec 32 := Scalar.addi v2 c18_i32_6226
  let c32_i32_6227 : BitVec 32 := 32#32
  let v6800 : BitVec 32 := Scalar.remsi v6799 c32_i32_6227
  let c1_i32_6232 : BitVec 32 := 1#32
  let v6803 : BitVec 32 := Scalar.muli v6800 c1_i32_6232
  let v6804 : BitVec 32 := Scalar.addi c0_i32_6233 v6803
  v6804.toNat
def k0_dev298 (d0 : Dev nD) : Nat :=
  let c0_i32_6243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_6236 : BitVec 32 := 19#32
  let v6811 : BitVec 32 := Scalar.addi v2 c19_i32_6236
  let c32_i32_6237 : BitVec 32 := 32#32
  let v6812 : BitVec 32 := Scalar.remsi v6811 c32_i32_6237
  let c1_i32_6242 : BitVec 32 := 1#32
  let v6815 : BitVec 32 := Scalar.muli v6812 c1_i32_6242
  let v6816 : BitVec 32 := Scalar.addi c0_i32_6243 v6815
  v6816.toNat
def k0_dev299 (d0 : Dev nD) : Nat :=
  let c0_i32_6253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_6246 : BitVec 32 := 20#32
  let v6823 : BitVec 32 := Scalar.addi v2 c20_i32_6246
  let c32_i32_6247 : BitVec 32 := 32#32
  let v6824 : BitVec 32 := Scalar.remsi v6823 c32_i32_6247
  let c1_i32_6252 : BitVec 32 := 1#32
  let v6827 : BitVec 32 := Scalar.muli v6824 c1_i32_6252
  let v6828 : BitVec 32 := Scalar.addi c0_i32_6253 v6827
  v6828.toNat
def k0_dev300 (d0 : Dev nD) : Nat :=
  let c0_i32_6263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_6256 : BitVec 32 := 21#32
  let v6835 : BitVec 32 := Scalar.addi v2 c21_i32_6256
  let c32_i32_6257 : BitVec 32 := 32#32
  let v6836 : BitVec 32 := Scalar.remsi v6835 c32_i32_6257
  let c1_i32_6262 : BitVec 32 := 1#32
  let v6839 : BitVec 32 := Scalar.muli v6836 c1_i32_6262
  let v6840 : BitVec 32 := Scalar.addi c0_i32_6263 v6839
  v6840.toNat
def k0_dev301 (d0 : Dev nD) : Nat :=
  let c0_i32_6273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_6266 : BitVec 32 := 22#32
  let v6847 : BitVec 32 := Scalar.addi v2 c22_i32_6266
  let c32_i32_6267 : BitVec 32 := 32#32
  let v6848 : BitVec 32 := Scalar.remsi v6847 c32_i32_6267
  let c1_i32_6272 : BitVec 32 := 1#32
  let v6851 : BitVec 32 := Scalar.muli v6848 c1_i32_6272
  let v6852 : BitVec 32 := Scalar.addi c0_i32_6273 v6851
  v6852.toNat
def k0_dev302 (d0 : Dev nD) : Nat :=
  let c0_i32_6283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_6276 : BitVec 32 := 23#32
  let v6859 : BitVec 32 := Scalar.addi v2 c23_i32_6276
  let c32_i32_6277 : BitVec 32 := 32#32
  let v6860 : BitVec 32 := Scalar.remsi v6859 c32_i32_6277
  let c1_i32_6282 : BitVec 32 := 1#32
  let v6863 : BitVec 32 := Scalar.muli v6860 c1_i32_6282
  let v6864 : BitVec 32 := Scalar.addi c0_i32_6283 v6863
  v6864.toNat
def k0_dev303 (d0 : Dev nD) : Nat :=
  let c0_i32_6293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_6286 : BitVec 32 := 24#32
  let v6871 : BitVec 32 := Scalar.addi v2 c24_i32_6286
  let c32_i32_6287 : BitVec 32 := 32#32
  let v6872 : BitVec 32 := Scalar.remsi v6871 c32_i32_6287
  let c1_i32_6292 : BitVec 32 := 1#32
  let v6875 : BitVec 32 := Scalar.muli v6872 c1_i32_6292
  let v6876 : BitVec 32 := Scalar.addi c0_i32_6293 v6875
  v6876.toNat
def k0_dev304 (d0 : Dev nD) : Nat :=
  let c0_i32_6303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_6296 : BitVec 32 := 25#32
  let v6883 : BitVec 32 := Scalar.addi v2 c25_i32_6296
  let c32_i32_6297 : BitVec 32 := 32#32
  let v6884 : BitVec 32 := Scalar.remsi v6883 c32_i32_6297
  let c1_i32_6302 : BitVec 32 := 1#32
  let v6887 : BitVec 32 := Scalar.muli v6884 c1_i32_6302
  let v6888 : BitVec 32 := Scalar.addi c0_i32_6303 v6887
  v6888.toNat
def k0_dev305 (d0 : Dev nD) : Nat :=
  let c0_i32_6313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_6306 : BitVec 32 := 26#32
  let v6895 : BitVec 32 := Scalar.addi v2 c26_i32_6306
  let c32_i32_6307 : BitVec 32 := 32#32
  let v6896 : BitVec 32 := Scalar.remsi v6895 c32_i32_6307
  let c1_i32_6312 : BitVec 32 := 1#32
  let v6899 : BitVec 32 := Scalar.muli v6896 c1_i32_6312
  let v6900 : BitVec 32 := Scalar.addi c0_i32_6313 v6899
  v6900.toNat
def k0_dev306 (d0 : Dev nD) : Nat :=
  let c0_i32_6323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_6316 : BitVec 32 := 27#32
  let v6907 : BitVec 32 := Scalar.addi v2 c27_i32_6316
  let c32_i32_6317 : BitVec 32 := 32#32
  let v6908 : BitVec 32 := Scalar.remsi v6907 c32_i32_6317
  let c1_i32_6322 : BitVec 32 := 1#32
  let v6911 : BitVec 32 := Scalar.muli v6908 c1_i32_6322
  let v6912 : BitVec 32 := Scalar.addi c0_i32_6323 v6911
  v6912.toNat
def k0_dev307 (d0 : Dev nD) : Nat :=
  let c0_i32_6333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_6326 : BitVec 32 := 28#32
  let v6919 : BitVec 32 := Scalar.addi v2 c28_i32_6326
  let c32_i32_6327 : BitVec 32 := 32#32
  let v6920 : BitVec 32 := Scalar.remsi v6919 c32_i32_6327
  let c1_i32_6332 : BitVec 32 := 1#32
  let v6923 : BitVec 32 := Scalar.muli v6920 c1_i32_6332
  let v6924 : BitVec 32 := Scalar.addi c0_i32_6333 v6923
  v6924.toNat
def k0_dev308 (d0 : Dev nD) : Nat :=
  let c0_i32_6343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_6336 : BitVec 32 := 29#32
  let v6931 : BitVec 32 := Scalar.addi v2 c29_i32_6336
  let c32_i32_6337 : BitVec 32 := 32#32
  let v6932 : BitVec 32 := Scalar.remsi v6931 c32_i32_6337
  let c1_i32_6342 : BitVec 32 := 1#32
  let v6935 : BitVec 32 := Scalar.muli v6932 c1_i32_6342
  let v6936 : BitVec 32 := Scalar.addi c0_i32_6343 v6935
  v6936.toNat
def k0_dev309 (d0 : Dev nD) : Nat :=
  let c0_i32_6353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_6346 : BitVec 32 := 30#32
  let v6943 : BitVec 32 := Scalar.addi v2 c30_i32_6346
  let c32_i32_6347 : BitVec 32 := 32#32
  let v6944 : BitVec 32 := Scalar.remsi v6943 c32_i32_6347
  let c1_i32_6352 : BitVec 32 := 1#32
  let v6947 : BitVec 32 := Scalar.muli v6944 c1_i32_6352
  let v6948 : BitVec 32 := Scalar.addi c0_i32_6353 v6947
  v6948.toNat
def k0_dev310 (d0 : Dev nD) : Nat :=
  let c0_i32_6363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_6356 : BitVec 32 := 31#32
  let v6955 : BitVec 32 := Scalar.addi v2 c31_i32_6356
  let c32_i32_6357 : BitVec 32 := 32#32
  let v6956 : BitVec 32 := Scalar.remsi v6955 c32_i32_6357
  let c1_i32_6362 : BitVec 32 := 1#32
  let v6959 : BitVec 32 := Scalar.muli v6956 c1_i32_6362
  let v6960 : BitVec 32 := Scalar.addi c0_i32_6363 v6959
  v6960.toNat
def k0_dev311 (d0 : Dev nD) : Nat :=
  let c0_i32_6382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6375 : BitVec 32 := 1#32
  let v6979 : BitVec 32 := Scalar.addi v2 c1_i32_6375
  let c32_i32_6376 : BitVec 32 := 32#32
  let v6980 : BitVec 32 := Scalar.remsi v6979 c32_i32_6376
  let c1_i32_6381 : BitVec 32 := 1#32
  let v6983 : BitVec 32 := Scalar.muli v6980 c1_i32_6381
  let v6984 : BitVec 32 := Scalar.addi c0_i32_6382 v6983
  v6984.toNat
def k0_dev312 (d0 : Dev nD) : Nat :=
  let c0_i32_6392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_6385 : BitVec 32 := 2#32
  let v6991 : BitVec 32 := Scalar.addi v2 c2_i32_6385
  let c32_i32_6386 : BitVec 32 := 32#32
  let v6992 : BitVec 32 := Scalar.remsi v6991 c32_i32_6386
  let c1_i32_6391 : BitVec 32 := 1#32
  let v6995 : BitVec 32 := Scalar.muli v6992 c1_i32_6391
  let v6996 : BitVec 32 := Scalar.addi c0_i32_6392 v6995
  v6996.toNat
def k0_dev313 (d0 : Dev nD) : Nat :=
  let c0_i32_6402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_6395 : BitVec 32 := 3#32
  let v7003 : BitVec 32 := Scalar.addi v2 c3_i32_6395
  let c32_i32_6396 : BitVec 32 := 32#32
  let v7004 : BitVec 32 := Scalar.remsi v7003 c32_i32_6396
  let c1_i32_6401 : BitVec 32 := 1#32
  let v7007 : BitVec 32 := Scalar.muli v7004 c1_i32_6401
  let v7008 : BitVec 32 := Scalar.addi c0_i32_6402 v7007
  v7008.toNat
def k0_dev314 (d0 : Dev nD) : Nat :=
  let c0_i32_6412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_6405 : BitVec 32 := 4#32
  let v7015 : BitVec 32 := Scalar.addi v2 c4_i32_6405
  let c32_i32_6406 : BitVec 32 := 32#32
  let v7016 : BitVec 32 := Scalar.remsi v7015 c32_i32_6406
  let c1_i32_6411 : BitVec 32 := 1#32
  let v7019 : BitVec 32 := Scalar.muli v7016 c1_i32_6411
  let v7020 : BitVec 32 := Scalar.addi c0_i32_6412 v7019
  v7020.toNat
def k0_dev315 (d0 : Dev nD) : Nat :=
  let c0_i32_6422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_6415 : BitVec 32 := 5#32
  let v7027 : BitVec 32 := Scalar.addi v2 c5_i32_6415
  let c32_i32_6416 : BitVec 32 := 32#32
  let v7028 : BitVec 32 := Scalar.remsi v7027 c32_i32_6416
  let c1_i32_6421 : BitVec 32 := 1#32
  let v7031 : BitVec 32 := Scalar.muli v7028 c1_i32_6421
  let v7032 : BitVec 32 := Scalar.addi c0_i32_6422 v7031
  v7032.toNat
def k0_dev316 (d0 : Dev nD) : Nat :=
  let c0_i32_6432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_6425 : BitVec 32 := 6#32
  let v7039 : BitVec 32 := Scalar.addi v2 c6_i32_6425
  let c32_i32_6426 : BitVec 32 := 32#32
  let v7040 : BitVec 32 := Scalar.remsi v7039 c32_i32_6426
  let c1_i32_6431 : BitVec 32 := 1#32
  let v7043 : BitVec 32 := Scalar.muli v7040 c1_i32_6431
  let v7044 : BitVec 32 := Scalar.addi c0_i32_6432 v7043
  v7044.toNat
def k0_dev317 (d0 : Dev nD) : Nat :=
  let c0_i32_6442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_6435 : BitVec 32 := 7#32
  let v7051 : BitVec 32 := Scalar.addi v2 c7_i32_6435
  let c32_i32_6436 : BitVec 32 := 32#32
  let v7052 : BitVec 32 := Scalar.remsi v7051 c32_i32_6436
  let c1_i32_6441 : BitVec 32 := 1#32
  let v7055 : BitVec 32 := Scalar.muli v7052 c1_i32_6441
  let v7056 : BitVec 32 := Scalar.addi c0_i32_6442 v7055
  v7056.toNat
def k0_dev318 (d0 : Dev nD) : Nat :=
  let c0_i32_6452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_6445 : BitVec 32 := 8#32
  let v7063 : BitVec 32 := Scalar.addi v2 c8_i32_6445
  let c32_i32_6446 : BitVec 32 := 32#32
  let v7064 : BitVec 32 := Scalar.remsi v7063 c32_i32_6446
  let c1_i32_6451 : BitVec 32 := 1#32
  let v7067 : BitVec 32 := Scalar.muli v7064 c1_i32_6451
  let v7068 : BitVec 32 := Scalar.addi c0_i32_6452 v7067
  v7068.toNat
def k0_dev319 (d0 : Dev nD) : Nat :=
  let c0_i32_6462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_6455 : BitVec 32 := 9#32
  let v7075 : BitVec 32 := Scalar.addi v2 c9_i32_6455
  let c32_i32_6456 : BitVec 32 := 32#32
  let v7076 : BitVec 32 := Scalar.remsi v7075 c32_i32_6456
  let c1_i32_6461 : BitVec 32 := 1#32
  let v7079 : BitVec 32 := Scalar.muli v7076 c1_i32_6461
  let v7080 : BitVec 32 := Scalar.addi c0_i32_6462 v7079
  v7080.toNat
def k0_dev320 (d0 : Dev nD) : Nat :=
  let c0_i32_6472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_6465 : BitVec 32 := 10#32
  let v7087 : BitVec 32 := Scalar.addi v2 c10_i32_6465
  let c32_i32_6466 : BitVec 32 := 32#32
  let v7088 : BitVec 32 := Scalar.remsi v7087 c32_i32_6466
  let c1_i32_6471 : BitVec 32 := 1#32
  let v7091 : BitVec 32 := Scalar.muli v7088 c1_i32_6471
  let v7092 : BitVec 32 := Scalar.addi c0_i32_6472 v7091
  v7092.toNat
def k0_dev321 (d0 : Dev nD) : Nat :=
  let c0_i32_6482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_6475 : BitVec 32 := 11#32
  let v7099 : BitVec 32 := Scalar.addi v2 c11_i32_6475
  let c32_i32_6476 : BitVec 32 := 32#32
  let v7100 : BitVec 32 := Scalar.remsi v7099 c32_i32_6476
  let c1_i32_6481 : BitVec 32 := 1#32
  let v7103 : BitVec 32 := Scalar.muli v7100 c1_i32_6481
  let v7104 : BitVec 32 := Scalar.addi c0_i32_6482 v7103
  v7104.toNat
def k0_dev322 (d0 : Dev nD) : Nat :=
  let c0_i32_6492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_6485 : BitVec 32 := 12#32
  let v7111 : BitVec 32 := Scalar.addi v2 c12_i32_6485
  let c32_i32_6486 : BitVec 32 := 32#32
  let v7112 : BitVec 32 := Scalar.remsi v7111 c32_i32_6486
  let c1_i32_6491 : BitVec 32 := 1#32
  let v7115 : BitVec 32 := Scalar.muli v7112 c1_i32_6491
  let v7116 : BitVec 32 := Scalar.addi c0_i32_6492 v7115
  v7116.toNat
def k0_dev323 (d0 : Dev nD) : Nat :=
  let c0_i32_6502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_6495 : BitVec 32 := 13#32
  let v7123 : BitVec 32 := Scalar.addi v2 c13_i32_6495
  let c32_i32_6496 : BitVec 32 := 32#32
  let v7124 : BitVec 32 := Scalar.remsi v7123 c32_i32_6496
  let c1_i32_6501 : BitVec 32 := 1#32
  let v7127 : BitVec 32 := Scalar.muli v7124 c1_i32_6501
  let v7128 : BitVec 32 := Scalar.addi c0_i32_6502 v7127
  v7128.toNat
def k0_dev324 (d0 : Dev nD) : Nat :=
  let c0_i32_6512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_6505 : BitVec 32 := 14#32
  let v7135 : BitVec 32 := Scalar.addi v2 c14_i32_6505
  let c32_i32_6506 : BitVec 32 := 32#32
  let v7136 : BitVec 32 := Scalar.remsi v7135 c32_i32_6506
  let c1_i32_6511 : BitVec 32 := 1#32
  let v7139 : BitVec 32 := Scalar.muli v7136 c1_i32_6511
  let v7140 : BitVec 32 := Scalar.addi c0_i32_6512 v7139
  v7140.toNat
def k0_dev325 (d0 : Dev nD) : Nat :=
  let c0_i32_6522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_6515 : BitVec 32 := 15#32
  let v7147 : BitVec 32 := Scalar.addi v2 c15_i32_6515
  let c32_i32_6516 : BitVec 32 := 32#32
  let v7148 : BitVec 32 := Scalar.remsi v7147 c32_i32_6516
  let c1_i32_6521 : BitVec 32 := 1#32
  let v7151 : BitVec 32 := Scalar.muli v7148 c1_i32_6521
  let v7152 : BitVec 32 := Scalar.addi c0_i32_6522 v7151
  v7152.toNat
def k0_dev326 (d0 : Dev nD) : Nat :=
  let c0_i32_6532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_6525 : BitVec 32 := 16#32
  let v7159 : BitVec 32 := Scalar.addi v2 c16_i32_6525
  let c32_i32_6526 : BitVec 32 := 32#32
  let v7160 : BitVec 32 := Scalar.remsi v7159 c32_i32_6526
  let c1_i32_6531 : BitVec 32 := 1#32
  let v7163 : BitVec 32 := Scalar.muli v7160 c1_i32_6531
  let v7164 : BitVec 32 := Scalar.addi c0_i32_6532 v7163
  v7164.toNat
def k0_dev327 (d0 : Dev nD) : Nat :=
  let c0_i32_6542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_6535 : BitVec 32 := 17#32
  let v7171 : BitVec 32 := Scalar.addi v2 c17_i32_6535
  let c32_i32_6536 : BitVec 32 := 32#32
  let v7172 : BitVec 32 := Scalar.remsi v7171 c32_i32_6536
  let c1_i32_6541 : BitVec 32 := 1#32
  let v7175 : BitVec 32 := Scalar.muli v7172 c1_i32_6541
  let v7176 : BitVec 32 := Scalar.addi c0_i32_6542 v7175
  v7176.toNat
def k0_dev328 (d0 : Dev nD) : Nat :=
  let c0_i32_6552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_6545 : BitVec 32 := 18#32
  let v7183 : BitVec 32 := Scalar.addi v2 c18_i32_6545
  let c32_i32_6546 : BitVec 32 := 32#32
  let v7184 : BitVec 32 := Scalar.remsi v7183 c32_i32_6546
  let c1_i32_6551 : BitVec 32 := 1#32
  let v7187 : BitVec 32 := Scalar.muli v7184 c1_i32_6551
  let v7188 : BitVec 32 := Scalar.addi c0_i32_6552 v7187
  v7188.toNat
def k0_dev329 (d0 : Dev nD) : Nat :=
  let c0_i32_6562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_6555 : BitVec 32 := 19#32
  let v7195 : BitVec 32 := Scalar.addi v2 c19_i32_6555
  let c32_i32_6556 : BitVec 32 := 32#32
  let v7196 : BitVec 32 := Scalar.remsi v7195 c32_i32_6556
  let c1_i32_6561 : BitVec 32 := 1#32
  let v7199 : BitVec 32 := Scalar.muli v7196 c1_i32_6561
  let v7200 : BitVec 32 := Scalar.addi c0_i32_6562 v7199
  v7200.toNat
def k0_dev330 (d0 : Dev nD) : Nat :=
  let c0_i32_6572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_6565 : BitVec 32 := 20#32
  let v7207 : BitVec 32 := Scalar.addi v2 c20_i32_6565
  let c32_i32_6566 : BitVec 32 := 32#32
  let v7208 : BitVec 32 := Scalar.remsi v7207 c32_i32_6566
  let c1_i32_6571 : BitVec 32 := 1#32
  let v7211 : BitVec 32 := Scalar.muli v7208 c1_i32_6571
  let v7212 : BitVec 32 := Scalar.addi c0_i32_6572 v7211
  v7212.toNat
def k0_dev331 (d0 : Dev nD) : Nat :=
  let c0_i32_6582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_6575 : BitVec 32 := 21#32
  let v7219 : BitVec 32 := Scalar.addi v2 c21_i32_6575
  let c32_i32_6576 : BitVec 32 := 32#32
  let v7220 : BitVec 32 := Scalar.remsi v7219 c32_i32_6576
  let c1_i32_6581 : BitVec 32 := 1#32
  let v7223 : BitVec 32 := Scalar.muli v7220 c1_i32_6581
  let v7224 : BitVec 32 := Scalar.addi c0_i32_6582 v7223
  v7224.toNat
def k0_dev332 (d0 : Dev nD) : Nat :=
  let c0_i32_6592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_6585 : BitVec 32 := 22#32
  let v7231 : BitVec 32 := Scalar.addi v2 c22_i32_6585
  let c32_i32_6586 : BitVec 32 := 32#32
  let v7232 : BitVec 32 := Scalar.remsi v7231 c32_i32_6586
  let c1_i32_6591 : BitVec 32 := 1#32
  let v7235 : BitVec 32 := Scalar.muli v7232 c1_i32_6591
  let v7236 : BitVec 32 := Scalar.addi c0_i32_6592 v7235
  v7236.toNat
def k0_dev333 (d0 : Dev nD) : Nat :=
  let c0_i32_6602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_6595 : BitVec 32 := 23#32
  let v7243 : BitVec 32 := Scalar.addi v2 c23_i32_6595
  let c32_i32_6596 : BitVec 32 := 32#32
  let v7244 : BitVec 32 := Scalar.remsi v7243 c32_i32_6596
  let c1_i32_6601 : BitVec 32 := 1#32
  let v7247 : BitVec 32 := Scalar.muli v7244 c1_i32_6601
  let v7248 : BitVec 32 := Scalar.addi c0_i32_6602 v7247
  v7248.toNat
def k0_dev334 (d0 : Dev nD) : Nat :=
  let c0_i32_6612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_6605 : BitVec 32 := 24#32
  let v7255 : BitVec 32 := Scalar.addi v2 c24_i32_6605
  let c32_i32_6606 : BitVec 32 := 32#32
  let v7256 : BitVec 32 := Scalar.remsi v7255 c32_i32_6606
  let c1_i32_6611 : BitVec 32 := 1#32
  let v7259 : BitVec 32 := Scalar.muli v7256 c1_i32_6611
  let v7260 : BitVec 32 := Scalar.addi c0_i32_6612 v7259
  v7260.toNat
def k0_dev335 (d0 : Dev nD) : Nat :=
  let c0_i32_6622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_6615 : BitVec 32 := 25#32
  let v7267 : BitVec 32 := Scalar.addi v2 c25_i32_6615
  let c32_i32_6616 : BitVec 32 := 32#32
  let v7268 : BitVec 32 := Scalar.remsi v7267 c32_i32_6616
  let c1_i32_6621 : BitVec 32 := 1#32
  let v7271 : BitVec 32 := Scalar.muli v7268 c1_i32_6621
  let v7272 : BitVec 32 := Scalar.addi c0_i32_6622 v7271
  v7272.toNat
def k0_dev336 (d0 : Dev nD) : Nat :=
  let c0_i32_6632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_6625 : BitVec 32 := 26#32
  let v7279 : BitVec 32 := Scalar.addi v2 c26_i32_6625
  let c32_i32_6626 : BitVec 32 := 32#32
  let v7280 : BitVec 32 := Scalar.remsi v7279 c32_i32_6626
  let c1_i32_6631 : BitVec 32 := 1#32
  let v7283 : BitVec 32 := Scalar.muli v7280 c1_i32_6631
  let v7284 : BitVec 32 := Scalar.addi c0_i32_6632 v7283
  v7284.toNat
def k0_dev337 (d0 : Dev nD) : Nat :=
  let c0_i32_6642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_6635 : BitVec 32 := 27#32
  let v7291 : BitVec 32 := Scalar.addi v2 c27_i32_6635
  let c32_i32_6636 : BitVec 32 := 32#32
  let v7292 : BitVec 32 := Scalar.remsi v7291 c32_i32_6636
  let c1_i32_6641 : BitVec 32 := 1#32
  let v7295 : BitVec 32 := Scalar.muli v7292 c1_i32_6641
  let v7296 : BitVec 32 := Scalar.addi c0_i32_6642 v7295
  v7296.toNat
def k0_dev338 (d0 : Dev nD) : Nat :=
  let c0_i32_6652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_6645 : BitVec 32 := 28#32
  let v7303 : BitVec 32 := Scalar.addi v2 c28_i32_6645
  let c32_i32_6646 : BitVec 32 := 32#32
  let v7304 : BitVec 32 := Scalar.remsi v7303 c32_i32_6646
  let c1_i32_6651 : BitVec 32 := 1#32
  let v7307 : BitVec 32 := Scalar.muli v7304 c1_i32_6651
  let v7308 : BitVec 32 := Scalar.addi c0_i32_6652 v7307
  v7308.toNat
def k0_dev339 (d0 : Dev nD) : Nat :=
  let c0_i32_6662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_6655 : BitVec 32 := 29#32
  let v7315 : BitVec 32 := Scalar.addi v2 c29_i32_6655
  let c32_i32_6656 : BitVec 32 := 32#32
  let v7316 : BitVec 32 := Scalar.remsi v7315 c32_i32_6656
  let c1_i32_6661 : BitVec 32 := 1#32
  let v7319 : BitVec 32 := Scalar.muli v7316 c1_i32_6661
  let v7320 : BitVec 32 := Scalar.addi c0_i32_6662 v7319
  v7320.toNat
def k0_dev340 (d0 : Dev nD) : Nat :=
  let c0_i32_6672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_6665 : BitVec 32 := 30#32
  let v7327 : BitVec 32 := Scalar.addi v2 c30_i32_6665
  let c32_i32_6666 : BitVec 32 := 32#32
  let v7328 : BitVec 32 := Scalar.remsi v7327 c32_i32_6666
  let c1_i32_6671 : BitVec 32 := 1#32
  let v7331 : BitVec 32 := Scalar.muli v7328 c1_i32_6671
  let v7332 : BitVec 32 := Scalar.addi c0_i32_6672 v7331
  v7332.toNat
def k0_dev341 (d0 : Dev nD) : Nat :=
  let c0_i32_6682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_6675 : BitVec 32 := 31#32
  let v7339 : BitVec 32 := Scalar.addi v2 c31_i32_6675
  let c32_i32_6676 : BitVec 32 := 32#32
  let v7340 : BitVec 32 := Scalar.remsi v7339 c32_i32_6676
  let c1_i32_6681 : BitVec 32 := 1#32
  let v7343 : BitVec 32 := Scalar.muli v7340 c1_i32_6681
  let v7344 : BitVec 32 := Scalar.addi c0_i32_6682 v7343
  v7344.toNat
def k0_dev342 (d0 : Dev nD) : Nat :=
  let c0_i32_7196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7191 : BitVec 32 := 1#32
  let v7892 : BitVec 32 := Scalar.addi v2 c1_i32_7191
  let c32_i32_7192 : BitVec 32 := 32#32
  let v7893 : BitVec 32 := Scalar.remsi v7892 c32_i32_7192
  let c1_i32_7195 : BitVec 32 := 1#32
  let v7894 : BitVec 32 := Scalar.muli v7893 c1_i32_7195
  let v7895 : BitVec 32 := Scalar.addi c0_i32_7196 v7894
  v7895.toNat
def k0_dev343 (d0 : Dev nD) : Nat :=
  let c0_i32_7204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_7199 : BitVec 32 := 2#32
  let v7902 : BitVec 32 := Scalar.addi v2 c2_i32_7199
  let c32_i32_7200 : BitVec 32 := 32#32
  let v7903 : BitVec 32 := Scalar.remsi v7902 c32_i32_7200
  let c1_i32_7203 : BitVec 32 := 1#32
  let v7904 : BitVec 32 := Scalar.muli v7903 c1_i32_7203
  let v7905 : BitVec 32 := Scalar.addi c0_i32_7204 v7904
  v7905.toNat
def k0_dev344 (d0 : Dev nD) : Nat :=
  let c0_i32_7212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_7207 : BitVec 32 := 3#32
  let v7912 : BitVec 32 := Scalar.addi v2 c3_i32_7207
  let c32_i32_7208 : BitVec 32 := 32#32
  let v7913 : BitVec 32 := Scalar.remsi v7912 c32_i32_7208
  let c1_i32_7211 : BitVec 32 := 1#32
  let v7914 : BitVec 32 := Scalar.muli v7913 c1_i32_7211
  let v7915 : BitVec 32 := Scalar.addi c0_i32_7212 v7914
  v7915.toNat
def k0_dev345 (d0 : Dev nD) : Nat :=
  let c0_i32_7220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_7215 : BitVec 32 := 4#32
  let v7922 : BitVec 32 := Scalar.addi v2 c4_i32_7215
  let c32_i32_7216 : BitVec 32 := 32#32
  let v7923 : BitVec 32 := Scalar.remsi v7922 c32_i32_7216
  let c1_i32_7219 : BitVec 32 := 1#32
  let v7924 : BitVec 32 := Scalar.muli v7923 c1_i32_7219
  let v7925 : BitVec 32 := Scalar.addi c0_i32_7220 v7924
  v7925.toNat
def k0_dev346 (d0 : Dev nD) : Nat :=
  let c0_i32_7228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_7223 : BitVec 32 := 5#32
  let v7932 : BitVec 32 := Scalar.addi v2 c5_i32_7223
  let c32_i32_7224 : BitVec 32 := 32#32
  let v7933 : BitVec 32 := Scalar.remsi v7932 c32_i32_7224
  let c1_i32_7227 : BitVec 32 := 1#32
  let v7934 : BitVec 32 := Scalar.muli v7933 c1_i32_7227
  let v7935 : BitVec 32 := Scalar.addi c0_i32_7228 v7934
  v7935.toNat
def k0_dev347 (d0 : Dev nD) : Nat :=
  let c0_i32_7236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_7231 : BitVec 32 := 6#32
  let v7942 : BitVec 32 := Scalar.addi v2 c6_i32_7231
  let c32_i32_7232 : BitVec 32 := 32#32
  let v7943 : BitVec 32 := Scalar.remsi v7942 c32_i32_7232
  let c1_i32_7235 : BitVec 32 := 1#32
  let v7944 : BitVec 32 := Scalar.muli v7943 c1_i32_7235
  let v7945 : BitVec 32 := Scalar.addi c0_i32_7236 v7944
  v7945.toNat
def k0_dev348 (d0 : Dev nD) : Nat :=
  let c0_i32_7244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_7239 : BitVec 32 := 7#32
  let v7952 : BitVec 32 := Scalar.addi v2 c7_i32_7239
  let c32_i32_7240 : BitVec 32 := 32#32
  let v7953 : BitVec 32 := Scalar.remsi v7952 c32_i32_7240
  let c1_i32_7243 : BitVec 32 := 1#32
  let v7954 : BitVec 32 := Scalar.muli v7953 c1_i32_7243
  let v7955 : BitVec 32 := Scalar.addi c0_i32_7244 v7954
  v7955.toNat
def k0_dev349 (d0 : Dev nD) : Nat :=
  let c0_i32_7252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_7247 : BitVec 32 := 8#32
  let v7962 : BitVec 32 := Scalar.addi v2 c8_i32_7247
  let c32_i32_7248 : BitVec 32 := 32#32
  let v7963 : BitVec 32 := Scalar.remsi v7962 c32_i32_7248
  let c1_i32_7251 : BitVec 32 := 1#32
  let v7964 : BitVec 32 := Scalar.muli v7963 c1_i32_7251
  let v7965 : BitVec 32 := Scalar.addi c0_i32_7252 v7964
  v7965.toNat
def k0_dev350 (d0 : Dev nD) : Nat :=
  let c0_i32_7260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_7255 : BitVec 32 := 9#32
  let v7972 : BitVec 32 := Scalar.addi v2 c9_i32_7255
  let c32_i32_7256 : BitVec 32 := 32#32
  let v7973 : BitVec 32 := Scalar.remsi v7972 c32_i32_7256
  let c1_i32_7259 : BitVec 32 := 1#32
  let v7974 : BitVec 32 := Scalar.muli v7973 c1_i32_7259
  let v7975 : BitVec 32 := Scalar.addi c0_i32_7260 v7974
  v7975.toNat
def k0_dev351 (d0 : Dev nD) : Nat :=
  let c0_i32_7268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_7263 : BitVec 32 := 10#32
  let v7982 : BitVec 32 := Scalar.addi v2 c10_i32_7263
  let c32_i32_7264 : BitVec 32 := 32#32
  let v7983 : BitVec 32 := Scalar.remsi v7982 c32_i32_7264
  let c1_i32_7267 : BitVec 32 := 1#32
  let v7984 : BitVec 32 := Scalar.muli v7983 c1_i32_7267
  let v7985 : BitVec 32 := Scalar.addi c0_i32_7268 v7984
  v7985.toNat
def k0_dev352 (d0 : Dev nD) : Nat :=
  let c0_i32_7276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_7271 : BitVec 32 := 11#32
  let v7992 : BitVec 32 := Scalar.addi v2 c11_i32_7271
  let c32_i32_7272 : BitVec 32 := 32#32
  let v7993 : BitVec 32 := Scalar.remsi v7992 c32_i32_7272
  let c1_i32_7275 : BitVec 32 := 1#32
  let v7994 : BitVec 32 := Scalar.muli v7993 c1_i32_7275
  let v7995 : BitVec 32 := Scalar.addi c0_i32_7276 v7994
  v7995.toNat
def k0_dev353 (d0 : Dev nD) : Nat :=
  let c0_i32_7284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_7279 : BitVec 32 := 12#32
  let v8002 : BitVec 32 := Scalar.addi v2 c12_i32_7279
  let c32_i32_7280 : BitVec 32 := 32#32
  let v8003 : BitVec 32 := Scalar.remsi v8002 c32_i32_7280
  let c1_i32_7283 : BitVec 32 := 1#32
  let v8004 : BitVec 32 := Scalar.muli v8003 c1_i32_7283
  let v8005 : BitVec 32 := Scalar.addi c0_i32_7284 v8004
  v8005.toNat
def k0_dev354 (d0 : Dev nD) : Nat :=
  let c0_i32_7292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_7287 : BitVec 32 := 13#32
  let v8012 : BitVec 32 := Scalar.addi v2 c13_i32_7287
  let c32_i32_7288 : BitVec 32 := 32#32
  let v8013 : BitVec 32 := Scalar.remsi v8012 c32_i32_7288
  let c1_i32_7291 : BitVec 32 := 1#32
  let v8014 : BitVec 32 := Scalar.muli v8013 c1_i32_7291
  let v8015 : BitVec 32 := Scalar.addi c0_i32_7292 v8014
  v8015.toNat
def k0_dev355 (d0 : Dev nD) : Nat :=
  let c0_i32_7300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_7295 : BitVec 32 := 14#32
  let v8022 : BitVec 32 := Scalar.addi v2 c14_i32_7295
  let c32_i32_7296 : BitVec 32 := 32#32
  let v8023 : BitVec 32 := Scalar.remsi v8022 c32_i32_7296
  let c1_i32_7299 : BitVec 32 := 1#32
  let v8024 : BitVec 32 := Scalar.muli v8023 c1_i32_7299
  let v8025 : BitVec 32 := Scalar.addi c0_i32_7300 v8024
  v8025.toNat
def k0_dev356 (d0 : Dev nD) : Nat :=
  let c0_i32_7308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_7303 : BitVec 32 := 15#32
  let v8032 : BitVec 32 := Scalar.addi v2 c15_i32_7303
  let c32_i32_7304 : BitVec 32 := 32#32
  let v8033 : BitVec 32 := Scalar.remsi v8032 c32_i32_7304
  let c1_i32_7307 : BitVec 32 := 1#32
  let v8034 : BitVec 32 := Scalar.muli v8033 c1_i32_7307
  let v8035 : BitVec 32 := Scalar.addi c0_i32_7308 v8034
  v8035.toNat
def k0_dev357 (d0 : Dev nD) : Nat :=
  let c0_i32_7316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_7311 : BitVec 32 := 16#32
  let v8042 : BitVec 32 := Scalar.addi v2 c16_i32_7311
  let c32_i32_7312 : BitVec 32 := 32#32
  let v8043 : BitVec 32 := Scalar.remsi v8042 c32_i32_7312
  let c1_i32_7315 : BitVec 32 := 1#32
  let v8044 : BitVec 32 := Scalar.muli v8043 c1_i32_7315
  let v8045 : BitVec 32 := Scalar.addi c0_i32_7316 v8044
  v8045.toNat
def k0_dev358 (d0 : Dev nD) : Nat :=
  let c0_i32_7324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_7319 : BitVec 32 := 17#32
  let v8052 : BitVec 32 := Scalar.addi v2 c17_i32_7319
  let c32_i32_7320 : BitVec 32 := 32#32
  let v8053 : BitVec 32 := Scalar.remsi v8052 c32_i32_7320
  let c1_i32_7323 : BitVec 32 := 1#32
  let v8054 : BitVec 32 := Scalar.muli v8053 c1_i32_7323
  let v8055 : BitVec 32 := Scalar.addi c0_i32_7324 v8054
  v8055.toNat
def k0_dev359 (d0 : Dev nD) : Nat :=
  let c0_i32_7332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_7327 : BitVec 32 := 18#32
  let v8062 : BitVec 32 := Scalar.addi v2 c18_i32_7327
  let c32_i32_7328 : BitVec 32 := 32#32
  let v8063 : BitVec 32 := Scalar.remsi v8062 c32_i32_7328
  let c1_i32_7331 : BitVec 32 := 1#32
  let v8064 : BitVec 32 := Scalar.muli v8063 c1_i32_7331
  let v8065 : BitVec 32 := Scalar.addi c0_i32_7332 v8064
  v8065.toNat
def k0_dev360 (d0 : Dev nD) : Nat :=
  let c0_i32_7340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_7335 : BitVec 32 := 19#32
  let v8072 : BitVec 32 := Scalar.addi v2 c19_i32_7335
  let c32_i32_7336 : BitVec 32 := 32#32
  let v8073 : BitVec 32 := Scalar.remsi v8072 c32_i32_7336
  let c1_i32_7339 : BitVec 32 := 1#32
  let v8074 : BitVec 32 := Scalar.muli v8073 c1_i32_7339
  let v8075 : BitVec 32 := Scalar.addi c0_i32_7340 v8074
  v8075.toNat
def k0_dev361 (d0 : Dev nD) : Nat :=
  let c0_i32_7348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_7343 : BitVec 32 := 20#32
  let v8082 : BitVec 32 := Scalar.addi v2 c20_i32_7343
  let c32_i32_7344 : BitVec 32 := 32#32
  let v8083 : BitVec 32 := Scalar.remsi v8082 c32_i32_7344
  let c1_i32_7347 : BitVec 32 := 1#32
  let v8084 : BitVec 32 := Scalar.muli v8083 c1_i32_7347
  let v8085 : BitVec 32 := Scalar.addi c0_i32_7348 v8084
  v8085.toNat
def k0_dev362 (d0 : Dev nD) : Nat :=
  let c0_i32_7356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_7351 : BitVec 32 := 21#32
  let v8092 : BitVec 32 := Scalar.addi v2 c21_i32_7351
  let c32_i32_7352 : BitVec 32 := 32#32
  let v8093 : BitVec 32 := Scalar.remsi v8092 c32_i32_7352
  let c1_i32_7355 : BitVec 32 := 1#32
  let v8094 : BitVec 32 := Scalar.muli v8093 c1_i32_7355
  let v8095 : BitVec 32 := Scalar.addi c0_i32_7356 v8094
  v8095.toNat
def k0_dev363 (d0 : Dev nD) : Nat :=
  let c0_i32_7364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_7359 : BitVec 32 := 22#32
  let v8102 : BitVec 32 := Scalar.addi v2 c22_i32_7359
  let c32_i32_7360 : BitVec 32 := 32#32
  let v8103 : BitVec 32 := Scalar.remsi v8102 c32_i32_7360
  let c1_i32_7363 : BitVec 32 := 1#32
  let v8104 : BitVec 32 := Scalar.muli v8103 c1_i32_7363
  let v8105 : BitVec 32 := Scalar.addi c0_i32_7364 v8104
  v8105.toNat
def k0_dev364 (d0 : Dev nD) : Nat :=
  let c0_i32_7372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_7367 : BitVec 32 := 23#32
  let v8112 : BitVec 32 := Scalar.addi v2 c23_i32_7367
  let c32_i32_7368 : BitVec 32 := 32#32
  let v8113 : BitVec 32 := Scalar.remsi v8112 c32_i32_7368
  let c1_i32_7371 : BitVec 32 := 1#32
  let v8114 : BitVec 32 := Scalar.muli v8113 c1_i32_7371
  let v8115 : BitVec 32 := Scalar.addi c0_i32_7372 v8114
  v8115.toNat
def k0_dev365 (d0 : Dev nD) : Nat :=
  let c0_i32_7380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_7375 : BitVec 32 := 24#32
  let v8122 : BitVec 32 := Scalar.addi v2 c24_i32_7375
  let c32_i32_7376 : BitVec 32 := 32#32
  let v8123 : BitVec 32 := Scalar.remsi v8122 c32_i32_7376
  let c1_i32_7379 : BitVec 32 := 1#32
  let v8124 : BitVec 32 := Scalar.muli v8123 c1_i32_7379
  let v8125 : BitVec 32 := Scalar.addi c0_i32_7380 v8124
  v8125.toNat
def k0_dev366 (d0 : Dev nD) : Nat :=
  let c0_i32_7388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_7383 : BitVec 32 := 25#32
  let v8132 : BitVec 32 := Scalar.addi v2 c25_i32_7383
  let c32_i32_7384 : BitVec 32 := 32#32
  let v8133 : BitVec 32 := Scalar.remsi v8132 c32_i32_7384
  let c1_i32_7387 : BitVec 32 := 1#32
  let v8134 : BitVec 32 := Scalar.muli v8133 c1_i32_7387
  let v8135 : BitVec 32 := Scalar.addi c0_i32_7388 v8134
  v8135.toNat
def k0_dev367 (d0 : Dev nD) : Nat :=
  let c0_i32_7396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_7391 : BitVec 32 := 26#32
  let v8142 : BitVec 32 := Scalar.addi v2 c26_i32_7391
  let c32_i32_7392 : BitVec 32 := 32#32
  let v8143 : BitVec 32 := Scalar.remsi v8142 c32_i32_7392
  let c1_i32_7395 : BitVec 32 := 1#32
  let v8144 : BitVec 32 := Scalar.muli v8143 c1_i32_7395
  let v8145 : BitVec 32 := Scalar.addi c0_i32_7396 v8144
  v8145.toNat
def k0_dev368 (d0 : Dev nD) : Nat :=
  let c0_i32_7404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_7399 : BitVec 32 := 27#32
  let v8152 : BitVec 32 := Scalar.addi v2 c27_i32_7399
  let c32_i32_7400 : BitVec 32 := 32#32
  let v8153 : BitVec 32 := Scalar.remsi v8152 c32_i32_7400
  let c1_i32_7403 : BitVec 32 := 1#32
  let v8154 : BitVec 32 := Scalar.muli v8153 c1_i32_7403
  let v8155 : BitVec 32 := Scalar.addi c0_i32_7404 v8154
  v8155.toNat
def k0_dev369 (d0 : Dev nD) : Nat :=
  let c0_i32_7412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_7407 : BitVec 32 := 28#32
  let v8162 : BitVec 32 := Scalar.addi v2 c28_i32_7407
  let c32_i32_7408 : BitVec 32 := 32#32
  let v8163 : BitVec 32 := Scalar.remsi v8162 c32_i32_7408
  let c1_i32_7411 : BitVec 32 := 1#32
  let v8164 : BitVec 32 := Scalar.muli v8163 c1_i32_7411
  let v8165 : BitVec 32 := Scalar.addi c0_i32_7412 v8164
  v8165.toNat
def k0_dev370 (d0 : Dev nD) : Nat :=
  let c0_i32_7420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_7415 : BitVec 32 := 29#32
  let v8172 : BitVec 32 := Scalar.addi v2 c29_i32_7415
  let c32_i32_7416 : BitVec 32 := 32#32
  let v8173 : BitVec 32 := Scalar.remsi v8172 c32_i32_7416
  let c1_i32_7419 : BitVec 32 := 1#32
  let v8174 : BitVec 32 := Scalar.muli v8173 c1_i32_7419
  let v8175 : BitVec 32 := Scalar.addi c0_i32_7420 v8174
  v8175.toNat
def k0_dev371 (d0 : Dev nD) : Nat :=
  let c0_i32_7428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_7423 : BitVec 32 := 30#32
  let v8182 : BitVec 32 := Scalar.addi v2 c30_i32_7423
  let c32_i32_7424 : BitVec 32 := 32#32
  let v8183 : BitVec 32 := Scalar.remsi v8182 c32_i32_7424
  let c1_i32_7427 : BitVec 32 := 1#32
  let v8184 : BitVec 32 := Scalar.muli v8183 c1_i32_7427
  let v8185 : BitVec 32 := Scalar.addi c0_i32_7428 v8184
  v8185.toNat
def k0_dev372 (d0 : Dev nD) : Nat :=
  let c0_i32_7436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_7431 : BitVec 32 := 31#32
  let v8192 : BitVec 32 := Scalar.addi v2 c31_i32_7431
  let c32_i32_7432 : BitVec 32 := 32#32
  let v8193 : BitVec 32 := Scalar.remsi v8192 c32_i32_7432
  let c1_i32_7435 : BitVec 32 := 1#32
  let v8194 : BitVec 32 := Scalar.muli v8193 c1_i32_7435
  let v8195 : BitVec 32 := Scalar.addi c0_i32_7436 v8194
  v8195.toNat
def k0_dev373 (d0 : Dev nD) : Nat :=
  let c0_i32_7949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7944 : BitVec 32 := 1#32
  let v8742 : BitVec 32 := Scalar.addi v2 c1_i32_7944
  let c32_i32_7945 : BitVec 32 := 32#32
  let v8743 : BitVec 32 := Scalar.remsi v8742 c32_i32_7945
  let c1_i32_7948 : BitVec 32 := 1#32
  let v8744 : BitVec 32 := Scalar.muli v8743 c1_i32_7948
  let v8745 : BitVec 32 := Scalar.addi c0_i32_7949 v8744
  v8745.toNat
def k0_dev374 (d0 : Dev nD) : Nat :=
  let c0_i32_7957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_7952 : BitVec 32 := 2#32
  let v8752 : BitVec 32 := Scalar.addi v2 c2_i32_7952
  let c32_i32_7953 : BitVec 32 := 32#32
  let v8753 : BitVec 32 := Scalar.remsi v8752 c32_i32_7953
  let c1_i32_7956 : BitVec 32 := 1#32
  let v8754 : BitVec 32 := Scalar.muli v8753 c1_i32_7956
  let v8755 : BitVec 32 := Scalar.addi c0_i32_7957 v8754
  v8755.toNat
def k0_dev375 (d0 : Dev nD) : Nat :=
  let c0_i32_7965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_7960 : BitVec 32 := 3#32
  let v8762 : BitVec 32 := Scalar.addi v2 c3_i32_7960
  let c32_i32_7961 : BitVec 32 := 32#32
  let v8763 : BitVec 32 := Scalar.remsi v8762 c32_i32_7961
  let c1_i32_7964 : BitVec 32 := 1#32
  let v8764 : BitVec 32 := Scalar.muli v8763 c1_i32_7964
  let v8765 : BitVec 32 := Scalar.addi c0_i32_7965 v8764
  v8765.toNat
def k0_dev376 (d0 : Dev nD) : Nat :=
  let c0_i32_7973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_7968 : BitVec 32 := 4#32
  let v8772 : BitVec 32 := Scalar.addi v2 c4_i32_7968
  let c32_i32_7969 : BitVec 32 := 32#32
  let v8773 : BitVec 32 := Scalar.remsi v8772 c32_i32_7969
  let c1_i32_7972 : BitVec 32 := 1#32
  let v8774 : BitVec 32 := Scalar.muli v8773 c1_i32_7972
  let v8775 : BitVec 32 := Scalar.addi c0_i32_7973 v8774
  v8775.toNat
def k0_dev377 (d0 : Dev nD) : Nat :=
  let c0_i32_7981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_7976 : BitVec 32 := 5#32
  let v8782 : BitVec 32 := Scalar.addi v2 c5_i32_7976
  let c32_i32_7977 : BitVec 32 := 32#32
  let v8783 : BitVec 32 := Scalar.remsi v8782 c32_i32_7977
  let c1_i32_7980 : BitVec 32 := 1#32
  let v8784 : BitVec 32 := Scalar.muli v8783 c1_i32_7980
  let v8785 : BitVec 32 := Scalar.addi c0_i32_7981 v8784
  v8785.toNat
def k0_dev378 (d0 : Dev nD) : Nat :=
  let c0_i32_7989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_7984 : BitVec 32 := 6#32
  let v8792 : BitVec 32 := Scalar.addi v2 c6_i32_7984
  let c32_i32_7985 : BitVec 32 := 32#32
  let v8793 : BitVec 32 := Scalar.remsi v8792 c32_i32_7985
  let c1_i32_7988 : BitVec 32 := 1#32
  let v8794 : BitVec 32 := Scalar.muli v8793 c1_i32_7988
  let v8795 : BitVec 32 := Scalar.addi c0_i32_7989 v8794
  v8795.toNat
def k0_dev379 (d0 : Dev nD) : Nat :=
  let c0_i32_7997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_7992 : BitVec 32 := 7#32
  let v8802 : BitVec 32 := Scalar.addi v2 c7_i32_7992
  let c32_i32_7993 : BitVec 32 := 32#32
  let v8803 : BitVec 32 := Scalar.remsi v8802 c32_i32_7993
  let c1_i32_7996 : BitVec 32 := 1#32
  let v8804 : BitVec 32 := Scalar.muli v8803 c1_i32_7996
  let v8805 : BitVec 32 := Scalar.addi c0_i32_7997 v8804
  v8805.toNat
def k0_dev380 (d0 : Dev nD) : Nat :=
  let c0_i32_8005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_8000 : BitVec 32 := 8#32
  let v8812 : BitVec 32 := Scalar.addi v2 c8_i32_8000
  let c32_i32_8001 : BitVec 32 := 32#32
  let v8813 : BitVec 32 := Scalar.remsi v8812 c32_i32_8001
  let c1_i32_8004 : BitVec 32 := 1#32
  let v8814 : BitVec 32 := Scalar.muli v8813 c1_i32_8004
  let v8815 : BitVec 32 := Scalar.addi c0_i32_8005 v8814
  v8815.toNat
def k0_dev381 (d0 : Dev nD) : Nat :=
  let c0_i32_8013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_8008 : BitVec 32 := 9#32
  let v8822 : BitVec 32 := Scalar.addi v2 c9_i32_8008
  let c32_i32_8009 : BitVec 32 := 32#32
  let v8823 : BitVec 32 := Scalar.remsi v8822 c32_i32_8009
  let c1_i32_8012 : BitVec 32 := 1#32
  let v8824 : BitVec 32 := Scalar.muli v8823 c1_i32_8012
  let v8825 : BitVec 32 := Scalar.addi c0_i32_8013 v8824
  v8825.toNat
def k0_dev382 (d0 : Dev nD) : Nat :=
  let c0_i32_8021 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_8016 : BitVec 32 := 10#32
  let v8832 : BitVec 32 := Scalar.addi v2 c10_i32_8016
  let c32_i32_8017 : BitVec 32 := 32#32
  let v8833 : BitVec 32 := Scalar.remsi v8832 c32_i32_8017
  let c1_i32_8020 : BitVec 32 := 1#32
  let v8834 : BitVec 32 := Scalar.muli v8833 c1_i32_8020
  let v8835 : BitVec 32 := Scalar.addi c0_i32_8021 v8834
  v8835.toNat
def k0_dev383 (d0 : Dev nD) : Nat :=
  let c0_i32_8029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_8024 : BitVec 32 := 11#32
  let v8842 : BitVec 32 := Scalar.addi v2 c11_i32_8024
  let c32_i32_8025 : BitVec 32 := 32#32
  let v8843 : BitVec 32 := Scalar.remsi v8842 c32_i32_8025
  let c1_i32_8028 : BitVec 32 := 1#32
  let v8844 : BitVec 32 := Scalar.muli v8843 c1_i32_8028
  let v8845 : BitVec 32 := Scalar.addi c0_i32_8029 v8844
  v8845.toNat
def k0_dev384 (d0 : Dev nD) : Nat :=
  let c0_i32_8037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_8032 : BitVec 32 := 12#32
  let v8852 : BitVec 32 := Scalar.addi v2 c12_i32_8032
  let c32_i32_8033 : BitVec 32 := 32#32
  let v8853 : BitVec 32 := Scalar.remsi v8852 c32_i32_8033
  let c1_i32_8036 : BitVec 32 := 1#32
  let v8854 : BitVec 32 := Scalar.muli v8853 c1_i32_8036
  let v8855 : BitVec 32 := Scalar.addi c0_i32_8037 v8854
  v8855.toNat
def k0_dev385 (d0 : Dev nD) : Nat :=
  let c0_i32_8045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_8040 : BitVec 32 := 13#32
  let v8862 : BitVec 32 := Scalar.addi v2 c13_i32_8040
  let c32_i32_8041 : BitVec 32 := 32#32
  let v8863 : BitVec 32 := Scalar.remsi v8862 c32_i32_8041
  let c1_i32_8044 : BitVec 32 := 1#32
  let v8864 : BitVec 32 := Scalar.muli v8863 c1_i32_8044
  let v8865 : BitVec 32 := Scalar.addi c0_i32_8045 v8864
  v8865.toNat
def k0_dev386 (d0 : Dev nD) : Nat :=
  let c0_i32_8053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_8048 : BitVec 32 := 14#32
  let v8872 : BitVec 32 := Scalar.addi v2 c14_i32_8048
  let c32_i32_8049 : BitVec 32 := 32#32
  let v8873 : BitVec 32 := Scalar.remsi v8872 c32_i32_8049
  let c1_i32_8052 : BitVec 32 := 1#32
  let v8874 : BitVec 32 := Scalar.muli v8873 c1_i32_8052
  let v8875 : BitVec 32 := Scalar.addi c0_i32_8053 v8874
  v8875.toNat
def k0_dev387 (d0 : Dev nD) : Nat :=
  let c0_i32_8061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_8056 : BitVec 32 := 15#32
  let v8882 : BitVec 32 := Scalar.addi v2 c15_i32_8056
  let c32_i32_8057 : BitVec 32 := 32#32
  let v8883 : BitVec 32 := Scalar.remsi v8882 c32_i32_8057
  let c1_i32_8060 : BitVec 32 := 1#32
  let v8884 : BitVec 32 := Scalar.muli v8883 c1_i32_8060
  let v8885 : BitVec 32 := Scalar.addi c0_i32_8061 v8884
  v8885.toNat
def k0_dev388 (d0 : Dev nD) : Nat :=
  let c0_i32_8069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_8064 : BitVec 32 := 16#32
  let v8892 : BitVec 32 := Scalar.addi v2 c16_i32_8064
  let c32_i32_8065 : BitVec 32 := 32#32
  let v8893 : BitVec 32 := Scalar.remsi v8892 c32_i32_8065
  let c1_i32_8068 : BitVec 32 := 1#32
  let v8894 : BitVec 32 := Scalar.muli v8893 c1_i32_8068
  let v8895 : BitVec 32 := Scalar.addi c0_i32_8069 v8894
  v8895.toNat
def k0_dev389 (d0 : Dev nD) : Nat :=
  let c0_i32_8077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_8072 : BitVec 32 := 17#32
  let v8902 : BitVec 32 := Scalar.addi v2 c17_i32_8072
  let c32_i32_8073 : BitVec 32 := 32#32
  let v8903 : BitVec 32 := Scalar.remsi v8902 c32_i32_8073
  let c1_i32_8076 : BitVec 32 := 1#32
  let v8904 : BitVec 32 := Scalar.muli v8903 c1_i32_8076
  let v8905 : BitVec 32 := Scalar.addi c0_i32_8077 v8904
  v8905.toNat
def k0_dev390 (d0 : Dev nD) : Nat :=
  let c0_i32_8085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_8080 : BitVec 32 := 18#32
  let v8912 : BitVec 32 := Scalar.addi v2 c18_i32_8080
  let c32_i32_8081 : BitVec 32 := 32#32
  let v8913 : BitVec 32 := Scalar.remsi v8912 c32_i32_8081
  let c1_i32_8084 : BitVec 32 := 1#32
  let v8914 : BitVec 32 := Scalar.muli v8913 c1_i32_8084
  let v8915 : BitVec 32 := Scalar.addi c0_i32_8085 v8914
  v8915.toNat
def k0_dev391 (d0 : Dev nD) : Nat :=
  let c0_i32_8093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_8088 : BitVec 32 := 19#32
  let v8922 : BitVec 32 := Scalar.addi v2 c19_i32_8088
  let c32_i32_8089 : BitVec 32 := 32#32
  let v8923 : BitVec 32 := Scalar.remsi v8922 c32_i32_8089
  let c1_i32_8092 : BitVec 32 := 1#32
  let v8924 : BitVec 32 := Scalar.muli v8923 c1_i32_8092
  let v8925 : BitVec 32 := Scalar.addi c0_i32_8093 v8924
  v8925.toNat
def k0_dev392 (d0 : Dev nD) : Nat :=
  let c0_i32_8101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_8096 : BitVec 32 := 20#32
  let v8932 : BitVec 32 := Scalar.addi v2 c20_i32_8096
  let c32_i32_8097 : BitVec 32 := 32#32
  let v8933 : BitVec 32 := Scalar.remsi v8932 c32_i32_8097
  let c1_i32_8100 : BitVec 32 := 1#32
  let v8934 : BitVec 32 := Scalar.muli v8933 c1_i32_8100
  let v8935 : BitVec 32 := Scalar.addi c0_i32_8101 v8934
  v8935.toNat
def k0_dev393 (d0 : Dev nD) : Nat :=
  let c0_i32_8109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_8104 : BitVec 32 := 21#32
  let v8942 : BitVec 32 := Scalar.addi v2 c21_i32_8104
  let c32_i32_8105 : BitVec 32 := 32#32
  let v8943 : BitVec 32 := Scalar.remsi v8942 c32_i32_8105
  let c1_i32_8108 : BitVec 32 := 1#32
  let v8944 : BitVec 32 := Scalar.muli v8943 c1_i32_8108
  let v8945 : BitVec 32 := Scalar.addi c0_i32_8109 v8944
  v8945.toNat
def k0_dev394 (d0 : Dev nD) : Nat :=
  let c0_i32_8117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_8112 : BitVec 32 := 22#32
  let v8952 : BitVec 32 := Scalar.addi v2 c22_i32_8112
  let c32_i32_8113 : BitVec 32 := 32#32
  let v8953 : BitVec 32 := Scalar.remsi v8952 c32_i32_8113
  let c1_i32_8116 : BitVec 32 := 1#32
  let v8954 : BitVec 32 := Scalar.muli v8953 c1_i32_8116
  let v8955 : BitVec 32 := Scalar.addi c0_i32_8117 v8954
  v8955.toNat
def k0_dev395 (d0 : Dev nD) : Nat :=
  let c0_i32_8125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_8120 : BitVec 32 := 23#32
  let v8962 : BitVec 32 := Scalar.addi v2 c23_i32_8120
  let c32_i32_8121 : BitVec 32 := 32#32
  let v8963 : BitVec 32 := Scalar.remsi v8962 c32_i32_8121
  let c1_i32_8124 : BitVec 32 := 1#32
  let v8964 : BitVec 32 := Scalar.muli v8963 c1_i32_8124
  let v8965 : BitVec 32 := Scalar.addi c0_i32_8125 v8964
  v8965.toNat
def k0_dev396 (d0 : Dev nD) : Nat :=
  let c0_i32_8133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_8128 : BitVec 32 := 24#32
  let v8972 : BitVec 32 := Scalar.addi v2 c24_i32_8128
  let c32_i32_8129 : BitVec 32 := 32#32
  let v8973 : BitVec 32 := Scalar.remsi v8972 c32_i32_8129
  let c1_i32_8132 : BitVec 32 := 1#32
  let v8974 : BitVec 32 := Scalar.muli v8973 c1_i32_8132
  let v8975 : BitVec 32 := Scalar.addi c0_i32_8133 v8974
  v8975.toNat
def k0_dev397 (d0 : Dev nD) : Nat :=
  let c0_i32_8141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_8136 : BitVec 32 := 25#32
  let v8982 : BitVec 32 := Scalar.addi v2 c25_i32_8136
  let c32_i32_8137 : BitVec 32 := 32#32
  let v8983 : BitVec 32 := Scalar.remsi v8982 c32_i32_8137
  let c1_i32_8140 : BitVec 32 := 1#32
  let v8984 : BitVec 32 := Scalar.muli v8983 c1_i32_8140
  let v8985 : BitVec 32 := Scalar.addi c0_i32_8141 v8984
  v8985.toNat
def k0_dev398 (d0 : Dev nD) : Nat :=
  let c0_i32_8149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_8144 : BitVec 32 := 26#32
  let v8992 : BitVec 32 := Scalar.addi v2 c26_i32_8144
  let c32_i32_8145 : BitVec 32 := 32#32
  let v8993 : BitVec 32 := Scalar.remsi v8992 c32_i32_8145
  let c1_i32_8148 : BitVec 32 := 1#32
  let v8994 : BitVec 32 := Scalar.muli v8993 c1_i32_8148
  let v8995 : BitVec 32 := Scalar.addi c0_i32_8149 v8994
  v8995.toNat
def k0_dev399 (d0 : Dev nD) : Nat :=
  let c0_i32_8157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_8152 : BitVec 32 := 27#32
  let v9002 : BitVec 32 := Scalar.addi v2 c27_i32_8152
  let c32_i32_8153 : BitVec 32 := 32#32
  let v9003 : BitVec 32 := Scalar.remsi v9002 c32_i32_8153
  let c1_i32_8156 : BitVec 32 := 1#32
  let v9004 : BitVec 32 := Scalar.muli v9003 c1_i32_8156
  let v9005 : BitVec 32 := Scalar.addi c0_i32_8157 v9004
  v9005.toNat
def k0_dev400 (d0 : Dev nD) : Nat :=
  let c0_i32_8165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_8160 : BitVec 32 := 28#32
  let v9012 : BitVec 32 := Scalar.addi v2 c28_i32_8160
  let c32_i32_8161 : BitVec 32 := 32#32
  let v9013 : BitVec 32 := Scalar.remsi v9012 c32_i32_8161
  let c1_i32_8164 : BitVec 32 := 1#32
  let v9014 : BitVec 32 := Scalar.muli v9013 c1_i32_8164
  let v9015 : BitVec 32 := Scalar.addi c0_i32_8165 v9014
  v9015.toNat
def k0_dev401 (d0 : Dev nD) : Nat :=
  let c0_i32_8173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_8168 : BitVec 32 := 29#32
  let v9022 : BitVec 32 := Scalar.addi v2 c29_i32_8168
  let c32_i32_8169 : BitVec 32 := 32#32
  let v9023 : BitVec 32 := Scalar.remsi v9022 c32_i32_8169
  let c1_i32_8172 : BitVec 32 := 1#32
  let v9024 : BitVec 32 := Scalar.muli v9023 c1_i32_8172
  let v9025 : BitVec 32 := Scalar.addi c0_i32_8173 v9024
  v9025.toNat
def k0_dev402 (d0 : Dev nD) : Nat :=
  let c0_i32_8181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_8176 : BitVec 32 := 30#32
  let v9032 : BitVec 32 := Scalar.addi v2 c30_i32_8176
  let c32_i32_8177 : BitVec 32 := 32#32
  let v9033 : BitVec 32 := Scalar.remsi v9032 c32_i32_8177
  let c1_i32_8180 : BitVec 32 := 1#32
  let v9034 : BitVec 32 := Scalar.muli v9033 c1_i32_8180
  let v9035 : BitVec 32 := Scalar.addi c0_i32_8181 v9034
  v9035.toNat
def k0_dev403 (d0 : Dev nD) : Nat :=
  let c0_i32_8189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_8184 : BitVec 32 := 31#32
  let v9042 : BitVec 32 := Scalar.addi v2 c31_i32_8184
  let c32_i32_8185 : BitVec 32 := 32#32
  let v9043 : BitVec 32 := Scalar.remsi v9042 c32_i32_8185
  let c1_i32_8188 : BitVec 32 := 1#32
  let v9044 : BitVec 32 := Scalar.muli v9043 c1_i32_8188
  let v9045 : BitVec 32 := Scalar.addi c0_i32_8189 v9044
  v9045.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x32768 : Shape := ⟨2, ![64, 32768]⟩
abbrev S32768x2048 : Shape := ⟨2, ![32768, 2048]⟩
abbrev S2048x32768 : Shape := ⟨2, ![2048, 32768]⟩
abbrev S64x2048 : Shape := ⟨2, ![64, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S32768x2048, .f32⟩
  | .hbm, ⟨2, _⟩ => ⟨S32768x2048, .f32⟩
  | .hbm, ⟨3, _⟩ => ⟨S32768x2048, .f32⟩
  | .hbm, ⟨4, _⟩ => ⟨S2048x32768, .f32⟩
  | .hbm, ⟨5, _⟩ => ⟨S2048x32768, .f32⟩
  | .hbm, ⟨6, _⟩ => ⟨S2048x32768, .f32⟩
  | .hbm, ⟨7, _⟩ => ⟨S64x2048, .f32⟩
  | .hbm, ⟨8, _⟩ => ⟨S_, .f32⟩
  | .hbm, ⟨9, _⟩ => ⟨S64x2048, .f32⟩
  | .hbm, ⟨10, _⟩ => ⟨S64x2048, .f32⟩
  | .hbm, ⟨11, _⟩ => ⟨S64x32768, .f32⟩
  | .hbm, ⟨12, _⟩ => ⟨S64x2048, .f32⟩
  | .hbm, ⟨13, _⟩ => ⟨S_, .f32⟩
  | .hbm, ⟨14, _⟩ => ⟨S64x2048, .f32⟩
  | .hbm, ⟨15, _⟩ => ⟨S64x2048, .f32⟩
  | .hbm, ⟨16, _⟩ => ⟨S64x32768, .f32⟩
  | .hbm, ⟨17, _⟩ => ⟨S64x2048, .f32⟩
  | .hbm, ⟨18, _⟩ => ⟨S_, .f32⟩
  | .hbm, ⟨19, _⟩ => ⟨S64x2048, .f32⟩
  | .hbm, ⟨20, _⟩ => ⟨S64x2048, .f32⟩
  | .hbm, ⟨21, _⟩ => ⟨S64x32768, .f32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KIProg.lean ====
module

public import proofs.«01_k».proof.Proof.Gen.KernelIdeal
public import Idealize.ShloMosaic.Lib.Pipeline.Regions

/-! # The device's program with its loops written back

The printed body unrolls every loop over the thirty-one peers. Here the same program is written with the loops
kept: `eachPeer` runs a step for the peers at distance one to thirty-one, `half` names which of the two column
halves of the hidden layer a step works on, and `layerP` is one layer. `cc0_body_eq` says that this is the printed
body, word for word. -/

@[expose] public section

noncomputable section

namespace Cert.KernelIdeal.Mlp

open Idealize.ShloMosaic Idealize.SL.Sem
open Facts₀ Facts

variable {F : FTy → Type} [FloatOps F]

/-- Programs of one device's core. -/
abbrev P (F : FTy → Type) : Type 1 := Prog (TpuEff nD τ sig (Elt F) Λ₀ .tc) PUnit

/-- One step whose answer is not used, then the rest. -/
abbrev step {r : Type} (e : TpuEff nD τ sig (Elt F) Λ₀ .tc r) (k : P F) : P F := .op e fun _ => k

/-! ## What is computed -/

/-- The activations, cast to the width the products are taken in. -/
def castIn (v : FVec F S64x1024 .f32) : FVec F S64x1024 .bf16 := truncf .bf16 v bitsLt_bf16_f32

/-- The product of the activations with one square block of a weight matrix. -/
def prod (x : FVec F S64x1024 .bf16) (w : Vec F S1024x1024 .f32) : FVec F S64x1024 .f32 :=
  matmul dot_S64x1024_S1024x1024_S64x1024_1_0_0_1_n_n none x
    (truncf .bf16 (shapeCast S1024x1024 w shapeCasts_S1024x1024_S1024x1024) bitsLt_bf16_f32)
    (constant S64x1024 .f32 0x00000000#32)

/-- One half of this device's partial hidden layer, as it is stored. -/
def hidden (x : FVec F S64x1024 .bf16) (w : Vec F S1024x1024 .f32) : FVec F S64x1024 .bf16 :=
  shapeCast S64x1024 (truncf .bf16 (prod x w) bitsLt_bf16_f32) shapeCasts_S64x1024_S64x1024

theorem slices_row (k : Fin 32) : S64x1024.Slices ![2 * k.val, 0] S2x1024 := by
  revert k; decide

/-- The two rows device `k` sent. -/
def slot (v : FVec F S64x1024 .f32) (k : Fin 32) : FVec F S2x1024 .f32 :=
  extractStridedSlice S2x1024 ![2 * k.val, 0] v (slices_row k)

/-- The sum of the first `n + 1` devices' rows, in their order. -/
def sumTo (v : FVec F S64x1024 .f32) : (n : ℕ) → n < 32 → FVec F S2x1024 .f32
  | 0, h => slot v ⟨0, h⟩
  | n + 1, h => addf (sumTo v n (Nat.lt_of_succ_lt h)) (slot v ⟨n + 1, h⟩)

/-- The sum of all devices' rows, its positive part taken, as it is stored. -/
def reduced (v : Vec F S64x1024 .bf16) : FVec F S2x1024 .bf16 :=
  shapeCast S2x1024
    (truncf .bf16 (maximumf (sumTo (extf .f32 v bitsLt_bf16_f32) 31 (by decide))
      (broadcast S2x1024 (Scalar.ofBits .f32 0x00000000#32))) bitsLt_bf16_f32) shapeCasts_S2x1024_S2x1024

/-! ## Loops over the peers -/

/-- The steps `f` for the peers at distance `32 - n` up to thirty-one, in that order, then `k`. -/
def fromPeer (f : Fin 31 → P F → P F) (k : P F) : (n : ℕ) → n ≤ 31 → P F
  | 0, _ => k
  | n + 1, h => f ⟨30 - n, by omega⟩ (fromPeer f k n (Nat.le_of_succ_le h))

/-- The steps `f` for every peer, from distance one to thirty-one, then `k`. -/
def eachPeer (f : Fin 31 → P F → P F) (k : P F) : P F := fromPeer f k 31 (Nat.le_refl _)

/-- The distance of peer `i` as the word the kernel computes with. -/
abbrev dist (i : Fin 31) : BitVec 32 := BitVec.ofNat 32 (1 + i.val)

/-- The number of the device at distance `i`. -/
def peerNat (d0 : Dev nD) (i : Fin 31) : ℕ :=
  (Scalar.addi 0#32 (Scalar.muli (Scalar.remsi (Scalar.addi (Scalar.remsi (Scalar.divsi (Dev.word d0) 1#32) 32#32)
    (dist i)) 32#32) 1#32)).toNat

theorem peerNat_eq : ∀ (d0 : Dev nD) (i : Fin 31), peerNat d0 i = (d0.val + i.val + 1) % 32 := by decide +kernel

theorem peerNat_lt (d0 : Dev nD) (i : Fin 31) : peerNat d0 i < nD := by
  rw [peerNat_eq]; exact Nat.mod_lt _ (by decide)

/-- The device at distance `i`. -/
abbrev peer (d0 : Dev nD) (i : Fin 31) : Dev nD := ⟨peerNat d0 i, peerNat_lt d0 i⟩

theorem sem_inb (i : Fin 31) : ∀ a, (![1 + i.val] : Fin 1 → ℕ) a + S1.size a ≤ S32.size a := by
  revert i; decide

/-- The semaphore of an array that serves the peer at distance `i`. -/
abbrev semAt (s : DmaSems sig S32) (i : Fin 31) : DmaSems sig S_ :=
  (s.slice (Rect.unit (s := S32) ![1 + i.val] S1.size (sem_inb i))).squeeze S_ squeezes_S1_S_

/-- A two-row view together with the fact that it fills whole words. -/
structure Piece where
  v : Memref sig .tc .vmem S2x1024 .bf16
  w : v.view.WordExact

/-! ## One layer -/

section Body

variable (arg0 : Memref sig .tc .vmem S64x1024 .f32) (harg0 : arg0.IsWhole)
  (arg1 : Memref sig .tc .vmem S1024x2048 .f32) (harg1 : arg1.IsWhole)
  (arg2 : Memref sig .tc .vmem S2048x1024 .f32) (harg2 : arg2.IsWhole)
  (arg3 : Memref sig .tc .vmem S1024x2048 .f32) (harg3 : arg3.IsWhole)
  (arg4 : Memref sig .tc .vmem S2048x1024 .f32) (harg4 : arg4.IsWhole)
  (arg5 : Memref sig .tc .vmem S1024x2048 .f32) (harg5 : arg5.IsWhole)
  (arg6 : Memref sig .tc .vmem S2048x1024 .f32) (harg6 : arg6.IsWhole)
  (arg7 : Memref sig .tc .vmem S64x1024 .f32) (harg7 : arg7.IsWhole)
  (arg8 : Memref sig .tc .vmem S64x2048 .bf16) (harg8 : arg8.IsWhole)
  (arg9 : Memref sig .tc .vmem S64x1024 .bf16) (harg9 : arg9.IsWhole)
  (arg10 : Memref sig .tc .vmem S64x1024 .bf16) (harg10 : arg10.IsWhole)
  (arg11 : Memref sig .tc .vmem S64x2048 .bf16) (harg11 : arg11.IsWhole)
  (arg12 : Memref sig .tc .vmem S2x1024 .bf16) (harg12 : arg12.IsWhole)
  (arg13 : Memref sig .tc .vmem S2x1024 .bf16) (harg13 : arg13.IsWhole)
  (arg14 arg15 arg16 arg17 arg18 arg19 arg20 arg21 : DmaSems sig S32)
  (arg22 arg23 arg24 arg25 : DmaSems sig S_)

/-- Where one exchange finds its pieces, on this device: its own share `own` and the place `mine` that belongs to
    this device (here, and at every peer); what it sends to each peer (`src`); what a wait names as the source of
    the piece a peer sends here (`rsrc`), and the place where that piece lands (`rdst`). -/
structure Exch where
  own : Piece
  mine : Piece
  src : Fin 31 → Piece
  rsrc : Fin 31 → Piece
  rdst : Fin 31 → Piece
  loc : DmaSem sig
  ss : Fin 31 → DmaSem sig
  sr : Fin 31 → DmaSem sig

/-- Start an exchange: copy this device's own share, and send every peer its own. -/
def startP (e : Exch) (d0 : Dev nD) (k : P F) : P F :=
  step (.enqueueDma e.own.v (.here e.mine.v) (.dma e.loc) e.own.w e.mine.w ⟨Or.inl rfl, trivial⟩) <|
  eachPeer (fun i k => step (.enqueueDma (e.src i).v (.remote (Dev.tc (peer d0 i)) e.mine.v (.dma (e.ss i)))
    (.dma (e.sr i)) (e.src i).w e.mine.w ⟨⟨rfl, Or.inl rfl⟩, trivial⟩) k) k

/-- Finish an exchange: wait for every peer's piece, for the own copy, and for what was sent to be gone. -/
def finishP (e : Exch) (k : P F) : P F :=
  eachPeer (fun i k => step (.waitDma2 (e.sr i) (e.rsrc i).v (e.rdst i).v (e.rsrc i).w (e.rdst i).w) k) <|
  step (.waitDma2 e.loc e.own.v e.mine.v e.own.w e.mine.w) <|
  eachPeer (fun i k => step (.waitDma2 (e.ss i) e.mine.v (e.src i).v e.mine.w (e.src i).w) k) k

/-- The left half's scattering of the partial hidden rows. -/
def rsa (d0 : Dev nD) : Exch where
  own := ⟨arg8.slice (Rect.unit (s := S64x2048) (k0_off2 d0) S2x1024.size (k0_off2_inb d0)) (fun _ => rfl),
    harg8.wordExact_slice rfl _ (k0_off2_wordsbf16 d0)⟩
  mine := ⟨arg9.slice (Rect.unit (s := S64x1024) (k0_off1 d0) S2x1024.size (k0_off1_inb d0)) (fun _ => rfl),
    harg9.wordExact_slice rfl _ (k0_off1_wordsbf16 d0)⟩
  src i := ⟨arg8.slice (Rect.unit (s := S64x2048) (k0_off3 d0 (dist i)) S2x1024.size (k0_off3_inb d0 i)) (fun _ => rfl),
    harg8.wordExact_slice rfl _ (k0_off3_wordsbf16 d0 i)⟩
  rsrc i := ⟨arg8.slice (Rect.unit (s := S64x2048) (k0_off7 d0 (dist i)) S2x1024.size (k0_off7_inb d0 i)) (fun _ => rfl),
    harg8.wordExact_slice rfl _ (k0_off7_wordsbf16 d0 i)⟩
  rdst i := ⟨arg9.slice (Rect.unit (s := S64x1024) (k0_off6 d0 (dist i)) S2x1024.size (k0_off6_inb d0 i)) (fun _ => rfl),
    harg9.wordExact_slice rfl _ (k0_off6_wordsbf16 d0 i)⟩
  loc := arg22.sem
  ss i := (semAt arg14 i).sem
  sr i := (semAt arg15 i).sem

/-- The right half's scattering of the partial hidden rows. -/
def rsb (d0 : Dev nD) : Exch where
  own := ⟨arg8.slice (Rect.unit (s := S64x2048) (k0_off4 d0) S2x1024.size (k0_off4_inb d0)) (fun _ => rfl),
    harg8.wordExact_slice rfl _ (k0_off4_wordsbf16 d0)⟩
  mine := ⟨arg10.slice (Rect.unit (s := S64x1024) (k0_off1 d0) S2x1024.size (k0_off1_inb d0)) (fun _ => rfl),
    harg10.wordExact_slice rfl _ (k0_off1_wordsbf16 d0)⟩
  src i := ⟨arg8.slice (Rect.unit (s := S64x2048) (k0_off5 d0 (dist i)) S2x1024.size (k0_off5_inb d0 i)) (fun _ => rfl),
    harg8.wordExact_slice rfl _ (k0_off5_wordsbf16 d0 i)⟩
  rsrc i := ⟨arg8.slice (Rect.unit (s := S64x2048) (k0_off8 d0 (dist i)) S2x1024.size (k0_off8_inb d0 i)) (fun _ => rfl),
    harg8.wordExact_slice rfl _ (k0_off8_wordsbf16 d0 i)⟩
  rdst i := ⟨arg10.slice (Rect.unit (s := S64x1024) (k0_off6 d0 (dist i)) S2x1024.size (k0_off6_inb d0 i)) (fun _ => rfl),
    harg10.wordExact_slice rfl _ (k0_off6_wordsbf16 d0 i)⟩
  loc := arg23.sem
  ss i := (semAt arg16 i).sem
  sr i := (semAt arg17 i).sem

/-- The left half's gathering of the reduced rows. -/
def aga (d0 : Dev nD) : Exch where
  own := ⟨arg12, harg12.wordExact⟩
  mine := ⟨arg11.slice (Rect.unit (s := S64x2048) (k0_off2 d0) S2x1024.size (k0_off2_inb d0)) (fun _ => rfl),
    harg11.wordExact_slice rfl _ (k0_off2_wordsbf16 d0)⟩
  src i := ⟨arg12, harg12.wordExact⟩
  rsrc i := ⟨arg12, harg12.wordExact⟩
  rdst i := ⟨arg11.slice (Rect.unit (s := S64x2048) (k0_off7 d0 (dist i)) S2x1024.size (k0_off7_inb d0 i)) (fun _ => rfl),
    harg11.wordExact_slice rfl _ (k0_off7_wordsbf16 d0 i)⟩
  loc := arg24.sem
  ss i := (semAt arg18 i).sem
  sr i := (semAt arg19 i).sem

/-- The right half's gathering of the reduced rows. -/
def agb (d0 : Dev nD) : Exch where
  own := ⟨arg13, harg13.wordExact⟩
  mine := ⟨arg11.slice (Rect.unit (s := S64x2048) (k0_off4 d0) S2x1024.size (k0_off4_inb d0)) (fun _ => rfl),
    harg11.wordExact_slice rfl _ (k0_off4_wordsbf16 d0)⟩
  src i := ⟨arg13, harg13.wordExact⟩
  rsrc i := ⟨arg13, harg13.wordExact⟩
  rdst i := ⟨arg11.slice (Rect.unit (s := S64x2048) (k0_off8 d0 (dist i)) S2x1024.size (k0_off8_inb d0 i)) (fun _ => rfl),
    harg11.wordExact_slice rfl _ (k0_off8_wordsbf16 d0 i)⟩
  loc := arg25.sem
  ss i := (semAt arg20 i).sem
  sr i := (semAt arg21 i).sem

/-- Half of this device's partial hidden layer: load the half of the weights, and store the product. -/
def hiddenA (win : Memref sig .tc .vmem S1024x2048 .f32) (x : FVec F S64x1024 .bf16) (k : P F) : P F :=
  .op (.load win (Rect.unit (s := S1024x2048) ![0, 0] S1024x1024.size inb_S1024x2048_S1024x1024_0_0).toLoadRect (View.loadsAt_vmem h_S1024x1024)) fun w =>
  step (.load arg8 (Rect.unit (s := S64x2048) ![0, 0] S64x1024.size inb_S64x2048_S64x1024_0_0).toLoadRect (View.loadsAt_vmem h_S64x1024)) <|
  step (.store arg8 (Rect.unit (s := S64x2048) ![0, 0] S64x1024.size inb_S64x2048_S64x1024_0_0) (hidden x w) Finset.univ
    (View.stores_vmem h_S64x1024 (harg8.storeExact_slice rfl _ packedbf16_S64x2048_S64x1024_0_0) (fun _ => rfl)) (.inl rfl)) k

/-- The other half. -/
def hiddenB (win : Memref sig .tc .vmem S1024x2048 .f32) (x : FVec F S64x1024 .bf16) (k : P F) : P F :=
  .op (.load win (Rect.unit (s := S1024x2048) ![0, 1024] S1024x1024.size inb_S1024x2048_S1024x1024_0_1024).toLoadRect (View.loadsAt_vmem h_S1024x1024)) fun w =>
  step (.load arg8 (Rect.unit (s := S64x2048) ![0, 1024] S64x1024.size inb_S64x2048_S64x1024_0_1024).toLoadRect (View.loadsAt_vmem h_S64x1024)) <|
  step (.store arg8 (Rect.unit (s := S64x2048) ![0, 1024] S64x1024.size inb_S64x2048_S64x1024_0_1024) (hidden x w) Finset.univ
    (View.stores_vmem h_S64x1024 (harg8.storeExact_slice rfl _ packedbf16_S64x2048_S64x1024_0_1024) (fun _ => rfl)) (.inl rfl)) k

/-- Reduce one half of the rows this device owns: `rs` holds every device's part, `red` takes the result. -/
def reduceP (rs : Memref sig .tc .vmem S64x1024 .bf16) (red : Memref sig .tc .vmem S2x1024 .bf16) (hred : red.IsWhole)
    (k : P F) : P F :=
  .op (.load rs (Rect.unit (s := S64x1024) ![0, 0] S64x1024.size inb_S64x1024_S64x1024_0_0).toLoadRect (View.loadsAt_vmem h_S64x1024)) fun v =>
  step (.load red (Rect.unit (s := S2x1024) ![0, 0] S2x1024.size inb_S2x1024_S2x1024_0_0).toLoadRect (View.loadsAt_vmem h_S2x1024)) <|
  step (.store red (Rect.unit (s := S2x1024) ![0, 0] S2x1024.size inb_S2x1024_S2x1024_0_0) (reduced v) Finset.univ
    (View.stores_vmem h_S2x1024 (hred.storeExact_slice rfl _ packedbf16_S2x1024_S2x1024_0_0) (fun _ => rfl)) (.inl rfl)) k

/-- The product of the left half of the gathered hidden layer with the upper half of the second weights. -/
def outA (wout : Memref sig .tc .vmem S2048x1024 .f32) (k : FVec F S64x1024 .f32 → P F) : P F :=
  .op (.load arg11 (Rect.unit (s := S64x2048) ![0, 0] S64x1024.size inb_S64x2048_S64x1024_0_0).toLoadRect (View.loadsAt_vmem h_S64x1024)) fun (h : Vec F S64x1024 .bf16) =>
  .op (.load wout (Rect.unit (s := S2048x1024) ![0, 0] S1024x1024.size inb_S2048x1024_S1024x1024_0_0).toLoadRect (View.loadsAt_vmem h_S1024x1024)) fun w =>
  k (prod h w)

/-- The product of the right half with the lower half. -/
def outB (wout : Memref sig .tc .vmem S2048x1024 .f32) (k : FVec F S64x1024 .f32 → P F) : P F :=
  .op (.load arg11 (Rect.unit (s := S64x2048) ![0, 1024] S64x1024.size inb_S64x2048_S64x1024_0_1024).toLoadRect (View.loadsAt_vmem h_S64x1024)) fun (h : Vec F S64x1024 .bf16) =>
  .op (.load wout (Rect.unit (s := S2048x1024) ![1024, 0] S1024x1024.size inb_S2048x1024_S1024x1024_1024_0).toLoadRect (View.loadsAt_vmem h_S1024x1024)) fun w =>
  k (prod h w)

/-- One layer on the activations `x`; the rest takes the new activations. -/
def layerP (win : Memref sig .tc .vmem S1024x2048 .f32) (wout : Memref sig .tc .vmem S2048x1024 .f32) (d0 : Dev nD)
    (x : FVec F S64x1024 .bf16) (k : FVec F S64x1024 .f32 → P F) : P F :=
  hiddenA arg8 harg8 win x <|
  startP (rsa arg8 harg8 arg9 harg9 arg14 arg15 arg22 d0) d0 <|
  hiddenB arg8 harg8 win x <|
  startP (rsb arg8 harg8 arg10 harg10 arg16 arg17 arg23 d0) d0 <|
  finishP (rsa arg8 harg8 arg9 harg9 arg14 arg15 arg22 d0) <|
  reduceP arg9 arg12 harg12 <|
  startP (aga arg11 harg11 arg12 harg12 arg18 arg19 arg24 d0) d0 <|
  finishP (rsb arg8 harg8 arg10 harg10 arg16 arg17 arg23 d0) <|
  reduceP arg10 arg13 harg13 <|
  startP (agb arg11 harg11 arg13 harg13 arg20 arg21 arg25 d0) d0 <|
  finishP (aga arg11 harg11 arg12 harg12 arg18 arg19 arg24 d0) <|
  outA arg11 wout fun ya =>
  finishP (agb arg11 harg11 arg13 harg13 arg20 arg21 arg25 d0) <|
  outB arg11 wout fun yb =>
  k (addf ya yb)

/-- The barrier's semaphore. -/
abbrev barS : Sem sig := (SemArray.scalar (sig.barrier 0 rfl) : Sems sig S_).sem

/-- The whole body: meet every peer on the barrier, run the three layers, store the activations. -/
def bodyP : P F :=
  .op .deviceId fun d0 =>
  eachPeer (fun i k => step (.semSignal (Dev.tc (peer d0 i)) barS (1#32 : BitVec 32).toInt) k) <|
  step (.semWait barS (31#32 : BitVec 32).toInt) <|
  .op (.load arg0 (Rect.unit (s := S64x1024) ![0, 0] S64x1024.size inb_S64x1024_S64x1024_0_0).toLoadRect (View.loadsAt_vmem h_S64x1024)) fun x =>
  layerP arg8 harg8 arg9 harg9 arg10 harg10 arg11 harg11 arg12 harg12 arg13 harg13 arg14 arg15 arg16 arg17 arg18 arg19 arg20 arg21 arg22 arg23 arg24 arg25
    arg1 arg2 d0 (castIn (shapeCast S64x1024 x shapeCasts_S64x1024_S64x1024)) fun x₁ =>
  layerP arg8 harg8 arg9 harg9 arg10 harg10 arg11 harg11 arg12 harg12 arg13 harg13 arg14 arg15 arg16 arg17 arg18 arg19 arg20 arg21 arg22 arg23 arg24 arg25
    arg3 arg4 d0 (castIn x₁) fun x₂ =>
  layerP arg8 harg8 arg9 harg9 arg10 harg10 arg11 harg11 arg12 harg12 arg13 harg13 arg14 arg15 arg16 arg17 arg18 arg19 arg20 arg21 arg22 arg23 arg24 arg25
    arg5 arg6 d0 (castIn x₂) fun x₃ =>
  step (.load arg7 (Rect.unit (s := S64x1024) ![0, 0] S64x1024.size inb_S64x1024_S64x1024_0_0).toLoadRect (View.loadsAt_vmem h_S64x1024)) <|
  step (.store arg7 (Rect.unit (s := S64x1024) ![0, 0] S64x1024.size inb_S64x1024_S64x1024_0_0) x₃ Finset.univ
    (View.stores_vmem_bits_univ h_S64x1024 rfl) (.inl rfl)) <|
  .ret ⟨⟩

set_option maxRecDepth 100000 in
theorem cc0_body_eq :
    cc0_body (F := F) arg0 harg0 arg1 harg1 arg2 harg2 arg3 harg3 arg4 harg4 arg5 harg5 arg6 harg6 arg7 harg7 arg8 harg8
      arg9 harg9 arg10 harg10 arg11 harg11 arg12 harg12 arg13 harg13 arg14 arg15 arg16 arg17 arg18 arg19 arg20 arg21
      arg22 arg23 arg24 arg25
    = bodyP arg0 arg1 arg2 arg3 arg4 arg5 arg6 arg7 arg8 harg8 arg9 harg9 arg10 harg10 arg11 harg11 arg12 harg12
      arg13 harg13 arg14 arg15 arg16 arg17 arg18 arg19 arg20 arg21 arg22 arg23 arg24 arg25 := by
  chain_rfl

end Body

end Cert.KernelIdeal.Mlp
-- ==== Proof.KIView.lean ====
module

public import proofs.«01_k».proof.Proof.KIProg
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

/-! # The pieces and semaphores of the four exchanges

A layer makes four exchanges, numbered `0` to `3`: the scattering of the left and of the right half of the partial
hidden rows, then the gathering of the left and of the right half of the reduced rows. Exchange `x` sends to device
`k` the piece `srcPiece x k`, and receives what device `k` sends in the piece `dstPiece x k`. The views and semaphores
of the program are these (`exch_0` to `exch_3`). -/

@[expose] public section

noncomputable section

namespace Cert.KernelIdeal.Mlp

open Idealize.ShloMosaic Idealize.ShloMosaic.TcCoe Idealize.SL Idealize.SL.Sem
open Facts₀ Facts

variable {F : FTy → Type} [FloatOps F]

/-! ## Peers -/

theorem peer_val (c : Dev nD) (i : Fin 31) : (peer c i).val = (c.val + i.val + 1) % 32 := peerNat_eq c i

/-- The device that is at distance `i` from here counted the other way. -/
def prev (c : Dev nD) (i : Fin 31) : Dev nD := peer c i.rev

theorem peer_rev (c : Dev nD) (i : Fin 31) : peer c i.rev = prev c i := rfl
theorem prev_val (c : Dev nD) (i : Fin 31) : (prev c i).val = (c.val + (31 - i.val)) % 32 := by
  rw [prev, peer_val, Fin.val_rev]; congr 1; omega

theorem dev_lt (c : Dev nD) : c.val < 32 := c.isLt

theorem prev_peer (c : Dev nD) (i : Fin 31) : prev (peer c i) i = c := by
  apply Fin.ext; rw [prev_val, peer_val]; have := dev_lt c; omega

theorem peer_prev (c : Dev nD) (i : Fin 31) : peer (prev c i) i = c := by
  apply Fin.ext; rw [peer_val, prev_val]; have := dev_lt c; omega

theorem prev_eq (c : Dev nD) (i : Fin 31) : prev c i.rev = peer c i := by rw [prev, Fin.rev_rev]

theorem peer_ne (c : Dev nD) (i : Fin 31) : peer c i ≠ c := fun h => by
  have h1 := peer_val c i; rw [h] at h1; have := dev_lt c; have := i.isLt; omega

theorem peer_inj (c : Dev nD) : Function.Injective (peer c) := fun i j h => by
  have h1 := peer_val c i; rw [h, peer_val] at h1
  have := dev_lt c; have := i.isLt; have := j.isLt; apply Fin.ext; omega

/-- Every device but this one is a peer. -/
theorem exists_peer {c k : Dev nD} (h : k ≠ c) : ∃ i, peer c i = k := by
  have hc := dev_lt c; have hk := dev_lt k
  have hv : k.val ≠ c.val := fun e => h (Fin.ext e)
  refine ⟨⟨(k.val + 32 - c.val - 1) % 32, by omega⟩, Fin.ext ?_⟩
  rw [peer_val]; simp only; omega

/-- The devices, cut into this one and its peers. -/
theorem univ_dev (c : Dev nD) : (Finset.univ : Finset (Dev nD)) = insert c (Finset.univ.map ⟨peer c, peer_inj c⟩) := by
  ext k; simp only [Finset.mem_univ, Finset.mem_insert, Finset.mem_map, Function.Embedding.coeFn_mk, true_and, true_iff]
  by_cases h : k = c
  · exact Or.inl h
  · exact Or.inr (exists_peer h)

/-! ## The buffers -/

abbrev hM : Memref sig .tc .vmem S64x2048 .bf16 := Memref.whole cc0_scratch0
abbrev raM : Memref sig .tc .vmem S64x1024 .bf16 := Memref.whole cc0_scratch1
abbrev rbM : Memref sig .tc .vmem S64x1024 .bf16 := Memref.whole cc0_scratch2
abbrev gM : Memref sig .tc .vmem S64x2048 .bf16 := Memref.whole cc0_scratch3
abbrev daM : Memref sig .tc .vmem S2x1024 .bf16 := Memref.whole cc0_scratch4
abbrev dbM : Memref sig .tc .vmem S2x1024 .bf16 := Memref.whole cc0_scratch5

theorem inbW (k : Dev nD) (b : Fin 2) : ∀ a, (![2 * k.val, 1024 * b.val] : Fin 2 → ℕ) a + S2x1024.size a ≤ S64x2048.size a := by
  revert k b; decide
theorem inbN (k : Dev nD) : ∀ a, (![2 * k.val, 0] : Fin 2 → ℕ) a + S2x1024.size a ≤ S64x1024.size a := by
  revert k; decide

/-- Rows `2k` and `2k + 1`, columns of half `b`, of a buffer of two halves. -/
abbrev rectW (k : Dev nD) (b : Fin 2) : Rect S64x2048 := Rect.unit (s := S64x2048) ![2 * k.val, 1024 * b.val] S2x1024.size (inbW k b)
/-- Rows `2k` and `2k + 1` of a buffer of one half. -/
abbrev rectN (k : Dev nD) : Rect S64x1024 := Rect.unit (s := S64x1024) ![2 * k.val, 0] S2x1024.size (inbN k)

theorem wordsW : ∀ (k : Dev nD) (b : Fin 2), (rectW k b).WholeWords (EltTy.packing .bf16) := by decide +kernel
theorem wordsN : ∀ k : Dev nD, (rectN k).WholeWords (EltTy.packing .bf16) := by decide +kernel

/-- The piece of a two-half buffer that belongs to device `k` and half `b`. -/
def pieceW (m : Memref sig .tc .vmem S64x2048 .bf16) (hm : m.IsWhole) (k : Dev nD) (b : Fin 2) : Piece :=
  ⟨m.slice (rectW k b) (fun _ => rfl), hm.wordExact_slice rfl _ (wordsW k b)⟩
/-- The piece of a one-half buffer that belongs to device `k`. -/
def pieceN (m : Memref sig .tc .vmem S64x1024 .bf16) (hm : m.IsWhole) (k : Dev nD) : Piece :=
  ⟨m.slice (rectN k) (fun _ => rfl), hm.wordExact_slice rfl _ (wordsN k)⟩

/-- What exchange `x` sends to device `k`. -/
def srcPiece (x : Fin 4) (k : Dev nD) : Piece := match x with
  | 0 => pieceW hM (Memref.isWhole_whole _) k 0
  | 1 => pieceW hM (Memref.isWhole_whole _) k 1
  | 2 => ⟨daM, (Memref.isWhole_whole _).wordExact⟩
  | 3 => ⟨dbM, (Memref.isWhole_whole _).wordExact⟩

/-- Where exchange `x` puts what device `k` sends. -/
def dstPiece (x : Fin 4) (k : Dev nD) : Piece := match x with
  | 0 => pieceN raM (Memref.isWhole_whole _) k
  | 1 => pieceN rbM (Memref.isWhole_whole _) k
  | 2 => pieceW gM (Memref.isWhole_whole _) k 0
  | 3 => pieceW gM (Memref.isWhole_whole _) k 1

/-! ## The semaphores -/

/-- Semaphore `j` of the scratch array number `a`. -/
def semNo (a : Fin 8) (j : Fin 32) : DmaSem sig := ⟨8 + 32 * a.val + j.val, by
  have := a.isLt; have := j.isLt; show _ < 268; omega⟩

/-- Exchange `x`'s semaphore for the own copy, for what is sent to the peer at distance `i`, and for what arrives from
    the peer whose distance to here is `i`. -/
def locS (x : Fin 4) : DmaSem sig := ⟨264 + x.val, by have := x.isLt; show _ < 268; omega⟩
def sndS (x : Fin 4) (i : Fin 31) : DmaSem sig := semNo ⟨2 * x.val, by have := x.isLt; omega⟩ i.succ
def rcvS (x : Fin 4) (i : Fin 31) : DmaSem sig := semNo ⟨2 * x.val + 1, by have := x.isLt; omega⟩ i.succ

/-- Exchange `x` as device `c` runs it. -/
def exch (x : Fin 4) (c : Dev nD) : Exch where
  own := srcPiece x c
  mine := dstPiece x c
  src i := srcPiece x (peer c i)
  rsrc i := srcPiece x (prev c i)
  rdst i := dstPiece x (prev c i)
  loc := locS x
  ss := sndS x
  sr := rcvS x

theorem pieceW_congr (m : Memref sig .tc .vmem S64x2048 .bf16) (hm : m.IsWhole) {o : Fin 2 → ℕ} {k : Dev nD} {b : Fin 2}
    (h : o = ![2 * k.val, 1024 * b.val]) (ho : ∀ a, o a + S2x1024.size a ≤ S64x2048.size a) (hw) :
    (⟨m.slice (Rect.unit (s := S64x2048) o S2x1024.size ho) (fun _ => rfl), hw⟩ : Piece) = pieceW m hm k b := by
  subst h; rfl
theorem pieceN_congr (m : Memref sig .tc .vmem S64x1024 .bf16) (hm : m.IsWhole) {o : Fin 2 → ℕ} {k : Dev nD}
    (h : o = ![2 * k.val, 0]) (ho : ∀ a, o a + S2x1024.size a ≤ S64x1024.size a) (hw) :
    (⟨m.slice (Rect.unit (s := S64x1024) o S2x1024.size ho) (fun _ => rfl), hw⟩ : Piece) = pieceN m hm k := by
  subst h; rfl

theorem off3_peer (c : Dev nD) (i : Fin 31) : k0_off3 c (dist i) = ![2 * (peer c i).val, 0] := by
  rw [peer_val]; exact Gen.k0_off3_eq c i
theorem off5_peer (c : Dev nD) (i : Fin 31) : k0_off5 c (dist i) = ![2 * (peer c i).val, 1024] := by
  rw [peer_val]; exact Gen.k0_off5_eq c i
theorem prev_val' (c : Dev nD) (i : Fin 31) : (prev c i).val = (c.val + 31 - i.val) % 32 := by
  rw [prev_val, Nat.add_sub_assoc (by have := i.isLt; omega)]
theorem off6_prev (c : Dev nD) (i : Fin 31) : k0_off6 c (dist i) = ![2 * (prev c i).val, 0] := by
  rw [prev_val']; exact Gen.k0_off6_eq c i
theorem off7_prev (c : Dev nD) (i : Fin 31) : k0_off7 c (dist i) = ![2 * (prev c i).val, 0] := by
  rw [prev_val']; exact Gen.k0_off7_eq c i
theorem off8_prev (c : Dev nD) (i : Fin 31) : k0_off8 c (dist i) = ![2 * (prev c i).val, 1024] := by
  rw [prev_val']; exact Gen.k0_off8_eq c i

abbrev hwh (b : Ref sig .tc) : (Memref.whole b).IsWhole := Memref.isWhole_whole b

theorem exch_congr {a b : Exch} (h1 : a.own = b.own) (h2 : a.mine = b.mine) (h3 : ∀ i, a.src i = b.src i)
    (h4 : ∀ i, a.rsrc i = b.rsrc i) (h5 : ∀ i, a.rdst i = b.rdst i) (h6 : a.loc = b.loc) (h7 : ∀ i, a.ss i = b.ss i)
    (h8 : ∀ i, a.sr i = b.sr i) : a = b := by
  cases a; cases b
  congr 1 <;> first | assumption | (funext i; first | exact h3 i | exact h4 i | exact h5 i | exact h7 i | exact h8 i)

theorem loc_0 : SemArray.sem cc0_scratch14 = locS 0 := by decide
theorem snd_0 : ∀ i : Fin 31, (semAt cc0_scratch6 i).sem = sndS 0 i := by decide +kernel
theorem rcv_0 : ∀ i : Fin 31, (semAt cc0_scratch7 i).sem = rcvS 0 i := by decide +kernel
theorem exch_0 (c : Dev nD) :
    rsa hM (hwh _) raM (hwh _) cc0_scratch6 cc0_scratch7 cc0_scratch14 c = exch 0 c := by
  exact exch_congr (pieceW_congr _ (hwh _) (Gen.k0_off2_eq c) _ _) (pieceN_congr _ (hwh _) (Gen.k0_off1_eq c) _ _) (fun i => pieceW_congr _ (hwh _) (off3_peer c i) _ _)
    (fun i => pieceW_congr _ (hwh _) (off7_prev c i) _ _) (fun i => pieceN_congr _ (hwh _) (off6_prev c i) _ _) loc_0 snd_0 rcv_0

theorem loc_1 : SemArray.sem cc0_scratch15 = locS 1 := by decide
theorem snd_1 : ∀ i : Fin 31, (semAt cc0_scratch8 i).sem = sndS 1 i := by decide +kernel
theorem rcv_1 : ∀ i : Fin 31, (semAt cc0_scratch9 i).sem = rcvS 1 i := by decide +kernel
theorem exch_1 (c : Dev nD) :
    rsb hM (hwh _) rbM (hwh _) cc0_scratch8 cc0_scratch9 cc0_scratch15 c = exch 1 c := by
  exact exch_congr (pieceW_congr _ (hwh _) (Gen.k0_off4_eq c) _ _) (pieceN_congr _ (hwh _) (Gen.k0_off1_eq c) _ _) (fun i => pieceW_congr _ (hwh _) (off5_peer c i) _ _)
    (fun i => pieceW_congr _ (hwh _) (off8_prev c i) _ _) (fun i => pieceN_congr _ (hwh _) (off6_prev c i) _ _) loc_1 snd_1 rcv_1

theorem loc_2 : SemArray.sem cc0_scratch16 = locS 2 := by decide
theorem snd_2 : ∀ i : Fin 31, (semAt cc0_scratch10 i).sem = sndS 2 i := by decide +kernel
theorem rcv_2 : ∀ i : Fin 31, (semAt cc0_scratch11 i).sem = rcvS 2 i := by decide +kernel
theorem exch_2 (c : Dev nD) :
    aga gM (hwh _) daM (hwh _) cc0_scratch10 cc0_scratch11 cc0_scratch16 c = exch 2 c := by
  exact exch_congr (rfl) (pieceW_congr _ (hwh _) (Gen.k0_off2_eq c) _ _) (fun _ => rfl)
    (fun _ => rfl) (fun i => pieceW_congr _ (hwh _) (off7_prev c i) _ _) loc_2 snd_2 rcv_2

theorem loc_3 : SemArray.sem cc0_scratch17 = locS 3 := by decide
theorem snd_3 : ∀ i : Fin 31, (semAt cc0_scratch12 i).sem = sndS 3 i := by decide +kernel
theorem rcv_3 : ∀ i : Fin 31, (semAt cc0_scratch13 i).sem = rcvS 3 i := by decide +kernel
theorem exch_3 (c : Dev nD) :
    agb gM (hwh _) dbM (hwh _) cc0_scratch12 cc0_scratch13 cc0_scratch17 c = exch 3 c := by
  exact exch_congr (rfl) (pieceW_congr _ (hwh _) (Gen.k0_off4_eq c) _ _) (fun _ => rfl)
    (fun _ => rfl) (fun i => pieceW_congr _ (hwh _) (off8_prev c i) _ _) loc_3 snd_3 rcv_3

/-! ## The credit of a piece -/

/-- What one piece credits the semaphore it completes on. -/
def N : ℕ := (dstPiece 0 0).v.view.dmaCredit

theorem N_pos : 0 < N := View.dmaCredit_pos _ (by decide)
theorem dst_credit (x : Fin 4) (k : Dev nD) : (dstPiece x k).v.view.dmaCredit = N := by
  fin_cases x <;> rfl
theorem src_credit (x : Fin 4) (k : Dev nD) : (srcPiece x k).v.view.dmaCredit = N := by
  fin_cases x <;> rfl

/-! ## Which semaphore is which -/

/-- The part a semaphore plays. -/
inductive Part where
  | stage
  | loc (x : Fin 4)
  | snd (x : Fin 4) (i : Fin 31)
  | rcv (x : Fin 4) (i : Fin 31)
  | idle
  deriving DecidableEq

/-- The part semaphore number `n` plays. -/
def partNo (n : ℕ) : Part :=
  if n < 8 then .stage
  else if h : n < 264 then
    if hj : (n - 8) % 32 = 0 then .idle
    else
      if (n - 8) / 32 % 2 = 0 then .snd ⟨(n - 8) / 64, by omega⟩ ⟨(n - 8) % 32 - 1, by omega⟩
      else .rcv ⟨(n - 8) / 64, by omega⟩ ⟨(n - 8) % 32 - 1, by omega⟩
  else .loc ⟨(n - 264) % 4, by omega⟩

def part (s : DmaSem sig) : Part := partNo s.val

theorem part_loc : ∀ x : Fin 4, part (locS x) = .loc x := by decide
theorem part_snd : ∀ (x : Fin 4) (i : Fin 31), part (sndS x i) = .snd x i := by decide +kernel
theorem part_rcv : ∀ (x : Fin 4) (i : Fin 31), part (rcvS x i) = .rcv x i := by decide +kernel

end Cert.KernelIdeal.Mlp
-- ==== Proof.KIVal.lean ====
module

public import proofs.«01_k».proof.Proof.KIView
public import Idealize.ShloMosaic.Lib.Pointwise.Index

/-! # What the buffers hold, layer by layer

The contents every exchange moves, as functions of what the devices were given: `act` is what each device holds
between two layers, `pay` the piece one device sends to another. -/

@[expose] public section

noncomputable section

namespace Cert.KernelIdeal.Mlp

open Idealize.ShloMosaic Idealize.ShloMosaic.TcCoe Idealize.SL Idealize.SL.Sem
open Facts₀ Facts

variable {F : FTy → Type} [FloatOps F]

/-! ## Rows, halves and blocks -/

/-- Rows `2k` and `2k + 1` of a half. -/
def rows2 (v : Vec F S64x1024 .bf16) (k : Dev nD) : Vec F S2x1024 .bf16 := fun j => v ((rectN k).emb j)

theorem row_lt (j : S64x1024.Idx) : (j 0).val < 64 := (j 0).isLt

/-- The half whose rows `2k` and `2k + 1` are `w k`. -/
def stack (w : Dev nD → Vec F S2x1024 .bf16) : Vec F S64x1024 .bf16 := fun j =>
  w ⟨(j 0).val / 2, by have := row_lt j; show _ < 32; omega⟩
    (ix2 (n0 := 2) (n1 := 1024) ⟨(j 0).val % 2, Nat.mod_lt _ (by decide)⟩ (j 1))

theorem emb_row (k : Dev nD) (j : S2x1024.Idx) : ((rectN k).emb j 0).val = 2 * k.val + (j 0).val := by
  rw [Rect.emb_apply]; simp
theorem emb_col (k : Dev nD) (j : S2x1024.Idx) : ((rectN k).emb j 1).val = (j 1).val := by
  rw [Rect.emb_apply]; simp

theorem rows2_stack (w : Dev nD → Vec F S2x1024 .bf16) (k : Dev nD) : rows2 (stack w) k = w k := by
  funext j
  have hj : (j 0).val < 2 := (j 0).isLt
  have h0 := emb_row k j
  have h1 := emb_col k j
  unfold rows2 stack
  have e1 : ∀ h, (⟨((rectN k).emb j 0).val / 2, h⟩ : Dev nD) = k := fun h => Fin.ext (by
    show ((rectN k).emb j 0).val / 2 = k.val
    rw [h0]; omega)
  have e2 : ix2 (n0 := 2) (n1 := 1024) ⟨((rectN k).emb j 0).val % 2, Nat.mod_lt _ (by decide)⟩ ((rectN k).emb j 1) = j := by
    funext a
    apply Fin.ext
    match a with
    | 0 => show ((rectN k).emb j 0).val % 2 = (j 0).val; rw [h0]; omega
    | 1 => exact h1
  rw [e1]
  exact congrArg (w k) e2

theorem inbWin (b : Fin 2) : ∀ a, (![0, 1024 * b.val] : Fin 2 → ℕ) a + S1024x1024.size a ≤ S1024x2048.size a := by
  revert b; decide
theorem inbWout (b : Fin 2) : ∀ a, (![1024 * b.val, 0] : Fin 2 → ℕ) a + S1024x1024.size a ≤ S2048x1024.size a := by
  revert b; decide
theorem inbHalf (b : Fin 2) : ∀ a, (![0, 1024 * b.val] : Fin 2 → ℕ) a + S64x1024.size a ≤ S64x2048.size a := by
  revert b; decide

abbrev rectWin (b : Fin 2) : Rect S1024x2048 := Rect.unit (s := S1024x2048) ![0, 1024 * b.val] S1024x1024.size (inbWin b)
abbrev rectWout (b : Fin 2) : Rect S2048x1024 := Rect.unit (s := S2048x1024) ![1024 * b.val, 0] S1024x1024.size (inbWout b)
/-- Half `b` of a buffer of two halves. -/
abbrev rectHalf (b : Fin 2) : Rect S64x2048 := Rect.unit (s := S64x2048) ![0, 1024 * b.val] S64x1024.size (inbHalf b)

/-- The half of a first matrix that makes half `b` of the hidden layer; -/
def winBlk (w : Vec F S1024x2048 .f32) (b : Fin 2) : Vec F S1024x1024 .f32 := fun j => w ((rectWin b).emb j)
/-- the half of a second matrix that half `b` of the hidden layer meets. -/
def woutBlk (w : Vec F S2048x1024 .f32) (b : Fin 2) : Vec F S1024x1024 .f32 := fun j => w ((rectWout b).emb j)

/-! ## One layer -/

/-- What the devices were given: their columns of the activations, and of each layer the two matrices' parts. -/
structure Given (F : FTy → Type) where
  x : Dev nD → Vec F S64x1024 .f32
  win : ℕ → Dev nD → Vec F S1024x2048 .f32
  wout : ℕ → Dev nD → Vec F S2048x1024 .f32

/-- Half `b` of device `k`'s partial hidden layer; -/
def hidOf (a : Dev nD → FVec F S64x1024 .f32) (win : Dev nD → Vec F S1024x2048 .f32) (b : Fin 2) (k : Dev nD) : Vec F S64x1024 .bf16 :=
  hidden (castIn (a k)) (winBlk (win k) b)
/-- the rows device `c` reduces, from every device, one above the other; -/
def gotOf (a : Dev nD → FVec F S64x1024 .f32) (win : Dev nD → Vec F S1024x2048 .f32) (b : Fin 2) (c : Dev nD) : Vec F S64x1024 .bf16 :=
  stack fun k => rows2 (hidOf a win b k) c
/-- their reduction; -/
def redOf (a : Dev nD → FVec F S64x1024 .f32) (win : Dev nD → Vec F S1024x2048 .f32) (b : Fin 2) (c : Dev nD) : Vec F S2x1024 .bf16 :=
  reduced (gotOf a win b c)
/-- half `b` of the gathered hidden layer; -/
def gathOf (a : Dev nD → FVec F S64x1024 .f32) (win : Dev nD → Vec F S1024x2048 .f32) (b : Fin 2) : Vec F S64x1024 .bf16 :=
  stack (redOf a win b)
/-- and the device's columns of the layer's result. -/
def outOf (a : Dev nD → FVec F S64x1024 .f32) (win : Dev nD → Vec F S1024x2048 .f32) (wout : Dev nD → Vec F S2048x1024 .f32)
    (c : Dev nD) : FVec F S64x1024 .f32 :=
  addf (prod (gathOf a win 0) (woutBlk (wout c) 0)) (prod (gathOf a win 1) (woutBlk (wout c) 1))

/-- What each device holds before layer `l`. -/
def act (I : Given F) : ℕ → Dev nD → FVec F S64x1024 .f32
  | 0 => fun c => shapeCast S64x1024 (I.x c) shapeCasts_S64x1024_S64x1024
  | l + 1 => outOf (act I l) (I.win l) (I.wout l)

/-- What device `k` sends to device `c` in exchange `x` of layer `l` (and keeps, where `c` is `k`). -/
def pay (I : Given F) (x : Fin 4) (l : ℕ) (k c : Dev nD) : Vec F S2x1024 .bf16 := match x with
  | 0 => rows2 (hidOf (act I l) (I.win l) 0 k) c
  | 1 => rows2 (hidOf (act I l) (I.win l) 1 k) c
  | 2 => redOf (act I l) (I.win l) 0 k
  | 3 => redOf (act I l) (I.win l) 1 k

end Cert.KernelIdeal.Mlp
-- ==== Proof.KISched.lean ====
module

public import proofs.«01_k».proof.Proof.KIVal
public import Mathlib.Algebra.BigOperators.Intervals

/-! # The protocol

Who waits on which semaphore, who credits it, how much, and what each credit hands over.

* The barrier of a device is credited once by every peer. The peer hands over the two places, one in each of its
  scattering buffers, that this device will send to.
* `rcv x i` of a device is credited in every layer by the peer whose distance to the device is `i`, with one piece.
  The peer hands over the piece, holding what it sent, and the place in its own buffer where this device may send next:
  after a scattering, the place the gathering of the same half uses; after a gathering, the place the next layer's
  scattering uses.
* `snd x i` gives the sent piece back, `loc x` the own copy and its source.

A device waits for an exchange only while it owes exchanges that come later (`level`). -/

@[expose] public section

noncomputable section

namespace Cert.KernelIdeal.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! ## Resources -/

abbrev UB : Type := URounds (GSem nD τ sig) (Fin 31)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Cells -/

abbrev barCell (c : Dev nD) : GSem nD τ sig := ((c : Thread nD τ), .reg barS)
abbrev locCell (c : Dev nD) (x : Fin 4) : GSem nD τ sig := ((c : Thread nD τ), .dma (locS x))
abbrev sndCell (c : Dev nD) (x : Fin 4) (i : Fin 31) : GSem nD τ sig := ((c : Thread nD τ), .dma (sndS x i))
abbrev rcvCell (c : Dev nD) (x : Fin 4) (i : Fin 31) : GSem nD τ sig := ((c : Thread nD τ), .dma (rcvS x i))

/-! ## What is handed over -/

/-- A piece at contents nothing is said of. -/
def anyP (c : Dev nD) (p : Piece) : sProp 𝕄 :=
  ownsSat (Ix := ℕ) (Name := ℕ) (U := UU) (Lvl := ℕ) (c : Thread nD τ) p.v fullShare (fun _ => True)

/-- A piece at given contents. -/
def holdP (c : Dev nD) (p : Piece) (q : PosShare TreeShare) (X : Vec F S2x1024 .bf16) : sProp 𝕄 :=
  owns (Ix := ℕ) (Name := ℕ) (U := UU) (Lvl := ℕ) (c : Thread nD τ) p.v q X

/-- Device `c` lets the device at distance `i` before it send in exchange `x` of layer `l`. -/
def grant (x : Fin 4) (l : ℕ) (c : Dev nD) (i : Fin 31) : sProp 𝕄 :=
  iprop(anyP c (dstPiece x (prev c i)) ∗ reached ER (rcvCell c x i) l)

/-- The layer in which the partner of exchange `x` of layer `l` comes next. -/
def nextLayer (x : Fin 4) (l : ℕ) : ℕ := if x.val < 2 then l else l + 1

/-- What comes with a piece of exchange `x`: the leave to send in the partner exchange, unless there is none left. -/
def grantNext (x : Fin 4) (l : ℕ) (c : Dev nD) (i : Fin 31) : sProp 𝕄 :=
  if nextLayer x l < 3 then grant (x + 2) (nextLayer x l) c i else iprop(emp)

/-- The share of the source that each copy of an exchange borrows: scattered pieces are sent whole, a gathered piece
    goes to everybody. -/
def shareO (x : Fin 4) : PosShare TreeShare := if x.val < 2 then fullShare else Transfers.shareDrop fullShare 31
def shareP (x : Fin 4) (i : Fin 31) : PosShare TreeShare :=
  if x.val < 2 then fullShare else Transfers.shareTok fullShare 31 i

def barPay (c : Dev nD) (i : Fin 31) : sProp 𝕄 :=
  iprop(grant (F := F) 0 0 (prev c i) i.rev ∗ grant (F := F) 1 0 (prev c i) i.rev)

variable (I : Given F)

def locPay (x : Fin 4) (l : ℕ) (c : Dev nD) : sProp 𝕄 :=
  iprop(holdP c (dstPiece x c) fullShare (pay I x l c c) ∗ holdP c (srcPiece x c) (shareO x) (pay I x l c c))
def sndPay (x : Fin 4) (l : ℕ) (c : Dev nD) (i : Fin 31) : sProp 𝕄 :=
  holdP c (srcPiece x (peer c i)) (shareP x i) (pay I x l c (peer c i))
def rcvPay (x : Fin 4) (l : ℕ) (c : Dev nD) (i : Fin 31) : sProp 𝕄 :=
  iprop(holdP c (dstPiece x (prev c i)) fullShare (pay I x l (prev c i) c) ∗ grantNext x l (prev c i) i.rev)

instance anyP_storable (c : Dev nD) (p : Piece) : BI.Storable (upEmb : UEmb _ 𝕄) (anyP (F := F) c p) := by
  unfold anyP; infer_instance
instance holdP_storable (c : Dev nD) (p : Piece) (q) (X) : BI.Storable (upEmb : UEmb _ 𝕄) (holdP (F := F) c p q X) := by
  unfold holdP; infer_instance
instance grant_storable (x : Fin 4) (l : ℕ) (c : Dev nD) (i : Fin 31) :
    BI.Storable (upEmb : UEmb _ 𝕄) (grant (F := F) x l c i) := by unfold grant; infer_instance
instance grantNext_storable (x : Fin 4) (l : ℕ) (c : Dev nD) (i : Fin 31) :
    BI.Storable (upEmb : UEmb _ 𝕄) (grantNext (F := F) x l c i) := by unfold grantNext; split <;> infer_instance

/-! ## The schedule -/

/-- What semaphore `s` of device `c` hands over in layer `l`. -/
def dmaPay (c : Dev nD) (s : DmaSem sig) (l : ℕ) : sProp 𝕄 := match part s with
  | .loc x => locPay I x l c
  | .snd x i => sndPay I x l c i
  | .rcv x i => rcvPay I x l c i
  | _ => iprop(emp)

/-- Whether a semaphore takes part. -/
def busy (s : DmaSem sig) : Bool := match part s with
  | .loc _ | .snd _ _ | .rcv _ _ => true
  | _ => false

def Rd : Rounds.Schedule (GSem nD τ sig) (Fin 31) 𝕄 where
  duties g r := match g.2 with
    | .reg s => if g.1.2 = .tc ∧ s = barS ∧ r = 0 then Finset.univ else ∅
    | .dma s => if g.1.2 = .tc ∧ busy s = true ∧ r < 3 then {0} else ∅
  unitless _ := False
  amount g _ _ := match g.2 with
    | .reg _ => 1
    | .dma _ => N
  payload g r d := match g.2 with
    | .reg _ => barPay g.1.1 d
    | .dma s => dmaPay I g.1.1 s r
  amount_pos g _ _ _ := by
    split
    · exact Nat.one_pos
    · exact N_pos

instance Rd_payload_storable (g : GSem nD τ sig) (r : ℕ) (d : Fin 31) :
    BI.Storable (upEmb : UEmb _ 𝕄) ((Rd (F := F) I).payload g r d) := by
  dsimp only [Rd]
  split
  · unfold barPay; infer_instance
  · unfold dmaPay locPay sndPay rcvPay
    split <;> infer_instance

theorem busy_loc (x : Fin 4) : busy (locS x) = true := by unfold busy; rw [part_loc]
theorem busy_snd (x : Fin 4) (i : Fin 31) : busy (sndS x i) = true := by unfold busy; rw [part_snd]
theorem busy_rcv (x : Fin 4) (i : Fin 31) : busy (rcvS x i) = true := by unfold busy; rw [part_rcv]

theorem duties_bar (c : Dev nD) : (Rd I).duties (barCell c) 0 = Finset.univ := by
  unfold Rd; dsimp only; exact if_pos ⟨rfl, rfl, rfl⟩
theorem duties_dma (c : Dev nD) {s : DmaSem sig} (h : busy s = true) {l : ℕ} (hl : l < 3) :
    (Rd I).duties ((c : Thread nD τ), .dma s) l = {0} := if_pos ⟨rfl, h, hl⟩
theorem duties_later (g : GSem nD τ sig) : ∀ r, 3 ≤ r → (Rd I).duties g r = ∅ := fun r hr => by
  dsimp only [Rd]
  split
  · exact if_neg fun h => by omega
  · exact if_neg fun h => by omega
theorem duties_bar_later (c : Dev nD) : ∀ r, 1 ≤ r → (Rd I).duties (barCell c) r = ∅ := fun r hr =>
  if_neg fun h => by omega
theorem duties_idle (c : Dev nD) {s : DmaSem sig} (h : busy s = false) : ∀ r, 0 ≤ r → (Rd I).duties ((c : Thread nD τ), .dma s) r = ∅ :=
  fun r _ => if_neg fun h' => by rw [h] at h'; exact Bool.false_ne_true h'.2.1

theorem amount_bar (c : Dev nD) (d : Fin 31) : (Rd I).amount (barCell c) 0 d = 1 := rfl
theorem amount_dma (c : Dev nD) (s : DmaSem sig) (l : ℕ) (d : Fin 31) : (Rd I).amount ((c : Thread nD τ), .dma s) l d = N := rfl

theorem expect_bar (c : Dev nD) : (Rd I).expect (barCell c) 0 = 31 := by
  unfold Schedule.expect Schedule.amountOf
  rw [duties_bar, Finset.sum_congr rfl fun d _ => amount_bar I c d]; rfl
theorem expect_dma (c : Dev nD) {s : DmaSem sig} (h : busy s = true) {l : ℕ} (hl : l < 3) :
    (Rd I).expect ((c : Thread nD τ), .dma s) l = N := by
  unfold Schedule.expect Schedule.amountOf; rw [duties_dma I c h hl, Finset.sum_singleton, amount_dma]

theorem payload_bar (c : Dev nD) (d : Fin 31) : (Rd I).payload (barCell c) 0 d = barPay c d := rfl
theorem payload_loc (c : Dev nD) (x : Fin 4) (l : ℕ) (d : Fin 31) : (Rd I).payload (locCell c x) l d = locPay I x l c := by
  show dmaPay I c (locS x) l = _; unfold dmaPay; rw [part_loc]
theorem payload_snd (c : Dev nD) (x : Fin 4) (i : Fin 31) (l : ℕ) (d : Fin 31) :
    (Rd I).payload (sndCell c x i) l d = sndPay I x l c i := by
  show dmaPay I c (sndS x i) l = _; unfold dmaPay; rw [part_snd]
theorem payload_rcv (c : Dev nD) (x : Fin 4) (i : Fin 31) (l : ℕ) (d : Fin 31) :
    (Rd I).payload (rcvCell c x i) l d = rcvPay I x l c i := by
  show dmaPay I c (rcvS x i) l = _; unfold dmaPay; rw [part_rcv]

/-- What a wait takes: the one payload of the round. -/
theorem rest_dma (c : Dev nD) {s : DmaSem sig} (h : busy s = true) {l : ℕ} (hl : l < 3) :
    bigSep ((Rd I).duties ((c : Thread nD τ), .dma s) l \ ∅) (fun d => (Rd I).payload ((c : Thread nD τ), .dma s) l d)
      = (Rd I).payload ((c : Thread nD τ), .dma s) l 0 := by
  rw [Finset.sdiff_empty, duties_dma I c h hl, bigSep_singleton]
theorem rest_bar (c : Dev nD) :
    bigSep ((Rd I).duties (barCell c) 0 \ ∅) (fun d => (Rd I).payload (barCell c) 0 d)
      = bigSep Finset.univ fun d => barPay (F := F) c d := by
  rw [Finset.sdiff_empty, duties_bar]; rfl

/-! ## Levels -/

/-- The level of a cell in a layer: the barrier first, then the exchanges in their order. -/
def level (g : GSem nD τ sig) (l : ℕ) : ℕ := match g.2 with
  | .reg _ => 1
  | .dma s => match part s with
    | .rcv x _ => 4 * l + x.val + 2
    | _ => 0

/-- The layers a cell is waited for in. -/
def layers (g : GSem nD τ sig) : Finset ℕ := if g.1.2 = .tc then {0, 1, 2} else ∅

theorem layers_of_ne (g : GSem nD τ sig) (h : g.1.2 ≠ .tc) : layers g = ∅ := if_neg h
theorem layers_tc (c : Dev nD) (sm : SemLoc sig) : layers ((c : Thread nD τ), sm) = {0, 1, 2} := if_pos rfl
theorem mem_layers (c : Dev nD) (sm : SemLoc sig) {l : ℕ} (h : l < 3) : l ∈ layers ((c : Thread nD τ), sm) := by
  rw [layers_tc]; simp only [Finset.mem_insert, Finset.mem_singleton]; omega

theorem level_rcv (c : Dev nD) (x : Fin 4) (i : Fin 31) (l : ℕ) : level (rcvCell c x i) l = 4 * l + x.val + 2 := by
  unfold level; dsimp only; rw [part_rcv]
theorem level_snd (c : Dev nD) (x : Fin 4) (i : Fin 31) (l : ℕ) : level (sndCell c x i) l = 0 := by
  unfold level; dsimp only; rw [part_snd]
theorem level_loc (c : Dev nD) (x : Fin 4) (l : ℕ) : level (locCell c x) l = 0 := by
  unfold level; dsimp only; rw [part_loc]
theorem level_bar (c : Dev nD) (l : ℕ) : level (barCell c) l = 1 := rfl

/-! ## What a device owes -/

/-- The pieces of exchange `x` of layer `l`. -/
def oweX (x : Fin 4) (l : ℕ) (c : Dev nD) : CellTallies nD τ sig ℕ := ∑ i : Fin 31, tallyAt (rcvCell (peer c i) x i) l N

/-- All exchanges from number `p` on, counted through the layers. -/
def oweFrom (p : ℕ) (c : Dev nD) : CellTallies nD τ sig ℕ :=
  ∑ p' ∈ Finset.Ico p 12, oweX ⟨p' % 4, Nat.mod_lt _ (by decide)⟩ (p' / 4) c

theorem oweFrom_step {x : Fin 4} {l : ℕ} (hl : l < 3) (c : Dev nD) :
    oweFrom (4 * l + x.val) c = oweFrom (4 * l + x.val + 1) c + oweX x l c := by
  have hx := x.isLt
  unfold oweFrom
  rw [Finset.sum_eq_sum_Ico_succ_bot (by omega : 4 * l + x.val < 12), add_comm]
  congr 2
  · apply Fin.ext; show (4 * l + x.val) % 4 = x.val; omega
  · omega

theorem oweFrom_end (c : Dev nD) : oweFrom 12 c = 0 := by unfold oweFrom; rw [Finset.Ico_self, Finset.sum_empty]

/-- The barrier's units. -/
def oweBar (c : Dev nD) : CellTallies nD τ sig ℕ := ∑ i : Fin 31, tallyAt (barCell (peer c i)) 0 1

/-- What device `c` owes at launch. -/
def owe₀ (c : Dev nD) : CellTallies nD τ sig ℕ := oweFrom 0 c + oweBar c

theorem pos_of_sum {A : Type} {s : Finset A} {f : A → CellTallies nD τ sig ℕ} {g : GSem nD τ sig} {u : ℕ}
    (h : 0 < (∑ a ∈ s, f a) g u) : ∃ a ∈ s, 0 < f a g u := by
  classical
  induction s using Finset.induction_on with
  | empty => rw [Finset.sum_empty] at h; exact absurd h (Nat.lt_irrefl 0)
  | insert a s ha ih =>
    rw [Finset.sum_insert ha, Pi.add_apply, Finsupp.add_apply] at h
    rcases Nat.eq_zero_or_pos (f a g u) with h0 | h0
    · rw [h0, Nat.zero_add] at h
      obtain ⟨b, hb, hp⟩ := ih h
      exact ⟨b, Finset.mem_insert_of_mem hb, hp⟩
    · exact ⟨a, Finset.mem_insert_self _ _, h0⟩

theorem pos_of_tally {g₀ g : GSem nD τ sig} {u₀ u k : ℕ} (h : 0 < (tallyAt g₀ u₀ k : CellTallies nD τ sig ℕ) g u) :
    g = g₀ ∧ u = u₀ := by
  rw [tallyAt_apply] at h
  by_contra hn
  rw [if_neg hn] at h; exact Nat.lt_irrefl 0 h

theorem oweFrom_pos {p : ℕ} {c : Dev nD} {g : GSem nD τ sig} {u : ℕ} (h : 0 < oweFrom p c g u) :
    u ∈ layers g ∧ p + 2 ≤ level g u := by
  unfold oweFrom at h
  obtain ⟨p', hp', h⟩ := pos_of_sum h
  rw [Finset.mem_Ico] at hp'
  obtain ⟨i, -, h⟩ := pos_of_sum h
  obtain ⟨rfl, rfl⟩ := pos_of_tally h
  refine ⟨mem_layers _ _ (by omega), ?_⟩
  rw [level_rcv]; simp only; omega

theorem oweBar_pos {c : Dev nD} {g : GSem nD τ sig} {u : ℕ} (h : 0 < oweBar c g u) :
    u ∈ layers g ∧ 1 ≤ level g u := by
  unfold oweBar at h
  obtain ⟨i, -, h⟩ := pos_of_sum h
  obtain ⟨rfl, rfl⟩ := pos_of_tally h
  exact ⟨mem_layers _ _ (by decide), le_of_eq (level_bar _ _).symm⟩

/-- A wait at level `k` is allowed while what is owed lies above it. -/
theorem mayWait_of {c : Dev nD} {sm : SemLoc sig} {l k : ℕ} {O : CellTallies nD τ sig ℕ} (hl : l < 3)
    (hk : level ((c : Thread nD τ), sm) l ≤ k) (hO : ∀ g u, 0 < O g u → u ∈ layers g ∧ k < level g u) :
    (levAts layers level : sProp 𝕄) ⊢ MayWait (c : Thread nD τ) sm l O :=
  MayOwe.of_cut (L := layers) (lev := level) k
    (fun p hp => by rw [Finset.mem_singleton.mp hp]; exact mem_layers c sm hl)
    (fun g u hg => (hO g u hg).1)
    (fun p hp => by rw [Finset.mem_singleton.mp hp]; exact hk)
    (fun g u hg => (hO g u hg).2)

end Cert.KernelIdeal.Mlp
-- ==== Proof.KIMem.lean ====
module

public import proofs.«01_k».proof.Proof.KISched

/-! # Cutting the buffers into pieces, and the steps that touch them

A half of a buffer is the thirty-two pieces of the devices; the source of an exchange is the piece kept and the pieces
sent (`srcHold`). Loads and stores are stated on the part of the buffer they name. -/

@[expose] public section

noncomputable section

namespace Cert.KernelIdeal.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig ℕ (Elt F) ℕ UU ℕ

theorem eq_of {P Q : sProp 𝕄} (h₁ : P ⊢ Q) (h₂ : Q ⊢ P) : P = Q := BI.equiv_iff.mp ⟨h₁, h₂⟩
theorem of_eq {P Q : sProp 𝕄} (h : P = Q) : P ⊢ Q := h ▸ Entails.rfl

/-! ## This device and its peers -/

/-- A family over the devices is its member here and the peers' members; -/
theorem bigSep_dev (c : Dev nD) (Φ : Dev nD → sProp 𝕄) :
    bigSep Finset.univ Φ = iprop(Φ c ∗ bigSep Finset.univ fun i => Φ (peer c i)) := by
  rw [univ_dev c, bigSep_insert (by simp [peer_ne]), bigSep_map]; rfl

/-- the peers may be run through from either side. -/
theorem bigSep_rev (Φ : Fin 31 → sProp 𝕄) : bigSep Finset.univ Φ = bigSep Finset.univ fun i => Φ (Fin.rev i) :=
  bigSep_univ_equiv Fin.revPerm Φ

/-! ## Owning parts of a buffer -/

theorem rectN_disjoint (k k' : Dev nD) (h : k ≠ k') : Disjoint (rectN k).set (rectN k').set := by
  rw [Finset.disjoint_left]
  intro j h₁ h₂
  obtain ⟨a, ha, e₁⟩ := (rectN k).mem_set.mp h₁ 0
  obtain ⟨b, hb, e₂⟩ := (rectN k').mem_set.mp h₂ 0
  have hne : k.val ≠ k'.val := fun e => h (Fin.ext e)
  have ha' : a < 2 := ha
  have hb' : b < 2 := hb
  have e₁' : (j 0 : ℕ) = 2 * k.val + 1 * a := e₁
  have e₂' : (j 0 : ℕ) = 2 * k'.val + 1 * b := e₂
  omega

theorem rectN_cover : (Finset.univ : Finset (Dev nD)).biUnion (fun k => (rectN k).set) = Finset.univ := by
  ext j
  simp only [Finset.mem_biUnion, Finset.mem_univ, true_and, iff_true]
  have h0 : (j 0).val < 64 := (j 0).isLt
  have h1 : (j 1).val < 1024 := (j 1).isLt
  refine ⟨⟨(j 0).val / 2, by show _ < 32; omega⟩, (rectN _).mem_set.mpr fun a => ?_⟩
  match a with
  | 0 =>
    refine ⟨(j 0).val % 2, Nat.mod_lt _ (by decide), ?_⟩
    show (j 0).val = 2 * ((j 0).val / 2) + 1 * ((j 0).val % 2)
    omega
  | 1 =>
    refine ⟨(j 1).val, h1, ?_⟩
    show (j 1).val = 0 + 1 * (j 1).val
    omega

theorem rectHalf_disjoint (b b' : Fin 2) (h : b ≠ b') : Disjoint (rectHalf b).set (rectHalf b').set := by
  rw [Finset.disjoint_left]
  intro j h₁ h₂
  obtain ⟨x, hx, e₁⟩ := (rectHalf b).mem_set.mp h₁ 1
  obtain ⟨y, hy, e₂⟩ := (rectHalf b').mem_set.mp h₂ 1
  have hne : b.val ≠ b'.val := fun e => h (Fin.ext e)
  have hx' : x < 1024 := hx
  have hy' : y < 1024 := hy
  have e₁' : (j 1 : ℕ) = 1024 * b.val + 1 * x := e₁
  have e₂' : (j 1 : ℕ) = 1024 * b'.val + 1 * y := e₂
  omega

theorem rectHalf_cover : (Finset.univ : Finset (Fin 2)).biUnion (fun b => (rectHalf b).set) = Finset.univ := by
  ext j
  simp only [Finset.mem_biUnion, Finset.mem_univ, true_and, iff_true]
  have h0 : (j 0).val < 64 := (j 0).isLt
  have h1 : (j 1).val < 2048 := (j 1).isLt
  refine ⟨⟨(j 1).val / 1024, by omega⟩, (rectHalf _).mem_set.mpr fun a => ?_⟩
  match a with
  | 0 =>
    refine ⟨(j 0).val, h0, ?_⟩
    show (j 0).val = 0 + 1 * (j 0).val
    omega
  | 1 =>
    refine ⟨(j 1).val % 1024, Nat.mod_lt _ (by decide), ?_⟩
    show (j 1).val = 1024 * ((j 1).val / 1024) + 1 * ((j 1).val % 1024)
    omega

/-- A part of a buffer at given contents. -/
abbrev hold {sp : Space} {s : Shape} {e : EltTy} (c : Dev nD) (m : Memref sig .tc sp s e) (q : PosShare TreeShare) (X : Vec F s e) : sProp 𝕄 :=
  owns (Ix := ℕ) (Name := ℕ) (U := UU) (Lvl := ℕ) (c : Thread nD τ) m q X
/-- A part of a buffer at contents nothing is said of. -/
abbrev anyM {sp : Space} {s : Shape} {e : EltTy} (c : Dev nD) (m : Memref sig .tc sp s e) : sProp 𝕄 :=
  iprop(∃ X : Vec F s e, hold c m fullShare X)

theorem hold_elim {sp : Space} {s : Shape} {e : EltTy} (c : Dev nD) (m : Memref sig .tc sp s e) (q : PosShare TreeShare) (X : Vec F s e) :
    hold c m q X ⊢ iprop(∃ f, ⌜m.view.read (Elt F) f = X⌝ ∗ (m.view.loc (c : Thread nD τ) ↦[m.view.set]{q} f)) := Entails.rfl
theorem hold_of {sp : Space} {s : Shape} {e : EltTy} (c : Dev nD) (m : Memref sig .tc sp s e) (q : PosShare TreeShare) (X : Vec F s e)
    (f : m.view.ty.Contents (Elt F)) (hf : m.view.read (Elt F) f = X) :
    (m.view.loc (c : Thread nD τ) ↦[m.view.set]{q} f) ⊢ hold c m q X := by
  have h : (m.view.loc (c : Thread nD τ) ↦[m.view.set]{q} f)
      ⊢ (iprop(∃ f, ⌜m.view.read (Elt F) f = X⌝ ∗ (m.view.loc (c : Thread nD τ) ↦[m.view.set]{q} f)) : sProp 𝕄) := by
    iintro H
    iexists f
    isplitr
    · ipureintro; exact hf
    · iexact H
  exact h

theorem holdP_elim (c : Dev nD) (p : Piece) (q : PosShare TreeShare) (X : Vec F S2x1024 .bf16) :
    holdP c p q X ⊢ iprop(∃ f, ⌜p.v.view.read (Elt F) f = X⌝ ∗ (p.v.view.loc (c : Thread nD τ) ↦[p.v.view.set]{q} f)) := Entails.rfl

theorem anyP_iff (c : Dev nD) (p : Piece) : (anyP (F := F) c p) ⊣⊢ anyM c p.v := ownsSat_true _ _ _
theorem anyP_intro (c : Dev nD) (p : Piece) (X : Vec F S2x1024 .bf16) : holdP c p fullShare X ⊢ anyP (F := F) c p :=
  ownsSat_intro _ _ _ trivial

/-- A piece of a half of a buffer is the piece of the buffer. -/
theorem hold_piece (c : Dev nD) (m : Memref sig .tc .vmem S64x2048 .bf16) (hm : m.IsWhole) (k : Dev nD) (b : Fin 2)
    (q : PosShare TreeShare) (X : Vec F S2x1024 .bf16) :
    hold c ((m.slice (rectHalf b) (fun _ => rfl)).slice (rectN k) (fun _ => rfl)) q X = holdP c (pieceW m hm k b) q X := by
  have he : ∀ j : S2x1024.Idx, (rectHalf b).emb ((rectN k).emb j) = (rectW k b).emb j := fun j => by
    funext a
    apply Fin.ext
    match a with
    | 0 => show 0 + 1 * (2 * k.val + 1 * (j 0).val) = 2 * k.val + 1 * (j 0).val; omega
    | 1 => show 1024 * b.val + 1 * (0 + 1 * (j 1).val) = 1024 * b.val + 1 * (j 1).val; omega
  have hemb : ((m.view.slice (rectHalf b)).slice (rectN k)).emb = (m.view.slice (rectW k b)).emb :=
    Function.Embedding.ext fun j => congrArg m.view.emb (he j)
  have hset : ((m.view.slice (rectHalf b)).slice (rectN k)).set = (m.view.slice (rectW k b)).set :=
    congrArg (Finset.univ.map ·) hemb
  have hread : ∀ f, ((m.view.slice (rectHalf b)).slice (rectN k)).read (Elt F) f = (m.view.slice (rectW k b)).read (Elt F) f :=
    fun f => funext fun j => by
      rw [View.read_apply, View.read_apply, hemb]
  unfold hold holdP owns
  show iprop(∃ f, ⌜((m.view.slice (rectHalf b)).slice (rectN k)).read (Elt F) f = X⌝
    ∗ m.view.loc (c : Thread nD τ) ↦[((m.view.slice (rectHalf b)).slice (rectN k)).set]{q} f) = _
  rw [hset]
  congr 1
  funext f
  rw [hread]
  rfl

/-- Half `b` of a buffer is every device's piece of it; -/
theorem half_split (c : Dev nD) (m : Memref sig .tc .vmem S64x2048 .bf16) (hm : m.IsWhole) (b : Fin 2)
    (q : PosShare TreeShare) (X : Vec F S64x1024 .bf16) :
    hold c (m.slice (rectHalf b) (fun _ => rfl)) q X = bigSep Finset.univ fun k => holdP c (pieceW m hm k b) q (rows2 X k) := by
  rw [← bigSep_congr fun k _ => hold_piece c m hm k b q (rows2 X k)]
  exact BI.equiv_iff.mp ⟨owns_rects (c : Thread nD τ) (m.slice (rectHalf b) (fun _ => rfl)) q rectN (fun _ _ => rfl) rectN_disjoint rectN_cover X,
    owns_of_rects (c : Thread nD τ) (m.slice (rectHalf b) (fun _ => rfl)) q rectN (fun _ _ => rfl) rectN_disjoint rectN_cover X⟩

/-- so is a buffer of one half. -/
theorem narrow_split (c : Dev nD) (m : Memref sig .tc .vmem S64x1024 .bf16) (hm : m.IsWhole)
    (q : PosShare TreeShare) (X : Vec F S64x1024 .bf16) :
    hold c m q X = bigSep Finset.univ fun k => holdP c (pieceN m hm k) q (rows2 X k) :=
  BI.equiv_iff.mp ⟨owns_rects (c : Thread nD τ) m q rectN (fun _ _ => rfl) rectN_disjoint rectN_cover X,
    owns_of_rects (c : Thread nD τ) m q rectN (fun _ _ => rfl) rectN_disjoint rectN_cover X⟩

theorem rectHalf_emb_row (b : Fin 2) (j : S64x1024.Idx) : ((rectHalf b).emb j 0).val = (j 0).val := by
  show 0 + 1 * (j 0).val = _; omega
theorem rectHalf_emb_col (b : Fin 2) (j : S64x1024.Idx) : ((rectHalf b).emb j 1).val = 1024 * b.val + (j 1).val := by
  show 1024 * b.val + 1 * (j 1).val = _; omega

/-- Two halves side by side. -/
def beside (X : Fin 2 → Vec F S64x1024 .bf16) : Vec F S64x2048 .bf16 := fun i =>
  X ⟨(i 1).val / 1024, by have h : (i 1).val < 2048 := (i 1).isLt; omega⟩
    (ix2 (n0 := 64) (n1 := 1024) (i 0) ⟨(i 1).val % 1024, Nat.mod_lt _ (by decide)⟩)

theorem beside_emb (X : Fin 2 → Vec F S64x1024 .bf16) (b : Fin 2) : (fun j => beside X ((rectHalf b).emb j)) = X b := by
  funext j
  have hj : (j 1).val < 1024 := (j 1).isLt
  have h0 := rectHalf_emb_row b j
  have h1 := rectHalf_emb_col b j
  unfold beside
  have e1 : ∀ h, (⟨((rectHalf b).emb j 1).val / 1024, h⟩ : Fin 2) = b := fun h => Fin.ext (by
    show ((rectHalf b).emb j 1).val / 1024 = b.val
    rw [h1]; omega)
  have e2 : ix2 (n0 := 64) (n1 := 1024) ((rectHalf b).emb j 0) ⟨((rectHalf b).emb j 1).val % 1024, Nat.mod_lt _ (by decide)⟩ = j := by
    funext a
    apply Fin.ext
    match a with
    | 0 => exact h0
    | 1 => show ((rectHalf b).emb j 1).val % 1024 = (j 1).val; rw [h1]; omega
  rw [e1]
  exact congrArg (X b) e2

/-- A buffer of two halves at any contents is its halves at any contents. -/
theorem halves_any (c : Dev nD) (m : Memref sig .tc .vmem S64x2048 .bf16) :
    anyM (F := F) c m = iprop(anyM c (m.slice (rectHalf 0) (fun _ => rfl)) ∗ anyM c (m.slice (rectHalf 1) (fun _ => rfl))) := by
  refine eq_of ?_ ?_
  · iintro ⟨%X, H⟩
    ihave H := (owns_rects (c : Thread nD τ) m fullShare rectHalf (fun _ _ => rfl) rectHalf_disjoint rectHalf_cover X) $$ H
    ihave H := (of_eq (bigSep_univ_two _)) $$ H
    icases H with ⟨H0, H1⟩
    isplitl [H0]
    · iexists _; iexact H0
    · iexists _; iexact H1
  · iintro ⟨⟨%X0, H0⟩, ⟨%X1, H1⟩⟩
    iexists beside (fun b => if b = 0 then X0 else X1)
    iapply (owns_of_rects (c : Thread nD τ) m fullShare rectHalf (fun _ _ => rfl) rectHalf_disjoint rectHalf_cover (beside (fun b => if b = 0 then X0 else X1)))
    rw [bigSep_univ_two, beside_emb, beside_emb]
    isplitl [H0]
    · iexact H0
    · iexact H1

/-! ## The two sides of an exchange -/

/-- Where the pieces of an exchange land. -/
def dstM (x : Fin 4) : Memref sig .tc .vmem S64x1024 .bf16 := match x with
  | 0 => raM
  | 1 => rbM
  | 2 => gM.slice (rectHalf 0) (fun _ => rfl)
  | 3 => gM.slice (rectHalf 1) (fun _ => rfl)

theorem dst_split (x : Fin 4) (c : Dev nD) (q : PosShare TreeShare) (X : Vec F S64x1024 .bf16) :
    hold c (dstM x) q X = bigSep Finset.univ fun k => holdP c (dstPiece x k) q (rows2 X k) := by
  match x with
  | 0 => exact narrow_split c raM (Memref.isWhole_whole _) q X
  | 1 => exact narrow_split c rbM (Memref.isWhole_whole _) q X
  | 2 => exact half_split c gM (Memref.isWhole_whole _) 0 q X
  | 3 => exact half_split c gM (Memref.isWhole_whole _) 1 q X

theorem dst_join (x : Fin 4) (c : Dev nD) (q : PosShare TreeShare) (w : Dev nD → Vec F S2x1024 .bf16) :
    (bigSep Finset.univ fun k => holdP c (dstPiece x k) q (w k)) = hold c (dstM x) q (stack w) := by
  rw [dst_split]; simp only [rows2_stack]

instance piece_nonempty : Nonempty (Vec F S2x1024 .bf16) :=
  ⟨fun _ => ((inferInstance : ∀ e, Nonempty (Elt F e)) .bf16).some⟩

theorem dst_any (x : Fin 4) (c : Dev nD) : anyM (F := F) c (dstM x) = bigSep Finset.univ fun k => anyP c (dstPiece x k) := by
  refine eq_of ?_ ?_
  · iintro ⟨%X, H⟩
    ihave H := (of_eq (dst_split x c fullShare X)) $$ H
    have hm : (bigSep Finset.univ fun k => holdP c (dstPiece x k) fullShare (rows2 X k))
      ⊢ bigSep Finset.univ fun k => anyP (F := F) c (dstPiece x k) := bigSep_mono fun k _ => anyP_intro c (dstPiece x k) (rows2 X k)
    iapply hm $$ H
  · refine (bigSep_mono fun k _ => (anyP_iff (F := F) c (dstPiece x k)).1).trans ?_
    refine (BI.bigSep_exists_pi (Y := fun _ : Dev nD => Vec F S2x1024 .bf16) _ _).trans ?_
    iintro ⟨%w, H⟩
    iexists stack w
    iapply (show (bigSep Finset.univ fun k => hold c (dstPiece x k).v fullShare (w k)) ⊢ hold c (dstM x) fullShare (stack w)
      from of_eq (dst_join x c fullShare w)) $$ H

/-- The source of an exchange: the piece kept and the pieces sent. -/
def srcHold (x : Fin 4) (c : Dev nD) (v : Dev nD → Vec F S2x1024 .bf16) : sProp 𝕄 :=
  iprop(holdP c (srcPiece x c) (shareO x) (v c) ∗ bigSep Finset.univ fun i => holdP c (srcPiece x (peer c i)) (shareP x i) (v (peer c i)))

theorem src_lo (b : Fin 2) (c : Dev nD) (X : Vec F S64x1024 .bf16) :
    hold c (hM.slice (rectHalf b) (fun _ => rfl)) fullShare X = srcHold ⟨b.val, by omega⟩ c (rows2 X) := by
  rw [half_split c hM (Memref.isWhole_whole _) b, bigSep_dev c]
  match b with
  | 0 => rfl
  | 1 => rfl

/-- The reduced rows of a half. -/
def redM (b : Fin 2) : Memref sig .tc .vmem S2x1024 .bf16 := match b with
  | 0 => daM
  | 1 => dbM

theorem src_hi (b : Fin 2) (c : Dev nD) (X : Vec F S2x1024 .bf16) :
    hold c (redM b) fullShare X = srcHold ⟨b.val + 2, by omega⟩ c (fun _ => X) := by
  match b with
  | 0 =>
    refine (owns_whole (c : Thread nD τ) _ _ _).trans ((eq_of (Transfers.pointsTo_toks fullShare 31).1 (Transfers.pointsTo_toks fullShare 31).2).trans ?_)
    unfold srcHold holdP
    simp only [← owns_whole]
    rfl
  | 1 =>
    refine (owns_whole (c : Thread nD τ) _ _ _).trans ((eq_of (Transfers.pointsTo_toks fullShare 31).1 (Transfers.pointsTo_toks fullShare 31).2).trans ?_)
    unfold srcHold holdP
    simp only [← owns_whole]
    rfl

/-! ## Loads and stores -/

abbrev 𝒱₀ : Variants := Variants.none

/-- The weakest precondition of a part of the body on device `c`. -/
abbrev WP (c : Dev nD) (p : P F) (Q : PUnit → sProp 𝕄) : sProp 𝕄 :=
  wp frame (wpE (defs₀ (F := F)) 𝒱₀ (c : Thread nD τ) none) Set.univ p Q

/-- A load of a part owned by itself. -/
theorem wp_load_part {s : Shape} {e : EltTy} (c : Dev nD) {Q : PUnit → sProp 𝕄} {m : Memref sig .tc .vmem s e} {r : Rect s} {hr} {hl}
    {k : (r.shape.Idx → Elt F e) → P F} {q : PosShare TreeShare} {X : Vec F r.shape e} :
    iprop(hold c (m.slice r hr) q X ∗ (hold c (m.slice r hr) q X -∗ WP c (k X) Q)) ⊢ WP c (.op (.load m r.toLoadRect hl) k) Q := by
  iintro ⟨H, Hk⟩
  ihave H := (hold_elim c _ q X) $$ H
  icases H with ⟨%f, %hf, H⟩
  iapply (wp_load_rect 𝒱₀ (c : Thread nD τ) none Set.univ (m := m) (r := r) (Finset.Subset.refl _)) $$ H
  iintro H
  rw [show (m.access r).read (Elt F) f = X from hf]
  iapply Hk
  iapply (hold_of c _ q X f hf) $$ H

/-- A load of a part of what is owned. -/
theorem wp_load_of {s : Shape} {e : EltTy} (c : Dev nD) {Q : PUnit → sProp 𝕄} {m : Memref sig .tc .vmem s e} {r : Rect s} {hl}
    {k : (r.shape.Idx → Elt F e) → P F} {q : PosShare TreeShare} {X : Vec F s e} :
    iprop(hold c m q X ∗ (hold c m q X -∗ WP c (k fun j => X (r.emb j)) Q)) ⊢ WP c (.op (.load m r.toLoadRect hl) k) Q := by
  iintro ⟨H, Hk⟩
  ihave H := (hold_elim c _ q X) $$ H
  icases H with ⟨%f, %hf, H⟩
  iapply (wp_load_rect 𝒱₀ (c : Thread nD τ) none Set.univ (m := m) (r := r) (View.set_slice_subset _ _)) $$ H
  iintro H
  rw [show (m.access r).read (Elt F) f = fun j => X (r.emb j) by rw [← hf]; rfl]
  iapply Hk
  iapply (hold_of c _ q X f hf) $$ H

/-- A store to a part owned by itself. -/
theorem wp_store_part {s : Shape} {e : EltTy} (c : Dev nD) {Q : PUnit → sProp 𝕄} {m : Memref sig .tc .vmem s e} {r : Rect s} {hr} {hx} {hm}
    {w : Vec F r.shape e} {k : P F} :
    iprop(anyM c (m.slice r hr) ∗ (hold c (m.slice r hr) fullShare w -∗ WP c k Q))
      ⊢ WP c (step (.store m r w Finset.univ hx hm) k) Q := by
  iintro ⟨⟨%X, H⟩, Hk⟩
  ihave H := (hold_elim c _ fullShare X) $$ H
  icases H with ⟨%f, %hf, H⟩
  iapply (wp_store 𝒱₀ (c : Thread nD τ) none Set.univ (m := m) (r := r) (Mk := Finset.univ)
    (S := (m.access r).set) (f := f) (by rw [View.setOn_univ])) $$ H
  iintro H
  iapply Hk
  iapply (hold_of c (m.slice r hr) fullShare w _ (View.read_write_univ _ _)) $$ H

end Cert.KernelIdeal.Mlp
-- ==== Proof.KIExch.lean ====
module

public import proofs.«01_k».proof.Proof.KIMem

/-! # One exchange

What it takes to start an exchange, and what finishing it brings: first one step, then the loop over the peers. -/

@[expose] public section

noncomputable section

namespace Cert.KernelIdeal.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig ℕ (Elt F) ℕ UU ℕ

/-! ## A loop over the peers -/

theorem from_succ (n : ℕ) (h : n + 1 ≤ 31) :
    (Finset.univ.filter fun i : Fin 31 => 31 ≤ i.val + (n + 1))
      = insert (⟨30 - n, by omega⟩ : Fin 31) (Finset.univ.filter fun i : Fin 31 => 31 ≤ i.val + n) := by
  ext i
  simp only [Finset.mem_filter, Finset.mem_univ, true_and, Finset.mem_insert, Fin.ext_iff]
  have := i.isLt
  omega

theorem from_not_mem (n : ℕ) (h : n + 1 ≤ 31) :
    (⟨30 - n, by omega⟩ : Fin 31) ∉ (Finset.univ.filter fun i : Fin 31 => 31 ≤ i.val + n) := by
  simp only [Finset.mem_filter, Finset.mem_univ, true_and]; omega

/-- A loop over the peers, from what one step does: `S` is what the loop carries along, counted by the peers left. -/
theorem wp_eachPeer (c : Dev nD) (f : Fin 31 → P F → P F) (k : P F) (Q : PUnit → sProp 𝕄) (R : sProp 𝕄) [BI.Persistent R]
    (S : ℕ → sProp 𝕄) (pre post : Fin 31 → sProp 𝕄)
    (hstep : ∀ (i : Fin 31) (k : P F), iprop(R ∗ S (31 - i.val) ∗ pre i ∗ ((S (30 - i.val) ∗ post i) -∗ WP c k Q)) ⊢ WP c (f i k) Q) :
    iprop(R ∗ S 31 ∗ bigSep Finset.univ pre ∗ ((S 0 ∗ bigSep Finset.univ post) -∗ WP c k Q)) ⊢ WP c (eachPeer f k) Q := by
  have key : ∀ (n : ℕ) (h : n ≤ 31),
      iprop(R ∗ S n ∗ bigSep (Finset.univ.filter fun i : Fin 31 => 31 ≤ i.val + n) pre
        ∗ ((S 0 ∗ bigSep (Finset.univ.filter fun i : Fin 31 => 31 ≤ i.val + n) post) -∗ WP c k Q)) ⊢ WP c (fromPeer f k n h) Q := by
    intro n
    induction n with
    | zero =>
      intro h
      rw [show (Finset.univ.filter fun i : Fin 31 => 31 ≤ i.val + 0) = ∅ from
        Finset.filter_eq_empty_iff.mpr fun i _ => by have := i.isLt; omega, bigSep_empty, bigSep_empty]
      show _ ⊢ WP c k Q
      iintro ⟨-, HS, -, Hk⟩
      iapply Hk
      isplitl [HS]
      · iexact HS
      · iempintro
    | succ n ih =>
      intro h
      have e : ∀ Φ : Fin 31 → sProp 𝕄, bigSep (Finset.univ.filter fun i : Fin 31 => 31 ≤ i.val + (n + 1)) Φ
          = iprop(Φ ⟨30 - n, by omega⟩ ∗ bigSep (Finset.univ.filter fun i : Fin 31 => 31 ≤ i.val + n) Φ) := fun Φ => by
        rw [from_succ n h, bigSep_insert (from_not_mem n h)]; rfl
      rw [e, e]
      show _ ⊢ WP c (f ⟨30 - n, by omega⟩ (fromPeer f k n (Nat.le_of_succ_le h))) Q
      have hs := hstep ⟨30 - n, by omega⟩ (fromPeer f k n (Nat.le_of_succ_le h))
      rw [show 31 - (30 - n) = n + 1 by omega, show 30 - (30 - n) = n by omega] at hs
      iintro ⟨#HR, HS, ⟨Hp, Hpre⟩, Hk⟩
      iapply hs
      isplitr
      · iexact HR
      isplitl [HS]
      · iexact HS
      isplitl [Hp]
      · iexact Hp
      iintro ⟨HS, Hq⟩
      iapply (ih (Nat.le_of_succ_le h))
      isplitr
      · iexact HR
      isplitl [HS]
      · iexact HS
      isplitl [Hpre]
      · iexact Hpre
      iintro ⟨HS, Hpost⟩
      iapply Hk
      isplitl [HS]
      · iexact HS
      isplitl [Hq]
      · iexact Hq
      · iexact Hpost
  have h := key 31 (Nat.le_refl _)
  rwa [show (Finset.univ.filter fun i : Fin 31 => 31 ≤ i.val + 31) = Finset.univ from
    Finset.filter_true_of_mem fun i _ => Nat.le_add_left _ _] at h

/-- What device `c` owes, whatever it has waited for. -/
def owesAny (c : Dev nD) (O : CellTallies nD τ sig ℕ) : sProp 𝕄 := iprop(∃ W, owes (Val := Elt F) (Name := ℕ) (U := UU) (Lvl := ℕ) (c : Thread nD τ) O W)

/-- What is left of a sum over the peers with `n` of them to go. -/
def left (T : Fin 31 → CellTallies nD τ sig ℕ) (n : ℕ) : CellTallies nD τ sig ℕ :=
  ∑ i ∈ Finset.univ.filter fun i : Fin 31 => 31 ≤ i.val + n, T i

theorem left_all (T : Fin 31 → CellTallies nD τ sig ℕ) : left T 31 = ∑ i, T i := by
  unfold left
  rw [Finset.filter_true_of_mem fun i _ => Nat.le_add_left _ _]
theorem left_none (T : Fin 31 → CellTallies nD τ sig ℕ) : left T 0 = 0 := by
  unfold left
  rw [Finset.filter_eq_empty_iff.mpr fun i _ => by have := i.isLt; omega, Finset.sum_empty]
theorem left_step (T : Fin 31 → CellTallies nD τ sig ℕ) (i : Fin 31) : left T (31 - i.val) = left T (30 - i.val) + T i := by
  have hi := i.isLt
  unfold left
  rw [show 31 - i.val = (30 - i.val) + 1 by omega, from_succ (30 - i.val) (by omega),
    Finset.sum_insert (from_not_mem (30 - i.val) (by omega)), add_comm]
  congr 2
  apply Fin.ext; show 30 - (30 - i.val) = i.val; omega

/-- A loop that pays off what is owed peer by peer. -/
theorem wp_eachPeer_pay (c : Dev nD) (f : Fin 31 → P F → P F) (k : P F) (Q : PUnit → sProp 𝕄) (R : sProp 𝕄) [BI.Persistent R]
    (O : CellTallies nD τ sig ℕ) (T : Fin 31 → CellTallies nD τ sig ℕ) (pre post : Fin 31 → sProp 𝕄)
    (hstep : ∀ (i : Fin 31) (k : P F) (O' : CellTallies nD τ sig ℕ),
      iprop(R ∗ owesAny c (O' + T i) ∗ pre i ∗ ((owesAny c O' ∗ post i) -∗ WP c k Q)) ⊢ WP c (f i k) Q) :
    iprop(R ∗ owesAny c (O + ∑ i, T i) ∗ bigSep Finset.univ pre ∗ ((owesAny c O ∗ bigSep Finset.univ post) -∗ WP c k Q))
      ⊢ WP c (eachPeer f k) Q := by
  have h := wp_eachPeer c f k Q R (fun n => owesAny c (O + left T n)) pre post fun i k => by
    have := hstep i k (O + left T (30 - i.val))
    rwa [add_assoc, ← left_step] at this
  rwa [left_all, left_none, add_zero] at h

/-! ## The cells' invariants -/

/-- A device's cells: the barrier's, and those of its own copies, its sendings and its receivings. -/
abbrev Bz : Type := Option (Fin 4 ⊕ (Fin 4 × Fin 31) ⊕ (Fin 4 × Fin 31))

def bzSem : Bz → SemLoc sig
  | none => .reg barS
  | some (.inl x) => .dma (locS x)
  | some (.inr (.inl xi)) => .dma (sndS xi.1 xi.2)
  | some (.inr (.inr xi)) => .dma (rcvS xi.1 xi.2)

def bzCell (cb : Dev nD × Bz) : GSem nD τ sig := ((cb.1 : Thread nD τ), bzSem cb.2)

variable (I : Given F)

/-- A cell under its invariant. -/
def cinv (g : GSem nD τ sig) : sProp 𝕄 := iprop(∃ κ, cellInv ER (Rd I) κ g)
instance cinv_persistent (g : GSem nD τ sig) : BI.Persistent (cinv I g) := by unfold cinv; infer_instance

def invs : sProp 𝕄 := bigSep Finset.univ fun cb : Dev nD × Bz => cinv I (bzCell cb)
instance invs_persistent : BI.Persistent (invs I) := by unfold invs; infer_instance

theorem invs_cell (cb : Dev nD × Bz) : invs I ⊢ cinv I (bzCell cb) := by
  unfold invs
  exact bigSep_elim (Finset.mem_univ cb)
theorem invs_bar (c : Dev nD) : invs I ⊢ cinv I (barCell c) := invs_cell I (c, none)
theorem invs_loc (c : Dev nD) (x : Fin 4) : invs I ⊢ cinv I (locCell c x) := invs_cell I (c, some (.inl x))
theorem invs_snd (c : Dev nD) (x : Fin 4) (i : Fin 31) : invs I ⊢ cinv I (sndCell c x i) := invs_cell I (c, some (.inr (.inl (x, i))))
theorem invs_rcv (c : Dev nD) (x : Fin 4) (i : Fin 31) : invs I ⊢ cinv I (rcvCell c x i) := invs_cell I (c, some (.inr (.inr (x, i))))

abbrev tok (g : GSem nD τ sig) (l : ℕ) : sProp 𝕄 := dutyTok ER g l (0 : Fin 31)
abbrev at_ (g : GSem nD τ sig) (l : ℕ) : sProp 𝕄 := iprop(atPos ER g l ∅ 0 ∗ reached ER g l)
abbrev crd (g : GSem nD τ sig) (l : ℕ) : sProp 𝕄 := cred (tallyAt g l N)

/-! ## Single steps -/

variable {I}

/-- The own copy. -/
theorem wp_own {x : Fin 4} {l : ℕ} (hl : l < 3) (c : Dev nD) (k : P F) (Q : PUnit → sProp 𝕄) {hs hd hsem} :
    iprop(invs I ∗ holdP c (srcPiece x c) (shareO x) (pay I x l c c) ∗ anyP c (dstPiece x c) ∗ tok (locCell c x) l
        ∗ reached ER (locCell c x) l ∗ (crd (locCell c x) l -∗ WP c k Q))
      ⊢ WP c (step (.enqueueDma (srcPiece x c).v (.here (dstPiece x c).v) (.dma (locS x)) hs hd hsem) k) Q := by
  iintro ⟨#HI, Hs, Hd, Ht, Hr, Hk⟩
  ihave Hi := (invs_loc I c x) $$ HI
  unfold cinv
  icases Hi with ⟨%κ, #Hi⟩
  ihave Hs := (holdP_elim c (srcPiece x c) (shareO x) (pay I x l c c)) $$ Hs
  icases Hs with ⟨%fs, %hfs, Hs⟩
  ihave Hd := (anyP_iff (F := F) c (dstPiece x c)).1 $$ Hd
  icases Hd with ⟨%X, Hd⟩
  ihave Hd := (hold_elim c (dstPiece x c).v fullShare X) $$ Hd
  icases Hd with ⟨%fd, %hfd, Hd⟩
  iapply (Rounds.wp_copy_pointsTo 𝒱₀ ER (Rd I) (c : Thread nD τ) none (κ := κ) (r := l) (d := (0 : Fin 31)) (q := shareO x) (fs := fs) (fd := fd)
    (by rw [duties_dma I c (busy_loc x) hl]; exact Finset.mem_singleton_self _) l N ((View.amount_dma _ _).trans (dst_credit x c)) (amount_dma I c _ l 0)
    (by
      rw [payload_loc I c x l 0]
      unfold locPay
      refine BIClass.sep_mono ?_ (hold_of c (srcPiece x c).v (shareO x) _ fs hfs)
      exact hold_of c (dstPiece x c).v fullShare _ _ (by rw [View.read_write_univ, hfs]))) $$ [Hs Hd Ht Hr]
  · isplitr
    · iexact Hi
    isplitl [Hs]
    · iexact Hs
    isplitl [Hd]
    · iexact Hd
    isplitl [Ht]
    · iexact Ht
    · iexact Hr
  iintro Hc
  iapply Hk
  iexact Hc

/-- What device `c` needs to send to peer `i`. -/
def sendPre (I : Given F) (x : Fin 4) (l : ℕ) (c : Dev nD) (i : Fin 31) : sProp 𝕄 :=
  iprop(holdP c (srcPiece x (peer c i)) (shareP x i) (pay I x l c (peer c i)) ∗ grant x l (peer c i) i ∗ grantNext x l c i.rev
    ∗ tok (sndCell c x i) l ∗ reached ER (sndCell c x i) l ∗ tok (rcvCell (peer c i) x i) l)

theorem wp_send1 {x : Fin 4} {l : ℕ} (hl : l < 3) (c : Dev nD) (i : Fin 31) (O : CellTallies nD τ sig ℕ) (k : P F) (Q : PUnit → sProp 𝕄) {hs hd hsem} :
    iprop(invs I ∗ owesAny c (O + tallyAt (rcvCell (peer c i) x i) l N) ∗ sendPre I x l c i
        ∗ ((owesAny c O ∗ crd (sndCell c x i) l) -∗ WP c k Q))
      ⊢ WP c (step (.enqueueDma (srcPiece x (peer c i)).v (.remote (Dev.tc (peer c i)) (dstPiece x c).v (.dma (sndS x i)))
          (.dma (rcvS x i)) hs hd hsem) k) Q := by
  unfold sendPre grant owesAny
  rw [prev_peer]
  iintro ⟨#HI, ⟨%W, HO⟩, ⟨Hs, ⟨Hd, #Hrr⟩, Hg, Hts, Hrs, Htr⟩, Hk⟩
  ihave Hi := (invs_snd I c x i) $$ HI
  ihave Hj := (invs_rcv I (peer c i) x i) $$ HI
  unfold cinv
  icases Hi with ⟨%κ, #Hi⟩
  icases Hj with ⟨%κ', #Hj⟩
  ihave Hs := (holdP_elim c (srcPiece x (peer c i)) (shareP x i) _) $$ Hs
  icases Hs with ⟨%fs, %hfs, Hs⟩
  ihave Hd := (anyP_iff (F := F) (peer c i) (dstPiece x c)).1 $$ Hd
  icases Hd with ⟨%X, Hd⟩
  ihave Hd := (hold_elim (peer c i) (dstPiece x c).v fullShare X) $$ Hd
  icases Hd with ⟨%fd, %hfd, Hd⟩
  iapply (Rounds.wp_send_pointsTo_with 𝒱₀ ER (Rd I) (c : Thread nD τ) none (c' := (peer c i : Thread nD τ)) (κ₁ := κ) (κ₂ := κ') (r₁ := l) (r₂ := l)
    (d₁ := (0 : Fin 31)) (d₂ := (0 : Fin 31)) (q := shareP x i) (fs := fs) (fd := fd) (F := grantNext x l c i.rev)
    (by rw [duties_dma I c (busy_snd x i) hl]; exact Finset.mem_singleton_self _)
    (by rw [duties_dma I (peer c i) (busy_rcv x i) hl]; exact Finset.mem_singleton_self _)
    l l N ((View.amount_dma _ _).trans (dst_credit x c)) (amount_dma I c _ l 0) (amount_dma I (peer c i) _ l 0) O rfl (W := W)
    (by
      rw [payload_snd I c x i l 0]
      exact hold_of c (srcPiece x (peer c i)).v (shareP x i) _ fs hfs)
    (by
      rw [payload_rcv I (peer c i) x i l 0]
      unfold rcvPay
      rw [prev_peer]
      refine sep_mono_left ?_
      exact hold_of (peer c i) (dstPiece x c).v fullShare _ _ (by rw [View.read_write_univ, hfs]))) $$ [Hs Hd Hg HO Hts Hrs Htr]
  · isplitr
    · iexact Hi
    isplitr
    · iexact Hj
    isplitl [Hs]
    · iexact Hs
    isplitl [Hd Hg]
    · isplitl [Hd]
      · iexact Hd
      · iexact Hg
    isplitl [HO]
    · iexact HO
    isplitl [Hts]
    · iexact Hts
    isplitl [Hrs]
    · iexact Hrs
    isplitl [Htr]
    · iexact Htr
    · iexact Hrr
  iintro ⟨Hc, HO⟩
  iapply Hk
  isplitl [HO]
  · iexists W
    iexact HO
  · iexact Hc

/-- A wait on one of the exchanges' semaphores. -/
theorem wp_wait1 {s : DmaSem sig} (hb : busy s = true) {l : ℕ} (hl : l < 3) (c : Dev nD) (O : CellTallies nD τ sig ℕ)
    {n : ℕ} (hk : level ((c : Thread nD τ), .dma s) l ≤ n) (hO : ∀ g u, 0 < O g u → u ∈ layers g ∧ n < level g u)
    {src dst : Memref sig .tc .vmem S2x1024 .bf16} (hN : dst.view.dmaCredit = N) {hs hd} (k : P F) (Q : PUnit → sProp 𝕄) :
    iprop(cinv I ((c : Thread nD τ), .dma s) ∗ levAts layers level ∗ owesAny c O ∗ crd ((c : Thread nD τ), .dma s) l ∗ atPos ER ((c : Thread nD τ), .dma s) l ∅ 0
        ∗ ((owesAny c O ∗ at_ ((c : Thread nD τ), .dma s) (l + 1) ∗ (Rd I).payload ((c : Thread nD τ), .dma s) l 0) -∗ WP c k Q))
      ⊢ WP c (step (.waitDma2 s src dst hs hd) k) Q := by
  unfold cinv owesAny
  iintro ⟨⟨%κ, #Hi⟩, #Hlev, ⟨%W, HO⟩, Hc, Hat, Hk⟩
  iapply (Rounds.wp_wait_rest_token 𝒱₀ ER (Rd I) (c : Thread nD τ) none (κ := κ)
      (wpE_waitDma2_eq 𝒱₀ (c : Thread nD τ) none Set.univ) (Set.mem_univ _) l (O := O) (W := W) (R := l) (m := 0) (T := ∅)
      (by rw [Nat.zero_add, expect_dma I c hb hl, hN])) $$ [Hc HO Hat]
  · isplitr
    · iexact Hi
    isplitl [Hc]
    · rw [hN]; iexact Hc
    isplitl [HO]
    · iexact HO
    isplitr
    · iapply (mayWait_of hl hk hO); iexact Hlev
    iexact Hat
  iintro ⟨HO, Hat, Hr, Hp⟩
  ihave Hp := (of_eq (rest_dma I c hb hl)) $$ Hp
  iapply Hk
  isplitl [HO]
  · iexists _; iexact HO
  isplitl [Hat Hr]
  · isplitl [Hat]
    · iexact Hat
    · iexact Hr
  · iexact Hp

end Cert.KernelIdeal.Mlp
-- ==== Proof.KIPhase.lean ====
module

public import proofs.«01_k».proof.Proof.KIExch

/-! # Starting and finishing an exchange, and the barrier -/

@[expose] public section

noncomputable section

namespace Cert.KernelIdeal.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig ℕ (Elt F) ℕ UU ℕ

/-! ## What an exchange needs of the cells -/

/-- The duties device `c` pays in exchange `x` of layer `l`; -/
def toksX (x : Fin 4) (l : ℕ) (c : Dev nD) : sProp 𝕄 :=
  iprop(tok (locCell c x) l ∗ (bigSep Finset.univ fun i => tok (sndCell c x i) l) ∗ bigSep Finset.univ fun i => tok (rcvCell (peer c i) x i) l)
/-- what it may wait for; -/
def credsX (x : Fin 4) (l : ℕ) (c : Dev nD) : sProp 𝕄 := bigSep Finset.univ fun i => crd (rcvCell c x i) l
/-- where its cells stand; -/
def posX (x : Fin 4) (l : ℕ) (c : Dev nD) : sProp 𝕄 :=
  iprop(at_ (locCell c x) l ∗ (bigSep Finset.univ fun i => at_ (sndCell c x i) l) ∗ bigSep Finset.univ fun i => at_ (rcvCell c x i) l)
/-- and what it may wait for once it has started. -/
def flight (x : Fin 4) (l : ℕ) (c : Dev nD) : sProp 𝕄 :=
  iprop(crd (locCell c x) l ∗ bigSep Finset.univ fun i => crd (sndCell c x i) l)

theorem sep_eq (P Q : Fin 31 → sProp 𝕄) :
    (bigSep Finset.univ fun i => iprop(P i ∗ Q i)) = iprop(bigSep Finset.univ P ∗ bigSep Finset.univ Q) :=
  bigSep_sep' _ _ _

/-- That a cell has come to a round is kept for good. -/
theorem reached_of (g : Fin 31 → GSem nD τ sig) (l : ℕ) :
    (bigSep Finset.univ fun i => at_ (g i) l)
      ⊢ iprop((bigSep Finset.univ fun i => reached ER (g i) l) ∗ (bigSep Finset.univ fun i => at_ (g i) l) : sProp 𝕄) := by
  have h : ∀ i, (at_ (g i) l : sProp 𝕄) ⊢ iprop(reached ER (g i) l ∗ at_ (g i) l) := fun i => by
    iintro ⟨H, #Hr⟩
    isplitr
    · iexact Hr
    isplitl [H]
    · iexact H
    · iexact Hr
  exact (bigSep_mono fun i _ => h i).trans (of_eq (bigSep_sep' _ _ _))

variable (I : Given F)

theorem sendPre_all (x : Fin 4) (l : ℕ) (c : Dev nD) :
    (bigSep Finset.univ fun i => sendPre I x l c i)
      = iprop((bigSep Finset.univ fun i => holdP c (srcPiece x (peer c i)) (shareP x i) (pay I x l c (peer c i)))
        ∗ (bigSep Finset.univ fun i : Fin 31 => grant x l (peer c i) i) ∗ (bigSep Finset.univ fun i : Fin 31 => grantNext x l c i.rev)
        ∗ (bigSep Finset.univ fun i => tok (sndCell c x i) l) ∗ (bigSep Finset.univ fun i => reached ER (sndCell c x i) l)
        ∗ bigSep Finset.univ fun i => tok (rcvCell (peer c i) x i) l) := by
  unfold sendPre
  rw [sep_eq, sep_eq, sep_eq, sep_eq, sep_eq]

variable {I}

/-- Start an exchange: hand out the source, the leaves to send and the peers' next leaves. -/
theorem wp_start {x : Fin 4} {l : ℕ} (hl : l < 3) (c : Dev nD) (O : CellTallies nD τ sig ℕ) (k : P F) (Q : PUnit → sProp 𝕄) :
    iprop(invs I ∗ owesAny c (O + oweX x l c) ∗ srcHold x c (pay I x l c) ∗ anyP c (dstPiece x c)
        ∗ (bigSep Finset.univ fun i : Fin 31 => grant x l (peer c i) i) ∗ (bigSep Finset.univ fun i : Fin 31 => grantNext x l c i.rev)
        ∗ toksX x l c ∗ posX x l c ∗ ((owesAny c O ∗ posX x l c ∗ flight x l c) -∗ WP c k Q))
      ⊢ WP c (startP (exch x c) c k) Q := by
  have hloop := wp_eachPeer_pay c (fun i k => step (.enqueueDma ((exch x c).src i).v (.remote (Dev.tc (peer c i)) (exch x c).mine.v (.dma ((exch x c).ss i)))
    (.dma ((exch x c).sr i)) ((exch x c).src i).w (exch x c).mine.w ⟨⟨rfl, Or.inl rfl⟩, trivial⟩) k) k Q (invs I) O
    (fun i => tallyAt (rcvCell (peer c i) x i) l N) (fun i => sendPre I x l c i) (fun i => crd (sndCell c x i) l)
    (fun i k O' => wp_send1 hl c i O' k Q)
  rw [sendPre_all] at hloop
  unfold srcHold toksX posX oweX startP
  iintro ⟨#HI, HO, ⟨Hown, Hsrc⟩, Hd, Hg, Hn, ⟨Htl, Hts, Htr⟩, ⟨⟨Hal, #Hrl⟩, Has, Har⟩, Hk⟩
  ihave Has := (reached_of (fun i => sndCell c x i) l) $$ Has
  icases Has with ⟨Hrs, Has⟩
  iapply (wp_own (I := I) hl c _ Q)
  isplitr
  · iexact HI
  isplitl [Hown]
  · iexact Hown
  isplitl [Hd]
  · iexact Hd
  isplitl [Htl]
  · iexact Htl
  isplitr
  · iexact Hrl
  iintro Hcl
  iapply hloop
  isplitr
  · iexact HI
  isplitl [HO]
  · iexact HO
  isplitl [Hsrc Hg Hn Hts Hrs Htr]
  · isplitl [Hsrc]
    · iexact Hsrc
    isplitl [Hg]
    · iexact Hg
    isplitl [Hn]
    · iexact Hn
    isplitl [Hts]
    · iexact Hts
    isplitl [Hrs]
    · iexact Hrs
    · iexact Htr
  iintro ⟨HO, Hcs⟩
  iapply Hk
  isplitl [HO]
  · iexact HO
  isplitl [Hal Has Har]
  · isplitl [Hal]
    · isplitl [Hal]
      · iexact Hal
      · iexact Hrl
    isplitl [Has]
    · iexact Has
    · iexact Har
  · unfold flight
    isplitl [Hcl]
    · iexact Hcl
    · iexact Hcs

theorem rcvPay_all (x : Fin 4) (l : ℕ) (c : Dev nD) :
    (bigSep Finset.univ fun i => rcvPay I x l c i)
      = iprop((bigSep Finset.univ fun i => holdP c (dstPiece x (peer c i)) fullShare (pay I x l (peer c i) c))
        ∗ bigSep Finset.univ fun i : Fin 31 => grantNext x l (peer c i) i) := by
  rw [bigSep_rev]
  unfold rcvPay
  simp only [prev_eq, Fin.rev_rev]
  exact sep_eq _ _

/-- Finish an exchange: the pieces have arrived, the source is free, and the peers have given leave for the next. -/
theorem wp_finish {x : Fin 4} {l : ℕ} (hl : l < 3) (c : Dev nD) (O : CellTallies nD τ sig ℕ)
    (hO : ∀ g u, 0 < O g u → u ∈ layers g ∧ 4 * l + x.val + 2 < level g u) (k : P F) (Q : PUnit → sProp 𝕄) :
    iprop(invs I ∗ levAts layers level ∗ owesAny c O ∗ flight x l c ∗ credsX x l c ∗ posX x l c
        ∗ ((owesAny c O ∗ posX x (l + 1) c ∗ srcHold x c (pay I x l c) ∗ hold c (dstM x) fullShare (stack fun k => pay I x l k c)
            ∗ bigSep Finset.univ fun i : Fin 31 => grantNext x l (peer c i) i) -∗ WP c k Q))
      ⊢ WP c (finishP (exch x c) k) Q := by
  have hrcv : ∀ (i : Fin 31) (k : P F), iprop(iprop(invs I ∗ levAts layers level) ∗ owesAny c O
      ∗ iprop(crd (rcvCell c x i) l ∗ atPos ER (rcvCell c x i) l ∅ 0) ∗ ((owesAny c O ∗ iprop(at_ (rcvCell c x i) (l + 1) ∗ rcvPay I x l c i)) -∗ WP c k Q))
      ⊢ WP c (step (.waitDma2 ((exch x c).sr i) ((exch x c).rsrc i).v ((exch x c).rdst i).v ((exch x c).rsrc i).w ((exch x c).rdst i).w) k) Q := fun i k => by
    iintro ⟨⟨#HI, #HL⟩, HO, ⟨Hc, Ha⟩, Hk⟩
    iapply (wp_wait1 (I := I) (busy_rcv x i) hl c O (le_of_eq (level_rcv c x i l)) hO (dst_credit x (prev c i)) k Q)
    isplitr
    · iapply (invs_rcv I c x i); iexact HI
    isplitr
    · iexact HL
    isplitl [HO]
    · iexact HO
    isplitl [Hc]
    · iexact Hc
    isplitl [Ha]
    · iexact Ha
    iintro ⟨HO, Ha, Hp⟩
    ihave Hp := (of_eq (payload_rcv I c x i l 0)) $$ Hp
    iapply Hk
    isplitl [HO]
    · iexact HO
    isplitl [Ha]
    · iexact Ha
    · iexact Hp
  have hsnd : ∀ (i : Fin 31) (k : P F), iprop(iprop(invs I ∗ levAts layers level) ∗ owesAny c O
      ∗ iprop(crd (sndCell c x i) l ∗ atPos ER (sndCell c x i) l ∅ 0) ∗ ((owesAny c O ∗ iprop(at_ (sndCell c x i) (l + 1) ∗ sndPay I x l c i)) -∗ WP c k Q))
      ⊢ WP c (step (.waitDma2 ((exch x c).ss i) (exch x c).mine.v ((exch x c).src i).v (exch x c).mine.w ((exch x c).src i).w) k) Q := fun i k => by
    iintro ⟨⟨#HI, #HL⟩, HO, ⟨Hc, Ha⟩, Hk⟩
    iapply (wp_wait1 (I := I) (busy_snd x i) hl c O (le_of_eq_of_le (level_snd c x i l) (Nat.zero_le _)) hO (src_credit x (peer c i)) k Q)
    isplitr
    · iapply (invs_snd I c x i); iexact HI
    isplitr
    · iexact HL
    isplitl [HO]
    · iexact HO
    isplitl [Hc]
    · iexact Hc
    isplitl [Ha]
    · iexact Ha
    iintro ⟨HO, Ha, Hp⟩
    ihave Hp := (of_eq (payload_snd I c x i l 0)) $$ Hp
    iapply Hk
    isplitl [HO]
    · iexact HO
    isplitl [Ha]
    · iexact Ha
    · iexact Hp
  have hloop₁ := wp_eachPeer c _ (step (.waitDma2 (exch x c).loc (exch x c).own.v (exch x c).mine.v (exch x c).own.w (exch x c).mine.w) <|
    eachPeer (fun i k => step (.waitDma2 ((exch x c).ss i) (exch x c).mine.v ((exch x c).src i).v (exch x c).mine.w ((exch x c).src i).w) k) k)
    Q iprop(invs I ∗ levAts layers level) (fun _ => owesAny c O) _ _ hrcv
  have hloop₂ := wp_eachPeer c _ k Q iprop(invs I ∗ levAts layers level) (fun _ => owesAny c O) _ _ hsnd
  rw [sep_eq, sep_eq, rcvPay_all] at hloop₁
  rw [sep_eq, sep_eq] at hloop₂
  have h1 : ∀ g : GSem nD τ sig, (at_ g l : sProp 𝕄) ⊢ atPos ER g l ∅ 0 := fun g => by iintro ⟨H, -⟩; iexact H
  have hpos : ∀ g : Fin 31 → GSem nD τ sig, (bigSep Finset.univ fun i => at_ (g i) l) ⊢ (bigSep Finset.univ fun i => atPos ER (g i) l ∅ 0 : sProp 𝕄) :=
    fun g => bigSep_mono fun i _ => h1 (g i)
  unfold flight credsX posX finishP
  iintro ⟨#HI, #HL, HO, ⟨Hcl, Hcs⟩, Hcr, ⟨⟨Hal, -⟩, Has, Har⟩, Hk⟩
  iapply hloop₁
  isplitr
  · isplitr
    · iexact HI
    · iexact HL
  isplitl [HO]
  · iexact HO
  isplitl [Hcr Har]
  · isplitl [Hcr]
    · iexact Hcr
    · iapply (hpos fun i => rcvCell c x i); iexact Har
  iintro ⟨HO, Har, Hpieces, Hgr⟩
  iapply (wp_wait1 (I := I) (busy_loc x) hl c O (le_of_eq_of_le (level_loc c x l) (Nat.zero_le _)) hO (dst_credit x c) _ Q)
  isplitr
  · iapply (invs_loc I c x); iexact HI
  isplitr
  · iexact HL
  isplitl [HO]
  · iexact HO
  isplitl [Hcl]
  · iexact Hcl
  isplitl [Hal]
  · iexact Hal
  iintro ⟨HO, Hal, Hp⟩
  ihave Hp := (of_eq (payload_loc I c x l 0)) $$ Hp
  unfold locPay
  icases Hp with ⟨Hmine, Hown⟩
  iapply hloop₂
  isplitr
  · isplitr
    · iexact HI
    · iexact HL
  isplitl [HO]
  · iexact HO
  isplitl [Hcs Has]
  · isplitl [Hcs]
    · iexact Hcs
    · iapply (hpos fun i => sndCell c x i); iexact Has
  iintro ⟨HO, Has, Hsrc⟩
  iapply Hk
  isplitl [HO]
  · iexact HO
  isplitl [Hal Has Har]
  · isplitl [Hal]
    · iexact Hal
    isplitl [Has]
    · iexact Has
    · iexact Har
  isplitl [Hown Hsrc]
  · unfold srcHold
    isplitl [Hown]
    · iexact Hown
    · iexact Hsrc
  isplitl [Hmine Hpieces]
  · iapply (of_eq (dst_join x c fullShare fun k => pay I x l k c))
    iapply (of_eq (bigSep_dev c fun k => holdP c (dstPiece x k) fullShare (pay I x l k c)).symm)
    isplitl [Hmine]
    · iexact Hmine
    · iexact Hpieces
  · iexact Hgr

/-! ## Leaves to send -/

/-- Free places and the standing of the cells make leaves to send. -/
theorem make_grants (x : Fin 4) (l : ℕ) (c : Dev nD) :
    iprop((bigSep Finset.univ fun i => anyP c (dstPiece x (peer c i))) ∗ bigSep Finset.univ fun i => at_ (rcvCell c x i) l)
      ⊢ iprop((bigSep Finset.univ fun i : Fin 31 => grant x l c i.rev) ∗ (bigSep Finset.univ fun i => at_ (rcvCell c x i) l) : sProp 𝕄) := by
  iintro ⟨Hd, Ha⟩
  ihave Ha := (reached_of (fun i => rcvCell c x i) l) $$ Ha
  icases Ha with ⟨Hr, Ha⟩
  isplitl [Hd Hr]
  · unfold grant
    simp only [prev_eq]
    iapply (of_eq (sep_eq (fun i => anyP (F := F) c (dstPiece x (peer c i))) (fun i => reached ER (rcvCell c x i.rev) l)).symm)
    isplitl [Hd]
    · iexact Hd
    · iapply (of_eq (bigSep_rev (fun i => (reached ER (rcvCell c x i) l : sProp 𝕄)))); iexact Hr
  · iexact Ha

/-! ## The barrier -/

theorem wp_barSignal (c : Dev nD) (i : Fin 31) (O : CellTallies nD τ sig ℕ) (k : P F) (Q : PUnit → sProp 𝕄) :
    iprop(invs I ∗ owesAny c (O + tallyAt (barCell (peer c i)) 0 1)
        ∗ iprop(dutyTok ER (barCell (peer c i)) 0 i ∗ reached ER (barCell (peer c i)) 0 ∗ iprop(grant 0 0 c i.rev ∗ grant 1 0 c i.rev))
        ∗ ((owesAny c O ∗ emp) -∗ WP c k Q))
      ⊢ WP c (step (.semSignal (Dev.tc (peer c i)) barS (1#32 : BitVec 32).toInt) k) Q := by
  unfold owesAny
  iintro ⟨#HI, ⟨%W, HO⟩, ⟨Ht, Hr, Hg⟩, Hk⟩
  ihave Hi := (invs_bar I (peer c i)) $$ HI
  unfold cinv
  icases Hi with ⟨%κ, #Hi⟩
  have hw := Rounds.wp_signal (defs := defs₀ (F := F)) (Γ := PendingWaitsCtx.empty) 𝒱₀ ER (Rd I) (c : Thread nD τ) none (dst := (peer c i : Thread nD τ)) (κ := κ) (r := 0) (d := i)
      (k := fun _ => k) (Q := Q) (by rw [duties_bar]; exact Finset.mem_univ _) (amount_bar I (peer c i) i) 0 O rfl (W := W) (Es := Set.univ)
  rw [payload_bar, barPay, prev_peer] at hw
  iapply hw $$ [HO Ht Hr Hg]
  · isplitr
    · iexact Hi
    isplitl [HO]
    · iexact HO
    isplitl [Ht]
    · iexact Ht
    isplitl [Hg]
    · iexact Hg
    · iexact Hr
  iintro HO
  iapply Hk
  isplitl [HO]
  · iexists W; iexact HO
  · iempintro

theorem wp_barWait (c : Dev nD) (O : CellTallies nD τ sig ℕ) (hO : ∀ g u, 0 < O g u → u ∈ layers g ∧ 1 < level g u) (k : P F) (Q : PUnit → sProp 𝕄) :
    iprop(invs I ∗ levAts layers level ∗ owesAny c O ∗ cred (tallyAt (barCell c) 0 31) ∗ atPos ER (barCell c) 0 ∅ 0
        ∗ ((owesAny c O ∗ atPos ER (barCell c) 1 ∅ 0 ∗ (bigSep Finset.univ fun i : Fin 31 => grant 0 0 (peer c i) i)
            ∗ bigSep Finset.univ fun i : Fin 31 => grant 1 0 (peer c i) i) -∗ WP c k Q))
      ⊢ WP c (step (.semWait barS (31#32 : BitVec 32).toInt) k) Q := by
  unfold owesAny
  iintro ⟨#HI, #HL, ⟨%W, HO⟩, Hc, Ha, Hk⟩
  ihave Hi := (invs_bar I c) $$ HI
  unfold cinv
  icases Hi with ⟨%κ, #Hi⟩
  have hw := Rounds.wp_wait_rest_token (defs := defs₀ (F := F)) (Γ := PendingWaitsCtx.empty) 𝒱₀ ER (Rd I) (c : Thread nD τ) none (κ := κ) (k' := 31) (k := fun _ => k) (Q := Q)
      (wpE_semWait_eq 𝒱₀ (c : Thread nD τ) none Set.univ (sem := barS) (k := 31)) (Set.mem_univ _) 0 (O := O) (W := W) (R := 0) (m := 0) (T := ∅)
      (by rw [expect_bar])
  iapply hw $$ [HO Hc Ha]
  · isplitr
    · iexact Hi
    isplitl [Hc]
    · iexact Hc
    isplitl [HO]
    · iexact HO
    isplitr
    · iapply (mayWait_of (by decide) (le_of_eq (level_bar c 0)) hO); iexact HL
    iexact Ha
  iintro ⟨HO, Ha, -, Hp⟩
  have hp : bigSep ((Rd I).duties (barCell c) 0 \ ∅) (fun d => (Rd I).payload (barCell c) 0 d)
      = iprop((bigSep Finset.univ fun i : Fin 31 => grant 0 0 (peer c i) i) ∗ bigSep Finset.univ fun i : Fin 31 => grant 1 0 (peer c i) i) := by
    rw [rest_bar, bigSep_rev]
    unfold barPay
    simp only [prev_eq, Fin.rev_rev]
    exact sep_eq _ _
  ihave Hp := (of_eq hp) $$ Hp
  icases Hp with ⟨Hg, Hg'⟩
  iapply Hk
  isplitl [HO]
  · iexists _; iexact HO
  isplitl [Ha]
  · iexact Ha
  isplitl [Hg]
  · iexact Hg
  · iexact Hg'

end Cert.KernelIdeal.Mlp
-- ==== Proof.KILayer.lean ====
module

public import proofs.«01_k».proof.Proof.KIPhase

/-! # One layer

What the body computes between the exchanges, and the whole layer: from the state before layer `l` to the state before
layer `l + 1`. -/

@[expose] public section

noncomputable section

namespace Cert.KernelIdeal.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig ℕ (Elt F) ℕ UU ℕ

/-! ## A buffer accessed whole -/

theorem full_emb {n0 n1 : ℕ} (h) (j : (⟨2, ![n0, n1]⟩ : Shape).Idx) :
    (Rect.unit (s := (⟨2, ![n0, n1]⟩ : Shape)) ![0, 0] (⟨2, ![n0, n1]⟩ : Shape).size h).emb j = j := by
  funext a
  apply Fin.ext
  match a with
  | 0 => show 0 + 1 * (j 0).val = (j 0).val; omega
  | 1 => show 0 + 1 * (j 1).val = (j 1).val; omega

theorem hold_full {n0 n1 : ℕ} {e : EltTy} (c : Dev nD) (m : Memref sig .tc .vmem (⟨2, ![n0, n1]⟩ : Shape) e) (h) (hr)
    (q : PosShare TreeShare) (X : Vec F (⟨2, ![n0, n1]⟩ : Shape) e) :
    hold c (m.slice (Rect.unit (s := (⟨2, ![n0, n1]⟩ : Shape)) ![0, 0] (⟨2, ![n0, n1]⟩ : Shape).size h) hr) q X = hold c m q X := by
  have hemb : (m.view.slice (Rect.unit (s := (⟨2, ![n0, n1]⟩ : Shape)) ![0, 0] (⟨2, ![n0, n1]⟩ : Shape).size h)).emb = m.view.emb :=
    Function.Embedding.ext fun j => congrArg m.view.emb (full_emb h j)
  have hset : (m.view.slice (Rect.unit (s := (⟨2, ![n0, n1]⟩ : Shape)) ![0, 0] (⟨2, ![n0, n1]⟩ : Shape).size h)).set = m.view.set :=
    congrArg (Finset.univ.map ·) hemb
  have hread : ∀ f, (m.view.slice (Rect.unit (s := (⟨2, ![n0, n1]⟩ : Shape)) ![0, 0] (⟨2, ![n0, n1]⟩ : Shape).size h)).read (Elt F) f = m.view.read (Elt F) f :=
    fun f => funext fun j => by
      rw [View.read_apply, View.read_apply, hemb]
  unfold hold owns
  show iprop(∃ f, ⌜(m.view.slice (Rect.unit (s := (⟨2, ![n0, n1]⟩ : Shape)) ![0, 0] (⟨2, ![n0, n1]⟩ : Shape).size h)).read (Elt F) f = X⌝
    ∗ m.view.loc (c : Thread nD τ) ↦[(m.view.slice (Rect.unit (s := (⟨2, ![n0, n1]⟩ : Shape)) ![0, 0] (⟨2, ![n0, n1]⟩ : Shape).size h)).set]{q} f) = _
  rw [hset]
  congr 1
  funext f
  rw [hread]

/-- A load of a whole buffer; -/
theorem wp_load_full {n0 n1 : ℕ} {e : EltTy} (c : Dev nD) {Q : PUnit → sProp 𝕄} {m : Memref sig .tc .vmem (⟨2, ![n0, n1]⟩ : Shape) e} {h} {hl}
    {k : Vec F (⟨2, ![n0, n1]⟩ : Shape) e → P F} {q : PosShare TreeShare} {X : Vec F (⟨2, ![n0, n1]⟩ : Shape) e} :
    iprop(hold c m q X ∗ (hold c m q X -∗ WP c (k X) Q))
      ⊢ WP c (.op (.load m (Rect.unit (s := (⟨2, ![n0, n1]⟩ : Shape)) ![0, 0] (⟨2, ![n0, n1]⟩ : Shape).size h).toLoadRect hl) k) Q := by
  have hw := wp_load_of (F := F) c (Q := Q) (m := m) (r := Rect.unit (s := (⟨2, ![n0, n1]⟩ : Shape)) ![0, 0] (⟨2, ![n0, n1]⟩ : Shape).size h)
    (hl := hl) (k := k) (q := q) (X := X)
  rwa [show (fun j => X ((Rect.unit (s := (⟨2, ![n0, n1]⟩ : Shape)) ![0, 0] (⟨2, ![n0, n1]⟩ : Shape).size h).emb j)) = X from
    funext fun j => congrArg X (full_emb h j)] at hw

/-- and a store to one, which is loaded first. -/
theorem wp_store_full {n0 n1 : ℕ} {e : EltTy} (c : Dev nD) {Q : PUnit → sProp 𝕄} {m : Memref sig .tc .vmem (⟨2, ![n0, n1]⟩ : Shape) e} {h h'} {hl} {hx} {hm}
    {w : Vec F (⟨2, ![n0, n1]⟩ : Shape) e} {k : P F} :
    iprop(anyM c m ∗ (hold c m fullShare w -∗ WP c k Q))
      ⊢ WP c (step (.load m (Rect.unit (s := (⟨2, ![n0, n1]⟩ : Shape)) ![0, 0] (⟨2, ![n0, n1]⟩ : Shape).size h).toLoadRect hl) <|
          step (.store m (Rect.unit (s := (⟨2, ![n0, n1]⟩ : Shape)) ![0, 0] (⟨2, ![n0, n1]⟩ : Shape).size h') w Finset.univ hx hm) k) Q := by
  iintro ⟨⟨%X, H⟩, Hk⟩
  iapply (wp_load_full (F := F) c (Q := Q) (m := m) (q := fullShare) (X := X))
  isplitl [H]
  · iexact H
  iintro H
  iapply (wp_store_part (F := F) c (Q := Q) (m := m) (r := Rect.unit (s := (⟨2, ![n0, n1]⟩ : Shape)) ![0, 0] (⟨2, ![n0, n1]⟩ : Shape).size h') (hr := fun _ => rfl))
  isplitl [H]
  · iexists X
    iapply (of_eq (hold_full c m h' (fun _ => rfl) fullShare X).symm); iexact H
  iintro H
  iapply Hk
  iapply (of_eq (hold_full c m h' (fun _ => rfl) fullShare w)); iexact H

/-! ## What is computed -/

/-- The halves of the partial hidden layer. -/
abbrev hidM (b : Fin 2) : Memref sig .tc .vmem S64x1024 .bf16 := hM.slice (rectHalf b) (fun _ => rfl)

theorem wp_hiddenA (c : Dev nD) (win : Memref sig .tc .vmem S1024x2048 .f32) (W : Vec F S1024x2048 .f32) (x : FVec F S64x1024 .bf16) (k : P F)
    (Q : PUnit → sProp 𝕄) :
    iprop(hold c win fullShare W ∗ anyM c (hidM 0) ∗ ((hold c win fullShare W ∗ hold c (hidM 0) fullShare (hidden x (winBlk W 0))) -∗ WP c k Q))
      ⊢ WP c (hiddenA hM (hwh _) win x k) Q := by
  unfold hiddenA
  iintro ⟨Hw, ⟨%X, Hh⟩, Hk⟩
  iapply (wp_load_of (F := F) c (Q := Q) (m := win) (r := rectWin 0) (q := fullShare) (X := W))
  isplitl [Hw]
  · iexact Hw
  iintro Hw
  iapply (wp_load_part (F := F) c (Q := Q) (m := hM) (r := rectHalf 0) (hr := fun _ => rfl) (q := fullShare) (X := X))
  isplitl [Hh]
  · iexact Hh
  iintro Hh
  iapply (wp_store_part (F := F) c (Q := Q) (m := hM) (r := rectHalf 0) (hr := fun _ => rfl) (w := hidden x (winBlk W 0)))
  isplitl [Hh]
  · iexists X; iexact Hh
  iintro Hh
  iapply Hk
  isplitl [Hw]
  · iexact Hw
  · iexact Hh

theorem wp_hiddenB (c : Dev nD) (win : Memref sig .tc .vmem S1024x2048 .f32) (W : Vec F S1024x2048 .f32) (x : FVec F S64x1024 .bf16) (k : P F)
    (Q : PUnit → sProp 𝕄) :
    iprop(hold c win fullShare W ∗ anyM c (hidM 1) ∗ ((hold c win fullShare W ∗ hold c (hidM 1) fullShare (hidden x (winBlk W 1))) -∗ WP c k Q))
      ⊢ WP c (hiddenB hM (hwh _) win x k) Q := by
  unfold hiddenB
  iintro ⟨Hw, ⟨%X, Hh⟩, Hk⟩
  iapply (wp_load_of (F := F) c (Q := Q) (m := win) (r := rectWin 1) (q := fullShare) (X := W))
  isplitl [Hw]
  · iexact Hw
  iintro Hw
  iapply (wp_load_part (F := F) c (Q := Q) (m := hM) (r := rectHalf 1) (hr := fun _ => rfl) (q := fullShare) (X := X))
  isplitl [Hh]
  · iexact Hh
  iintro Hh
  iapply (wp_store_part (F := F) c (Q := Q) (m := hM) (r := rectHalf 1) (hr := fun _ => rfl) (w := hidden x (winBlk W 1)))
  isplitl [Hh]
  · iexists X; iexact Hh
  iintro Hh
  iapply Hk
  isplitl [Hw]
  · iexact Hw
  · iexact Hh

theorem wp_reduce (c : Dev nD) (rs : Memref sig .tc .vmem S64x1024 .bf16) (red : Memref sig .tc .vmem S2x1024 .bf16) (hred : red.IsWhole)
    (X : Vec F S64x1024 .bf16) (k : P F) (Q : PUnit → sProp 𝕄) :
    iprop(hold c rs fullShare X ∗ anyM c red ∗ ((hold c rs fullShare X ∗ hold c red fullShare (reduced X)) -∗ WP c k Q))
      ⊢ WP c (reduceP rs red hred k) Q := by
  unfold reduceP
  iintro ⟨Hr, Hd, Hk⟩
  iapply (wp_load_full (F := F) (n0 := 64) (n1 := 1024) c (Q := Q) (m := rs) (q := fullShare) (X := X))
  isplitl [Hr]
  · iexact Hr
  iintro Hr
  iapply (wp_store_full (F := F) (n0 := 2) (n1 := 1024) c (Q := Q) (m := red) (w := reduced X))
  isplitl [Hd]
  · iexact Hd
  iintro Hd
  iapply Hk
  isplitl [Hr]
  · iexact Hr
  · iexact Hd

theorem wp_outA (c : Dev nD) (wout : Memref sig .tc .vmem S2048x1024 .f32) (W : Vec F S2048x1024 .f32) (X : Vec F S64x1024 .bf16)
    (k : FVec F S64x1024 .f32 → P F) (Q : PUnit → sProp 𝕄) :
    iprop(hold c wout fullShare W ∗ hold c (dstM 2) fullShare X
        ∗ ((hold c wout fullShare W ∗ hold c (dstM 2) fullShare X) -∗ WP c (k (prod X (woutBlk W 0))) Q))
      ⊢ WP c (outA gM wout k) Q := by
  unfold outA
  iintro ⟨Hw, Hg, Hk⟩
  iapply (wp_load_part (F := F) c (Q := Q) (m := gM) (r := rectHalf 0) (hr := fun _ => rfl) (q := fullShare) (X := X))
  isplitl [Hg]
  · iexact Hg
  iintro Hg
  iapply (wp_load_of (F := F) c (Q := Q) (m := wout) (r := rectWout 0) (q := fullShare) (X := W))
  isplitl [Hw]
  · iexact Hw
  iintro Hw
  iapply Hk
  isplitl [Hw]
  · iexact Hw
  · iexact Hg

theorem wp_outB (c : Dev nD) (wout : Memref sig .tc .vmem S2048x1024 .f32) (W : Vec F S2048x1024 .f32) (X : Vec F S64x1024 .bf16)
    (k : FVec F S64x1024 .f32 → P F) (Q : PUnit → sProp 𝕄) :
    iprop(hold c wout fullShare W ∗ hold c (dstM 3) fullShare X
        ∗ ((hold c wout fullShare W ∗ hold c (dstM 3) fullShare X) -∗ WP c (k (prod X (woutBlk W 1))) Q))
      ⊢ WP c (outB gM wout k) Q := by
  unfold outB
  iintro ⟨Hw, Hg, Hk⟩
  iapply (wp_load_part (F := F) c (Q := Q) (m := gM) (r := rectHalf 1) (hr := fun _ => rfl) (q := fullShare) (X := X))
  isplitl [Hg]
  · iexact Hg
  iintro Hg
  iapply (wp_load_of (F := F) c (Q := Q) (m := wout) (r := rectWout 1) (q := fullShare) (X := W))
  isplitl [Hw]
  · iexact Hw
  iintro Hw
  iapply Hk
  isplitl [Hw]
  · iexact Hw
  · iexact Hg

/-! ## Leaves given and got -/

/-- The places of the peers, before the last layer with the leave to send there. -/
def backOr (y : Fin 4) (l : ℕ) (c : Dev nD) : sProp 𝕄 :=
  if l < 3 then bigSep Finset.univ fun i : Fin 31 => grant y l (peer c i) i else bigSep Finset.univ fun i => anyP c (dstPiece y (peer c i))
/-- The places of the peers where none will send any more. -/
def keepOr (y : Fin 4) (l : ℕ) (c : Dev nD) : sProp 𝕄 :=
  if l < 3 then iprop(emp) else bigSep Finset.univ fun i => anyP c (dstPiece y (peer c i))

/-- Before a scattering: leaves for the gathering that follows it. -/
theorem give_lo {x y : Fin 4} (hx : x.val < 2) (hxy : x + 2 = y) {l : ℕ} (hl : l < 3) (c : Dev nD) :
    iprop(anyM c (dstM y) ∗ posX y l c)
      ⊢ iprop(anyP c (dstPiece y c) ∗ (bigSep Finset.univ fun i : Fin 31 => grantNext x l c i.rev) ∗ posX y l c : sProp 𝕄) := by
  subst hxy
  unfold posX grantNext nextLayer
  simp only [if_pos hx, if_pos hl]
  iintro ⟨Hd, Hl, Hs, Hr⟩
  ihave Hd := (of_eq ((dst_any (F := F) (x + 2) c).trans (bigSep_dev c _))) $$ Hd
  icases Hd with ⟨Hown, Hd⟩
  isplitl [Hown]
  · iexact Hown
  ihave Hg := (make_grants (F := F) (x + 2) l c) $$ [Hd Hr]
  · isplitl [Hd]
    · iexact Hd
    · iexact Hr
  icases Hg with ⟨Hg, Hr⟩
  isplitl [Hg]
  · iexact Hg
  isplitl [Hl]
  · iexact Hl
  isplitl [Hs]
  · iexact Hs
  · iexact Hr

theorem got_lo {x y : Fin 4} (hx : x.val < 2) (hxy : x + 2 = y) {l : ℕ} (hl : l < 3) (c : Dev nD) :
    (bigSep Finset.univ fun i : Fin 31 => grantNext x l (peer c i) i) = (bigSep Finset.univ fun i : Fin 31 => grant y l (peer c i) i : sProp 𝕄) := by
  subst hxy
  unfold grantNext nextLayer
  simp only [if_pos hx, if_pos hl]

/-- Before a gathering: leaves for the next layer's scattering. -/
theorem give_hi {x y : Fin 4} (hx : ¬ x.val < 2) (hxy : x + 2 = y) (l : ℕ) (c : Dev nD) :
    iprop(anyM c (dstM y) ∗ posX y (l + 1) c)
      ⊢ iprop(anyP c (dstPiece y c) ∗ (bigSep Finset.univ fun i : Fin 31 => grantNext x l c i.rev) ∗ keepOr y (l + 1) c ∗ posX y (l + 1) c : sProp 𝕄) := by
  subst hxy
  unfold posX grantNext nextLayer keepOr
  simp only [if_neg hx]
  iintro ⟨Hd, Hl, Hs, Hr⟩
  ihave Hd := (of_eq ((dst_any (F := F) (x + 2) c).trans (bigSep_dev c _))) $$ Hd
  icases Hd with ⟨Hown, Hd⟩
  isplitl [Hown]
  · iexact Hown
  by_cases h : l + 1 < 3
  · simp only [if_pos h]
    ihave Hg := (make_grants (F := F) (x + 2) (l + 1) c) $$ [Hd Hr]
    · isplitl [Hd]
      · iexact Hd
      · iexact Hr
    icases Hg with ⟨Hg, Hr⟩
    isplitl [Hg]
    · iexact Hg
    isplitr
    · iempintro
    isplitl [Hl]
    · iexact Hl
    isplitl [Hs]
    · iexact Hs
    · iexact Hr
  · simp only [if_neg h]
    isplitr
    · iapply (of_eq (bigSep_emp_const _).symm); iempintro
    isplitl [Hd]
    · iexact Hd
    isplitl [Hl]
    · iexact Hl
    isplitl [Hs]
    · iexact Hs
    · iexact Hr

theorem got_hi {x y : Fin 4} (hx : ¬ x.val < 2) (hxy : x + 2 = y) (l : ℕ) (c : Dev nD) :
    iprop((bigSep Finset.univ fun i : Fin 31 => grantNext x l (peer c i) i) ∗ keepOr y (l + 1) c) ⊢ (backOr y (l + 1) c : sProp 𝕄) := by
  subst hxy
  unfold grantNext nextLayer keepOr backOr
  simp only [if_neg hx]
  by_cases h : l + 1 < 3
  · simp only [if_pos h]
    iintro ⟨H, -⟩
    iexact H
  · simp only [if_neg h]
    iintro ⟨-, H⟩
    iexact H

end Cert.KernelIdeal.Mlp
-- ==== Proof.KIBody.lean ====
module

public import proofs.«01_k».proof.Proof.KILayer

/-! # The body

One layer is run once, at a layer number `l`; the body is the barrier, the three layers, and the store of the result. -/

@[expose] public section

noncomputable section

namespace Cert.KernelIdeal.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig ℕ (Elt F) ℕ UU ℕ

/-! ## The state between layers -/

/-- Where the cells stand before layer `l`. -/
def posAll (l : ℕ) (c : Dev nD) : sProp 𝕄 := iprop(posX 0 l c ∗ posX 1 l c ∗ posX 2 l c ∗ posX 3 l c)

/-- The buffers between two layers. -/
def bufs (c : Dev nD) : sProp 𝕄 :=
  iprop(anyM c (hidM 0) ∗ anyM c (hidM 1) ∗ anyM c (dstM 2) ∗ anyM c (dstM 3) ∗ anyM c (redM 0) ∗ anyM c (redM 1)
    ∗ anyP c (dstPiece 0 c) ∗ anyP c (dstPiece 1 c))

/-- The state before layer `l`. -/
def St (l : ℕ) (c : Dev nD) : sProp 𝕄 :=
  iprop(owesAny c (oweFrom (4 * l) c) ∗ posAll l c ∗ bufs c ∗ backOr 0 l c ∗ backOr 1 l c)

/-- What layer `l` uses up. -/
def fut (l : ℕ) (c : Dev nD) : sProp 𝕄 :=
  iprop((toksX 0 l c ∗ credsX 0 l c) ∗ (toksX 1 l c ∗ credsX 1 l c) ∗ (toksX 2 l c ∗ credsX 2 l c) ∗ (toksX 3 l c ∗ credsX 3 l c))

variable {I : Given F}

theorem owe_above {p n : ℕ} (h : n < p + 2) (c : Dev nD) : ∀ g u, 0 < oweFrom p c g u → u ∈ layers g ∧ n < level g u :=
  fun g u hg => ⟨(oweFrom_pos hg).1, lt_of_lt_of_le h (oweFrom_pos hg).2⟩

set_option maxHeartbeats 1600000 in
/-- One layer. -/
theorem wp_layer {l : ℕ} (hl : l < 3) (c : Dev nD) (win : Memref sig .tc .vmem S1024x2048 .f32) (wout : Memref sig .tc .vmem S2048x1024 .f32)
    (k : FVec F S64x1024 .f32 → P F) (Q : PUnit → sProp 𝕄) :
    iprop(invs I ∗ levAts layers level ∗ hold c win fullShare (I.win l c) ∗ hold c wout fullShare (I.wout l c) ∗ fut l c ∗ St l c
        ∗ ((hold c win fullShare (I.win l c) ∗ hold c wout fullShare (I.wout l c) ∗ St (l + 1) c) -∗ WP c (k (act I (l + 1) c)) Q))
      ⊢ WP c (layerP hM (hwh _) raM (hwh _) rbM (hwh _) gM (hwh _) daM (hwh _) dbM (hwh _)
          cc0_scratch6 cc0_scratch7 cc0_scratch8 cc0_scratch9 cc0_scratch10 cc0_scratch11 cc0_scratch12 cc0_scratch13
          cc0_scratch14 cc0_scratch15 cc0_scratch16 cc0_scratch17 win wout c (castIn (act I l c)) k) Q := by
  unfold layerP
  rw [exch_0 c, exch_1 c, exch_2 c, exch_3 c]
  have o0 : oweFrom (4 * l) c = oweFrom (4 * l + 1) c + oweX 0 l c := oweFrom_step (x := 0) hl c
  have o1 : oweFrom (4 * l + 1) c = oweFrom (4 * l + 2) c + oweX 1 l c := oweFrom_step (x := 1) hl c
  have o2 : oweFrom (4 * l + 2) c = oweFrom (4 * l + 3) c + oweX 2 l c := oweFrom_step (x := 2) hl c
  have o3 : oweFrom (4 * l + 3) c = oweFrom (4 * (l + 1)) c + oweX 3 l c := oweFrom_step (x := 3) hl c
  unfold St posAll bufs fut
  iintro ⟨#HI, #HL, Hwin, Hwout, ⟨⟨Ht0, Hc0⟩, ⟨Ht1, Hc1⟩, ⟨Ht2, Hc2⟩, ⟨Ht3, Hc3⟩⟩,
    ⟨HO, ⟨Hp0, Hp1, Hp2, Hp3⟩, ⟨Hh0, Hh1, Hg0, Hg1, Hd0, Hd1, Hm0, Hm1⟩, Hb0, Hb1⟩, Hk⟩
  -- the left half of the hidden layer
  iapply (wp_hiddenA c win (I.win l c) (castIn (act I l c)) _ Q)
  isplitl [Hwin]
  · iexact Hwin
  isplitl [Hh0]
  · iexact Hh0
  iintro ⟨Hwin, Hh0⟩
  -- scatter it
  ihave Hh0 := (of_eq (show hold c (hidM 0) fullShare (hidden (castIn (act I l c)) (winBlk (I.win l c) 0)) = srcHold 0 c (pay I 0 l c) from src_lo 0 c _)) $$ Hh0
  ihave Hx := (give_lo (F := F) (x := 0) (y := 2) (by decide) rfl hl c) $$ [Hg0 Hp2]
  · isplitl [Hg0]
    · iexact Hg0
    · iexact Hp2
  icases Hx with ⟨Hm2, Hn0, Hp2⟩
  ihave Hb0 := (of_eq (show backOr (F := F) 0 l c = _ from if_pos hl)) $$ Hb0
  ihave HO := (of_eq (congrArg (owesAny (F := F) c) o0)) $$ HO
  iapply (wp_start (I := I) (x := 0) hl c (oweFrom (4 * l + 1) c) _ Q)
  isplitr
  · iexact HI
  isplitl [HO]
  · iexact HO
  isplitl [Hh0]
  · iexact Hh0
  isplitl [Hm0]
  · iexact Hm0
  isplitl [Hb0]
  · iexact Hb0
  isplitl [Hn0]
  · iexact Hn0
  isplitl [Ht0]
  · iexact Ht0
  isplitl [Hp0]
  · iexact Hp0
  iintro ⟨HO, Hp0, Hf0⟩
  -- the right half
  iapply (wp_hiddenB c win (I.win l c) (castIn (act I l c)) _ Q)
  isplitl [Hwin]
  · iexact Hwin
  isplitl [Hh1]
  · iexact Hh1
  iintro ⟨Hwin, Hh1⟩
  ihave Hh1 := (of_eq (show hold c (hidM 1) fullShare (hidden (castIn (act I l c)) (winBlk (I.win l c) 1)) = srcHold 1 c (pay I 1 l c) from src_lo 1 c _)) $$ Hh1
  ihave Hx := (give_lo (F := F) (x := 1) (y := 3) (by decide) rfl hl c) $$ [Hg1 Hp3]
  · isplitl [Hg1]
    · iexact Hg1
    · iexact Hp3
  icases Hx with ⟨Hm3, Hn1, Hp3⟩
  ihave Hb1 := (of_eq (show backOr (F := F) 1 l c = _ from if_pos hl)) $$ Hb1
  ihave HO := (of_eq (congrArg (owesAny (F := F) c) o1)) $$ HO
  iapply (wp_start (I := I) (x := 1) hl c (oweFrom (4 * l + 2) c) _ Q)
  isplitr
  · iexact HI
  isplitl [HO]
  · iexact HO
  isplitl [Hh1]
  · iexact Hh1
  isplitl [Hm1]
  · iexact Hm1
  isplitl [Hb1]
  · iexact Hb1
  isplitl [Hn1]
  · iexact Hn1
  isplitl [Ht1]
  · iexact Ht1
  isplitl [Hp1]
  · iexact Hp1
  iintro ⟨HO, Hp1, Hf1⟩
  -- the left half's rows arrive, and are reduced
  iapply (wp_finish (I := I) (x := 0) hl c (oweFrom (4 * l + 2) c) (owe_above (by show 4 * l + 0 + 2 < _; omega) c) _ Q)
  isplitr
  · iexact HI
  isplitr
  · iexact HL
  isplitl [HO]
  · iexact HO
  isplitl [Hf0]
  · iexact Hf0
  isplitl [Hc0]
  · iexact Hc0
  isplitl [Hp0]
  · iexact Hp0
  iintro ⟨HO, Hp0, Hh0, Hr0, Hb2⟩
  iapply (wp_reduce c raM daM (hwh _) (gotOf (act I l) (I.win l) 0 c) _ Q)
  isplitl [Hr0]
  · iexact Hr0
  isplitl [Hd0]
  · iexact Hd0
  iintro ⟨Hr0, Hd0⟩
  -- gather them
  ihave Hd0 := (of_eq (show hold c daM fullShare (reduced (gotOf (act I l) (I.win l) 0 c)) = srcHold 2 c (pay I 2 l c) from src_hi 0 c (redOf (act I l) (I.win l) 0 c))) $$ Hd0
  ihave Hx := (give_hi (F := F) (x := 2) (y := 0) (by decide) rfl l c) $$ [Hr0 Hp0]
  · isplitl [Hr0]
    · iexists _; iexact Hr0
    · iexact Hp0
  icases Hx with ⟨Hm0, Hn2, Hk0, Hp0⟩
  ihave Hb2 := (of_eq (got_lo (F := F) (x := 0) (y := 2) (by decide) rfl hl c)) $$ Hb2
  ihave HO := (of_eq (congrArg (owesAny (F := F) c) o2)) $$ HO
  iapply (wp_start (I := I) (x := 2) hl c (oweFrom (4 * l + 3) c) _ Q)
  isplitr
  · iexact HI
  isplitl [HO]
  · iexact HO
  isplitl [Hd0]
  · iexact Hd0
  isplitl [Hm2]
  · iexact Hm2
  isplitl [Hb2]
  · iexact Hb2
  isplitl [Hn2]
  · iexact Hn2
  isplitl [Ht2]
  · iexact Ht2
  isplitl [Hp2]
  · iexact Hp2
  iintro ⟨HO, Hp2, Hf2⟩
  -- the right half's rows arrive, and are reduced
  iapply (wp_finish (I := I) (x := 1) hl c (oweFrom (4 * l + 3) c) (owe_above (by show 4 * l + 1 + 2 < _; omega) c) _ Q)
  isplitr
  · iexact HI
  isplitr
  · iexact HL
  isplitl [HO]
  · iexact HO
  isplitl [Hf1]
  · iexact Hf1
  isplitl [Hc1]
  · iexact Hc1
  isplitl [Hp1]
  · iexact Hp1
  iintro ⟨HO, Hp1, Hh1, Hr1, Hb3⟩
  iapply (wp_reduce c rbM dbM (hwh _) (gotOf (act I l) (I.win l) 1 c) _ Q)
  isplitl [Hr1]
  · iexact Hr1
  isplitl [Hd1]
  · iexact Hd1
  iintro ⟨Hr1, Hd1⟩
  ihave Hd1 := (of_eq (show hold c dbM fullShare (reduced (gotOf (act I l) (I.win l) 1 c)) = srcHold 3 c (pay I 3 l c) from src_hi 1 c (redOf (act I l) (I.win l) 1 c))) $$ Hd1
  ihave Hx := (give_hi (F := F) (x := 3) (y := 1) (by decide) rfl l c) $$ [Hr1 Hp1]
  · isplitl [Hr1]
    · iexists _; iexact Hr1
    · iexact Hp1
  icases Hx with ⟨Hm1, Hn3, Hk1, Hp1⟩
  ihave Hb3 := (of_eq (got_lo (F := F) (x := 1) (y := 3) (by decide) rfl hl c)) $$ Hb3
  ihave HO := (of_eq (congrArg (owesAny (F := F) c) o3)) $$ HO
  iapply (wp_start (I := I) (x := 3) hl c (oweFrom (4 * (l + 1)) c) _ Q)
  isplitr
  · iexact HI
  isplitl [HO]
  · iexact HO
  isplitl [Hd1]
  · iexact Hd1
  isplitl [Hm3]
  · iexact Hm3
  isplitl [Hb3]
  · iexact Hb3
  isplitl [Hn3]
  · iexact Hn3
  isplitl [Ht3]
  · iexact Ht3
  isplitl [Hp3]
  · iexact Hp3
  iintro ⟨HO, Hp3, Hf3⟩
  -- the left half of the hidden layer is gathered, and multiplied
  iapply (wp_finish (I := I) (x := 2) hl c (oweFrom (4 * (l + 1)) c) (owe_above (by show 4 * l + 2 + 2 < _; omega) c) _ Q)
  isplitr
  · iexact HI
  isplitr
  · iexact HL
  isplitl [HO]
  · iexact HO
  isplitl [Hf2]
  · iexact Hf2
  isplitl [Hc2]
  · iexact Hc2
  isplitl [Hp2]
  · iexact Hp2
  iintro ⟨HO, Hp2, Hd0, Hg0, Hb0⟩
  ihave Hb0 := (got_hi (F := F) (x := 2) (y := 0) (by decide) rfl l c) $$ [Hb0 Hk0]
  · isplitl [Hb0]
    · iexact Hb0
    · iexact Hk0
  iapply (wp_outA c wout (I.wout l c) (gathOf (act I l) (I.win l) 0) _ Q)
  isplitl [Hwout]
  · iexact Hwout
  isplitl [Hg0]
  · iexact Hg0
  iintro ⟨Hwout, Hg0⟩
  -- and the right half
  iapply (wp_finish (I := I) (x := 3) hl c (oweFrom (4 * (l + 1)) c) (owe_above (by show 4 * l + 3 + 2 < _; omega) c) _ Q)
  isplitr
  · iexact HI
  isplitr
  · iexact HL
  isplitl [HO]
  · iexact HO
  isplitl [Hf3]
  · iexact Hf3
  isplitl [Hc3]
  · iexact Hc3
  isplitl [Hp3]
  · iexact Hp3
  iintro ⟨HO, Hp3, Hd1, Hg1, Hb1⟩
  ihave Hb1 := (got_hi (F := F) (x := 3) (y := 1) (by decide) rfl l c) $$ [Hb1 Hk1]
  · isplitl [Hb1]
    · iexact Hb1
    · iexact Hk1
  iapply (wp_outB c wout (I.wout l c) (gathOf (act I l) (I.win l) 1) _ Q)
  isplitl [Hwout]
  · iexact Hwout
  isplitl [Hg1]
  · iexact Hg1
  iintro ⟨Hwout, Hg1⟩
  ihave Hh0 := (of_eq (show srcHold 0 c (pay I 0 l c) = hold c (hidM 0) fullShare (hidden (castIn (act I l c)) (winBlk (I.win l c) 0)) from (src_lo 0 c _).symm)) $$ Hh0
  ihave Hh1 := (of_eq (show srcHold 1 c (pay I 1 l c) = hold c (hidM 1) fullShare (hidden (castIn (act I l c)) (winBlk (I.win l c) 1)) from (src_lo 1 c _).symm)) $$ Hh1
  ihave Hd0 := (of_eq (show srcHold 2 c (pay I 2 l c) = hold c (redM 0) fullShare (redOf (act I l) (I.win l) 0 c) from (src_hi 0 c (redOf (act I l) (I.win l) 0 c)).symm)) $$ Hd0
  ihave Hd1 := (of_eq (show srcHold 3 c (pay I 3 l c) = hold c (redM 1) fullShare (redOf (act I l) (I.win l) 1 c) from (src_hi 1 c (redOf (act I l) (I.win l) 1 c)).symm)) $$ Hd1
  iapply Hk
  isplitl [Hwin]
  · iexact Hwin
  isplitl [Hwout]
  · iexact Hwout
  isplitl [HO]
  · iexact HO
  isplitl [Hp0 Hp1 Hp2 Hp3]
  · isplitl [Hp0]
    · iexact Hp0
    isplitl [Hp1]
    · iexact Hp1
    isplitl [Hp2]
    · iexact Hp2
    · iexact Hp3
  isplitr [Hb0 Hb1]
  · isplitl [Hh0]
    · iexists _; iexact Hh0
    isplitl [Hh1]
    · iexists _; iexact Hh1
    isplitl [Hg0]
    · iexists _; iexact Hg0
    isplitl [Hg1]
    · iexists _; iexact Hg1
    isplitl [Hd0]
    · iexists _; iexact Hd0
    isplitl [Hd1]
    · iexists _; iexact Hd1
    isplitl [Hm0]
    · iexact Hm0
    · iexact Hm1
  isplitl [Hb0]
  · iexact Hb0
  · iexact Hb1

/-! ## The cells of a device, and their end -/

/-- The semaphores of the exchanges. -/
abbrev Kz : Type := Fin 4 ⊕ (Fin 4 × Fin 31) ⊕ (Fin 4 × Fin 31)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Something of every cell, exchange by exchange. -/
theorem bigSep_cells (Φ : Kz → sProp 𝕄) : bigSep Finset.univ Φ
    = bigSep Finset.univ fun x : Fin 4 => iprop(Φ (.inl x) ∗ (bigSep Finset.univ fun i => Φ (.inr (.inl (x, i))))
        ∗ bigSep Finset.univ fun i => Φ (.inr (.inr (x, i)))) := by
  rw [bigSep_univ_sum, bigSep_univ_sum, bigSep_univ_prod, bigSep_univ_prod]
  rw [bigSep_sep' Finset.univ (fun x : Fin 4 => Φ (.inl x)), bigSep_sep' Finset.univ (fun x : Fin 4 => bigSep Finset.univ fun i => Φ (.inr (.inl (x, i))))]
  rfl

theorem posAll_cells (l : ℕ) (c : Dev nD) : posAll (F := F) l c = bigSep Finset.univ fun k : Kz => at_ (bzCell (c, some k)) l := by
  rw [bigSep_cells, bigSep_four]; rfl

/-- What is left of the semaphores. -/
def ended (c : Dev nD) : sProp 𝕄 :=
  iprop(semVal (barCell c) 0 ∗ bigSep Finset.univ fun k : Kz => semVal (bzCell (c, some k)) 0)

theorem close1 (I : Given F) (g : GSem nD τ sig) (R : ℕ) (hR : ∀ r, R ≤ r → (Rd I).duties g r = ∅) :
    iprop(cinv I g ∗ atPos ER g R ∅ 0) ⊢ (|={Set.univ}=> semVal g 0 : sProp 𝕄) := by
  unfold cinv
  iintro ⟨⟨%κ, #Hi⟩, Ha⟩
  iapply (Rounds.cell_close ER (Rd I) (Set.mem_univ κ) (fun h => h) hR)
  isplitr
  · iexact Hi
  · iexact Ha

theorem close_all (I : Given F) (c : Dev nD) :
    iprop(invs I ∗ atPos ER (barCell c) 1 ∅ 0 ∗ posAll 3 c) ⊢ (|={Set.univ}=> ended c : sProp 𝕄) := by
  rw [posAll_cells]
  have hk : iprop(invs I ∗ bigSep Finset.univ fun k : Kz => at_ (bzCell (c, some k)) 3)
      ⊢ (|={Set.univ}=> bigSep Finset.univ fun k : Kz => semVal (bzCell (c, some k)) 0 : sProp 𝕄) := by
    refine BIBase.Entails.trans ?_ (bigSep_fupd _ _)
    refine (sep_mono_left (BI.bigSep_of_persistent (Finset.univ : Finset Kz) (invs I))).trans ?_
    rw [← bigSep_sep']
    have h1 : ∀ k : Kz, iprop(invs I ∗ at_ (bzCell (c, some k)) 3) ⊢ (|={Set.univ}=> semVal (bzCell (c, some k)) 0 : sProp 𝕄) := by
      intro k
      iintro ⟨#HI, Ha, -⟩
      iapply (close1 I (bzCell (c, some k)) 3 (duties_later I _))
      isplitr
      · iapply (invs_cell I (c, some k)); iexact HI
      · iexact Ha
    exact bigSep_mono fun k _ => h1 k
  unfold ended
  iintro ⟨#HI, Hb, Hp⟩
  imod hk $$ [Hp] with Hk
  · isplitr
    · iexact HI
    · iexact Hp
  imod (close1 I (barCell c) 1 (duties_bar_later I c)) $$ [Hb] with Hb
  · isplitr
    · iapply (invs_bar I c); iexact HI
    · iexact Hb
  imodintro
  isplitl [Hb]
  · iexact Hb
  · iexact Hk

/-! ## The buffers at the start and at the end -/

/-- The six scratch buffers, whole. -/
def scr (c : Dev nD) : sProp 𝕄 := iprop(anyM c hM ∗ anyM c raM ∗ anyM c rbM ∗ anyM c gM ∗ anyM c daM ∗ anyM c dbM)

theorem open_dst (x : Fin 4) (c : Dev nD) : iprop(anyM c (dstM x) ∗ posX x 0 c)
      ⊢ iprop(anyP c (dstPiece x c) ∗ (bigSep Finset.univ fun i : Fin 31 => grant x 0 c i.rev) ∗ posX x 0 c : sProp 𝕄) := by
  unfold posX
  iintro ⟨Hd, Hl, Hs, Hr⟩
  ihave Hd := (of_eq ((dst_any (F := F) x c).trans (bigSep_dev c _))) $$ Hd
  icases Hd with ⟨Hown, Hd⟩
  isplitl [Hown]
  · iexact Hown
  ihave Hg := (make_grants (F := F) x 0 c) $$ [Hd Hr]
  · isplitl [Hd]
    · iexact Hd
    · iexact Hr
  icases Hg with ⟨Hg, Hr⟩
  isplitl [Hg]
  · iexact Hg
  isplitl [Hl]
  · iexact Hl
  isplitl [Hs]
  · iexact Hs
  · iexact Hr

theorem shut_dst (x : Fin 4) (c : Dev nD) : iprop(anyP c (dstPiece x c) ∗ backOr x 3 c) ⊢ (anyM c (dstM x) : sProp 𝕄) := by
  rw [backOr, if_neg (Nat.lt_irrefl 3), dst_any, bigSep_dev c]

theorem close_bufs (c : Dev nD) : iprop(bufs c ∗ backOr 0 3 c ∗ backOr 1 3 c) ⊢ (scr c : sProp 𝕄) := by
  unfold bufs scr
  iintro ⟨⟨Hh0, Hh1, Hg0, Hg1, Hd0, Hd1, Hm0, Hm1⟩, Hb0, Hb1⟩
  isplitl [Hh0 Hh1]
  · iapply (of_eq (halves_any (F := F) c hM).symm)
    isplitl [Hh0]
    · iexact Hh0
    · iexact Hh1
  isplitl [Hm0 Hb0]
  · iapply (shut_dst (F := F) 0 c)
    isplitl [Hm0]
    · iexact Hm0
    · iexact Hb0
  isplitl [Hm1 Hb1]
  · iapply (shut_dst (F := F) 1 c)
    isplitl [Hm1]
    · iexact Hm1
    · iexact Hb1
  isplitl [Hg0 Hg1]
  · iapply (of_eq (halves_any (F := F) c gM).symm)
    isplitl [Hg0]
    · iexact Hg0
    · iexact Hg1
  isplitl [Hd0]
  · iexact Hd0
  · iexact Hd1

/-! ## The whole body -/

/-- A device's part of the protocol at launch. -/
def barToks (c : Dev nD) : sProp 𝕄 :=
  bigSep Finset.univ fun i : Fin 31 => iprop(dutyTok ER (barCell (peer c i)) 0 i ∗ reached ER (barCell (peer c i)) 0)

/-- The windows' staging buffers. -/
def ins (I : Given F) (c : Dev nD) (a0 : Memref sig .tc .vmem S64x1024 .f32) (a1 : Memref sig .tc .vmem S1024x2048 .f32) (a2 : Memref sig .tc .vmem S2048x1024 .f32)
    (a3 : Memref sig .tc .vmem S1024x2048 .f32) (a4 : Memref sig .tc .vmem S2048x1024 .f32) (a5 : Memref sig .tc .vmem S1024x2048 .f32)
    (a6 : Memref sig .tc .vmem S2048x1024 .f32) : sProp 𝕄 :=
  iprop(hold c a0 fullShare (I.x c) ∗ hold c a1 fullShare (I.win 0 c) ∗ hold c a2 fullShare (I.wout 0 c) ∗ hold c a3 fullShare (I.win 1 c)
    ∗ hold c a4 fullShare (I.wout 1 c) ∗ hold c a5 fullShare (I.win 2 c) ∗ hold c a6 fullShare (I.wout 2 c))

theorem wp_done (c : Dev nD) (Q : PUnit → sProp 𝕄) : Q ⟨⟩ ⊢ WP c (.ret ⟨⟩) Q := by
  show Q ⟨⟩ ⊢ wp _ _ _ _ _
  rw [wp_ret]
  exact fupd_intro

set_option maxHeartbeats 1600000 in
theorem wp_body (c : Dev nD) (a0 : Memref sig .tc .vmem S64x1024 .f32) (a1 : Memref sig .tc .vmem S1024x2048 .f32) (a2 : Memref sig .tc .vmem S2048x1024 .f32)
    (a3 : Memref sig .tc .vmem S1024x2048 .f32) (a4 : Memref sig .tc .vmem S2048x1024 .f32) (a5 : Memref sig .tc .vmem S1024x2048 .f32)
    (a6 : Memref sig .tc .vmem S2048x1024 .f32) (a7 : Memref sig .tc .vmem S64x1024 .f32) (Q : PUnit → sProp 𝕄) :
    iprop(invs I ∗ levAts layers level ∗ atPos ER (barCell c) 0 ∅ 0 ∗ barToks c ∗ cred (tallyAt (barCell c) 0 31) ∗ posAll 0 c
        ∗ fut 0 c ∗ fut 1 c ∗ fut 2 c ∗ scr c ∗ owesAny c (owe₀ c) ∗ ins I c a0 a1 a2 a3 a4 a5 a6 ∗ anyM c a7
        ∗ ((ended c ∗ scr c ∗ owesAny c 0 ∗ ins I c a0 a1 a2 a3 a4 a5 a6 ∗ hold c a7 fullShare (act I 3 c)) -∗ Q ⟨⟩))
      ⊢ WP c (bodyP a0 a1 a2 a3 a4 a5 a6 a7 hM (hwh _) raM (hwh _) rbM (hwh _) gM (hwh _) daM (hwh _) dbM (hwh _)
          cc0_scratch6 cc0_scratch7 cc0_scratch8 cc0_scratch9 cc0_scratch10 cc0_scratch11 cc0_scratch12 cc0_scratch13
          cc0_scratch14 cc0_scratch15 cc0_scratch16 cc0_scratch17) Q := by
  unfold bodyP scr ins
  show _ ⊢ wp _ _ _ _ _
  rw [wp_deviceId]
  iintro ⟨#HI, #HL, Ha, Ht, Hc, Hp, Hf0, Hf1, Hf2, ⟨Hh, Hra, Hrb, Hg, Hda, Hdb⟩, HO, ⟨H0, H1, H2, H3, H4, H5, H6⟩, H7, Hk⟩
  unfold posAll
  icases Hp with ⟨Hp0, Hp1, Hp2, Hp3⟩
  ihave Hx := (open_dst (F := F) 0 c) $$ [Hra Hp0]
  · isplitl [Hra]
    · iexact Hra
    · iexact Hp0
  icases Hx with ⟨Hm0, Hgr0, Hp0⟩
  ihave Hx := (open_dst (F := F) 1 c) $$ [Hrb Hp1]
  · isplitl [Hrb]
    · iexact Hrb
    · iexact Hp1
  icases Hx with ⟨Hm1, Hgr1, Hp1⟩
  -- the barrier
  ihave HO := (of_eq (congrArg (owesAny (F := F) c) (show owe₀ c = oweFrom 0 c + ∑ i : Fin 31, tallyAt (barCell (peer c i)) 0 1 from rfl))) $$ HO
  have hpre : iprop(barToks c ∗ (bigSep Finset.univ fun i : Fin 31 => grant 0 0 c i.rev) ∗ (bigSep Finset.univ fun i : Fin 31 => grant 1 0 c i.rev))
      ⊢ (bigSep Finset.univ fun i : Fin 31 => iprop(dutyTok ER (barCell (peer c i)) 0 i ∗ reached ER (barCell (peer c i)) 0 ∗ iprop(grant 0 0 c i.rev ∗ grant 1 0 c i.rev)) : sProp 𝕄) := by
    unfold barToks
    rw [← bigSep_sep', ← bigSep_sep']
    exact bigSep_mono fun i _ => BI.sep_assoc
  iapply (wp_eachPeer_pay c (fun i k => step (.semSignal (Dev.tc (peer c i)) barS (1#32 : BitVec 32).toInt) k) _ Q (invs I) (oweFrom 0 c)
    (fun i => tallyAt (barCell (peer c i)) 0 1) _ (fun _ => iprop(emp)) (fun i k O' => wp_barSignal (I := I) c i O' k Q))
  isplitr
  · iexact HI
  isplitl [HO]
  · iexact HO
  isplitl [Ht Hgr0 Hgr1]
  · iapply hpre
    isplitl [Ht]
    · iexact Ht
    isplitl [Hgr0]
    · iexact Hgr0
    · iexact Hgr1
  iintro ⟨HO, -⟩
  iapply (wp_barWait (I := I) c (oweFrom 0 c) (owe_above (by decide) c) _ Q)
  isplitr
  · iexact HI
  isplitr
  · iexact HL
  isplitl [HO]
  · iexact HO
  isplitl [Hc]
  · iexact Hc
  isplitl [Ha]
  · iexact Ha
  iintro ⟨HO, Ha, Hb0, Hb1⟩
  -- the activations given
  iapply (wp_load_full c (m := a0) (X := I.x c))
  isplitl [H0]
  · iexact H0
  iintro H0
  -- the state before the first layer
  ihave Hh := (of_eq (halves_any (F := F) c hM)) $$ Hh
  icases Hh with ⟨Hh0, Hh1⟩
  ihave Hg := (of_eq (halves_any (F := F) c gM)) $$ Hg
  icases Hg with ⟨Hg0, Hg1⟩
  ihave HS : (St 0 c : sProp 𝕄) $$ [HO Hp0 Hp1 Hp2 Hp3 Hh0 Hh1 Hg0 Hg1 Hda Hdb Hm0 Hm1 Hb0 Hb1]
  · ihave Hb0 := (of_eq (show backOr (F := F) 0 0 c = _ from if_pos (by decide)).symm) $$ Hb0
    ihave Hb1 := (of_eq (show backOr (F := F) 1 0 c = _ from if_pos (by decide)).symm) $$ Hb1
    unfold St posAll bufs
    isplitl [HO]
    · iexact HO
    isplitl [Hp0 Hp1 Hp2 Hp3]
    · isplitl [Hp0]
      · iexact Hp0
      isplitl [Hp1]
      · iexact Hp1
      isplitl [Hp2]
      · iexact Hp2
      · iexact Hp3
    isplitr [Hb0 Hb1]
    · isplitl [Hh0]
      · iexact Hh0
      isplitl [Hh1]
      · iexact Hh1
      isplitl [Hg0]
      · iexact Hg0
      isplitl [Hg1]
      · iexact Hg1
      isplitl [Hda]
      · iexact Hda
      isplitl [Hdb]
      · iexact Hdb
      isplitl [Hm0]
      · iexact Hm0
      · iexact Hm1
    isplitl [Hb0]
    · iexact Hb0
    · iexact Hb1
  -- the layers
  iapply (wp_layer (I := I) (l := 0) (by decide) c a1 a2 _ Q)
  isplitr
  · iexact HI
  isplitr
  · iexact HL
  isplitl [H1]
  · iexact H1
  isplitl [H2]
  · iexact H2
  isplitl [Hf0]
  · iexact Hf0
  isplitl [HS]
  · iexact HS
  iintro ⟨H1, H2, HS⟩
  iapply (wp_layer (I := I) (l := 1) (by decide) c a3 a4 _ Q)
  isplitr
  · iexact HI
  isplitr
  · iexact HL
  isplitl [H3]
  · iexact H3
  isplitl [H4]
  · iexact H4
  isplitl [Hf1]
  · iexact Hf1
  isplitl [HS]
  · iexact HS
  iintro ⟨H3, H4, HS⟩
  iapply (wp_layer (I := I) (l := 2) (by decide) c a5 a6 _ Q)
  isplitr
  · iexact HI
  isplitr
  · iexact HL
  isplitl [H5]
  · iexact H5
  isplitl [H6]
  · iexact H6
  isplitl [Hf2]
  · iexact Hf2
  isplitl [HS]
  · iexact HS
  iintro ⟨H5, H6, HS⟩
  -- the result
  iapply (wp_store_full c (m := a7) (w := act I 3 c))
  isplitl [H7]
  · iexact H7
  iintro H7
  unfold St
  icases HS with ⟨HO, Hp, Hbufs, Hb0, Hb1⟩
  imod (close_all I c) $$ [Ha Hp] with He
  · isplitr
    · iexact HI
    isplitl [Ha]
    · iexact Ha
    · iexact Hp
  ihave Hs := (close_bufs (F := F) c) $$ [Hbufs Hb0 Hb1]
  · isplitl [Hbufs]
    · iexact Hbufs
    isplitl [Hb0]
    · iexact Hb0
    · iexact Hb1
  unfold scr
  ihave HO := (of_eq (congrArg (owesAny (F := F) c) (show oweFrom (4 * (2 + 1)) c = 0 from oweFrom_end c))) $$ HO
  iapply (wp_done c Q)
  iapply Hk
  isplitl [He]
  · iexact He
  isplitl [Hs]
  · iexact Hs
  isplitl [HO]
  · iexact HO
  isplitr [H7]
  · isplitl [H0]
    · iexact H0
    isplitl [H1]
    · iexact H1
    isplitl [H2]
    · iexact H2
    isplitl [H3]
    · iexact H3
    isplitl [H4]
    · iexact H4
    isplitl [H5]
    · iexact H5
    · iexact H6
  · iexact H7

end Cert.KernelIdeal.Mlp
-- ==== Proof.KIDeal.lean ====
module

public import proofs.«01_k».proof.Proof.KIBody
public import proofs.«01_k».proof.Proof.Gen.KernelIdeal.Launch
public import Idealize.ShloMosaic.Lib.Pipeline.Launch
public import Idealize.ShloMosaic.Lib.Pipeline.Kit

/-! # What the launch deals

At launch every cell of the protocol comes into being with all its duties. The duties are dealt to the devices that pay
them: the duty number `i` of a cell of device `c` belongs to the device whose peer number `i` is `c`. The credits of
what everybody owes are dealt to the devices that wait. -/

@[expose] public section

noncomputable section

namespace Cert.KernelIdeal.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Cert.KernelIdeal.Gen

variable {F : FTy → Type} [FloatOps F]

local notation "𝕄" => MT nD τ sig ℕ (Elt F) ℕ UU ℕ

/-! ## Once around -/

/-- Going to the peer number `i` is a bijection of the devices. -/
def turn (i : Fin 31) : Dev nD ≃ Dev nD := ⟨fun c => peer c i, fun c => prev c i, fun c => prev_peer c i, fun c => peer_prev c i⟩

/-- The order of two conjunctions does not matter. -/
theorem swap {A B : Type} [Fintype A] [DecidableEq A] [Fintype B] [DecidableEq B] (Φ : A → B → sProp 𝕄) :
    (bigSep Finset.univ fun a => bigSep Finset.univ fun b => Φ a b) = bigSep Finset.univ fun b => bigSep Finset.univ fun a => Φ a b := by
  rw [← bigSep_univ_prod (fun ab : A × B => Φ ab.1 ab.2), ← bigSep_univ_prod (fun ba : B × A => Φ ba.2 ba.1),
    bigSep_univ_equiv (Equiv.prodComm B A) fun ab : A × B => Φ ab.1 ab.2]
  rfl

theorem around (Φ : Dev nD → Fin 31 → sProp 𝕄) :
    (bigSep Finset.univ fun c => bigSep Finset.univ fun i => Φ c i) = bigSep Finset.univ fun c => bigSep Finset.univ fun i => Φ (peer c i) i := by
  rw [swap, swap fun c i => Φ (peer c i) i]
  exact bigSep_congr fun i _ => bigSep_univ_equiv (turn i) fun c => Φ c i

/-- Something of the barrier's cell and of all others. -/
theorem bigSep_opt {K : Type} [Fintype K] [DecidableEq K] (Φ : Option K → sProp 𝕄) :
    bigSep Finset.univ Φ = iprop(Φ none ∗ bigSep Finset.univ fun k => Φ (some k)) := by
  rw [show (Finset.univ : Finset (Option K)) = insert none (Finset.univ.map Function.Embedding.some) from by
      ext o; cases o <;> simp,
    bigSep_insert (by simp), bigSep_map]
  rfl

/-! ## The cells and the duties -/

/-- The part a cell of a device plays. -/
def bzPart : Bz → Option Part
  | none => none
  | some (.inl x) => some (.loc x)
  | some (.inr (.inl xi)) => some (.snd xi.1 xi.2)
  | some (.inr (.inr xi)) => some (.rcv xi.1 xi.2)

def semPart : SemLoc sig → Option Part
  | .dma s => some (part s)
  | _ => none

theorem semPart_bz : ∀ b : Bz, semPart (bzSem b) = bzPart b
  | none => rfl
  | some (.inl x) => congrArg some (part_loc x)
  | some (.inr (.inl (x, i))) => congrArg some (part_snd x i)
  | some (.inr (.inr (x, i))) => congrArg some (part_rcv x i)

theorem bzPart_inj : Function.Injective bzPart := by
  rintro (_ | x | ⟨x, i⟩ | ⟨x, i⟩) (_ | x' | ⟨x', i'⟩ | ⟨x', i'⟩) h
  all_goals simp only [bzPart, Option.some.injEq, Part.loc.injEq, Part.snd.injEq, Part.rcv.injEq, reduceCtorEq] at h
  · rfl
  · rw [h]
  · rw [h.1, h.2]
  · rw [h.1, h.2]

theorem bzSem_inj : Function.Injective bzSem := fun b b' h => bzPart_inj (by rw [← semPart_bz, ← semPart_bz, h])

theorem bzCell_inj : Function.Injective bzCell := by
  rintro ⟨c, b⟩ ⟨c', b'⟩ h
  have h1 : c = c' := congrArg (fun g : GSem nD τ sig => g.1.1) h
  have h2 : b = b' := bzSem_inj (congrArg Prod.snd h)
  rw [h1, h2]

def cells : Finset (GSem nD τ sig) := Finset.univ.map ⟨bzCell, bzCell_inj⟩

/-- A device's duties: of its barrier, and of each other cell in each layer. -/
abbrev Tz : Type := Fin 31 ⊕ (Fin 3 × Kz)

def tzTok (ct : Dev nD × Tz) : GSem nD τ sig × ℕ × Fin 31 := match ct.2 with
  | .inl i => (barCell ct.1, 0, i)
  | .inr lk => (bzCell (ct.1, some lk.2), lk.1.val, 0)

theorem tzTok_inj : Function.Injective tzTok := by
  rintro ⟨c, t⟩ ⟨c', t'⟩ h
  rcases t with i | ⟨l, k⟩ <;> rcases t' with i' | ⟨l', k'⟩
  · have h1 : c = c' := congrArg (fun x : GSem nD τ sig × ℕ × Fin 31 => x.1.1.1) h
    have h2 : i = i' := congrArg (fun x : GSem nD τ sig × ℕ × Fin 31 => x.2.2) h
    rw [h1, h2]
  · have h1 : bzCell (c, none) = bzCell (c', some k') := congrArg (fun x : GSem nD τ sig × ℕ × Fin 31 => x.1) h
    exact absurd (congrArg Prod.snd (bzCell_inj h1)) (by simp)
  · have h1 : bzCell (c, some k) = bzCell (c', none) := congrArg (fun x : GSem nD τ sig × ℕ × Fin 31 => x.1) h
    exact absurd (congrArg Prod.snd (bzCell_inj h1)) (by simp)
  · have h1 : bzCell (c, some k) = bzCell (c', some k') := congrArg (fun x : GSem nD τ sig × ℕ × Fin 31 => x.1) h
    have h2 : l.val = l'.val := congrArg (fun x : GSem nD τ sig × ℕ × Fin 31 => x.2.1) h
    have h3 := bzCell_inj h1
    have h4 : c = c' := congrArg Prod.fst h3
    have h5 : k = k' := Option.some.inj (congrArg Prod.snd h3)
    rw [h4, h5, Fin.ext h2]

def duties : Finset (GSem nD τ sig × ℕ × Fin 31) := Finset.univ.map ⟨tzTok, tzTok_inj⟩

/-- The launch's ghost state. -/
def u₀ : UU := (initOf (Pipeline.cells cfgs cellOf_inj) (Pipeline.launchToks cfgs cellOf_inj), initOf cells duties)

/-! ## A device's share -/

/-- The duties of device `c`'s cells in layer `l`, the barrier's left out. -/
def kToks (l : ℕ) (c : Dev nD) : sProp 𝕄 := bigSep Finset.univ fun k : Kz => tok (bzCell (c, some k)) l

/-- The duties of device `c`'s cells. -/
def ownToks (c : Dev nD) : sProp 𝕄 :=
  iprop((bigSep Finset.univ fun i : Fin 31 => dutyTok ER (barCell c) 0 i) ∗ bigSep Finset.univ fun l : Fin 3 => kToks l.val c)

variable (I : Given F)

/-- Device `c`'s cells as they come into being. -/
def G (c : Dev nD) : sProp 𝕄 :=
  iprop((bigSep Finset.univ fun b : Bz => roundState ER (Rd I) (bzCell (c, b)) 0)
    ∗ (bigSep Finset.univ fun b : Bz => at_ (bzCell (c, b)) 0) ∗ ownToks c)

/-- The duties device `c` pays in layer `l`. -/
def payToks (l : ℕ) (c : Dev nD) : sProp 𝕄 := bigSep Finset.univ fun x : Fin 4 => toksX x l c

/-- What device `c` starts with. -/
def G' (c : Dev nD) : sProp 𝕄 :=
  iprop(invs I ∗ atPos ER (barCell c) 0 ∅ 0 ∗ barToks c ∗ posAll 0 c ∗ bigSep Finset.univ fun l : Fin 3 => payToks l.val c)

theorem fund_all : BI.own (ER (initOf cells duties)) ⊢ (|==> bigSep Finset.univ (G I) : sProp 𝕄) := by
  have hX (Φ : GSem nD τ sig → sProp 𝕄) : bigSep cells Φ = bigSep Finset.univ fun c : Dev nD => bigSep Finset.univ fun b : Bz => Φ (bzCell (c, b)) := by
    unfold cells; rw [bigSep_map, bigSep_univ_prod]; rfl
  have hT : bigSep duties (fun x => (dutyTok ER x.1 x.2.1 x.2.2 : sProp 𝕄)) = bigSep Finset.univ fun c : Dev nD => ownToks c := by
    unfold duties; rw [bigSep_map, bigSep_univ_prod]
    refine bigSep_congr fun c _ => ?_
    rw [bigSep_univ_sum, bigSep_univ_prod]
    rfl
  have hG : (bigSep Finset.univ (G I) : sProp 𝕄) = iprop((bigSep Finset.univ fun c : Dev nD => bigSep Finset.univ fun b : Bz => roundState ER (Rd I) (bzCell (c, b)) 0)
      ∗ (iprop((bigSep Finset.univ fun c : Dev nD => bigSep Finset.univ fun b : Bz => atPos ER (bzCell (c, b)) 0 ∅ 0)
        ∗ bigSep Finset.univ fun c : Dev nD => bigSep Finset.univ fun b : Bz => reached ER (bzCell (c, b)) 0))
      ∗ bigSep Finset.univ fun c : Dev nD => ownToks c) := by
    unfold G; simp only [bigSep_sep']
  rw [hG]
  iintro HX
  imod (Rounds.fund ER (Rd I) cells duties) $$ HX with ⟨Hst, Hr, Hat, Htok⟩
  imodintro
  ihave Hst := (of_eq (hX fun g => roundState ER (Rd I) g 0)) $$ Hst
  ihave Hat := (of_eq (hX fun g => atPos ER g 0 ∅ 0)) $$ Hat
  ihave Hr := (of_eq (hX fun g => reached ER g 0)) $$ Hr
  ihave Htok := (of_eq hT) $$ Htok
  isplitl [Hst]
  · iexact Hst
  isplitl [Hat Hr]
  · isplitl [Hat]
    · iexact Hat
    · iexact Hr
  · iexact Htok

/-! ## The cells' invariants -/

/-- The kernel's own semaphores. -/
def osem (k : Kz) : SemLoc sig := bzSem (some k)

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(unscopedSems0 c ∗ Pipeline.ownSems0 (Ix := ℕ) (Name := ℕ) (U := UU) (Lvl := ℕ) (Val := Elt F) (τ := τ) osem c)
      = (bigSep Finset.univ fun b : Bz => semVal (bzCell (c, b)) 0 : sProp 𝕄) := by
  rw [unscopedSems0_eq, bigSep_opt]; rfl

theorem ended_eq (c : Dev nD) :
    (ended c : sProp 𝕄) = iprop(unscopedSems0 c ∗ Pipeline.ownSems0 (Ix := ℕ) (Name := ℕ) (U := UU) (Lvl := ℕ) (Val := Elt F) (τ := τ) osem c) := by
  rw [unscopedSems0_eq]; rfl

/-- The duties of device `c`'s barrier, and that it is there. -/
def barOwn (c : Dev nD) : sProp 𝕄 :=
  bigSep Finset.univ fun i : Fin 31 => iprop(dutyTok ER (barCell c) 0 i ∗ reached ER (barCell c) 0)

/-- Device `c`'s cells under their invariants. -/
def Gmid (c : Dev nD) : sProp 𝕄 :=
  iprop((bigSep Finset.univ fun b : Bz => cinv I (bzCell (c, b))) ∗ atPos ER (barCell c) 0 ∅ 0 ∗ barOwn c ∗ posAll 0 c
    ∗ bigSep Finset.univ fun l : Fin 3 => kToks l.val c)

theorem cinv_alloc (g : GSem nD τ sig) : iprop(semVal g 0 ∗ roundState ER (Rd I) g 0) ⊢ (|={Set.univ}=> cinv I g : sProp 𝕄) := by
  unfold cinv
  exact (Rounds.body_intro ER (Rd I) g).trans inv_alloc

theorem core_alloc (c : Dev nD) :
    iprop(Pipeline.ownSems0 (Ix := ℕ) (Name := ℕ) (U := UU) (Lvl := ℕ) (Val := Elt F) (τ := τ) osem c ∗ unscopedSems0 c ∗ G I c)
      ⊢ (|={Set.univ}=> Gmid I c : sProp 𝕄) := by
  have hinv : iprop((bigSep Finset.univ fun b : Bz => semVal (bzCell (c, b)) 0) ∗ bigSep Finset.univ fun b : Bz => roundState ER (Rd I) (bzCell (c, b)) 0)
      ⊢ (|={Set.univ}=> bigSep Finset.univ fun b : Bz => cinv I (bzCell (c, b)) : sProp 𝕄) := by
    rw [← bigSep_sep']
    exact (bigSep_mono fun b _ => cinv_alloc I (bzCell (c, b))).trans (bigSep_fupd _ _)
  have hat : (bigSep Finset.univ fun b : Bz => at_ (bzCell (c, b)) 0 : sProp 𝕄) = iprop(at_ (barCell c) 0 ∗ posAll 0 c) := by
    rw [bigSep_opt, posAll_cells]; rfl
  have hbar : iprop(reached ER (barCell c) 0 ∗ bigSep Finset.univ fun i : Fin 31 => dutyTok ER (barCell c) 0 i) ⊢ (barOwn c : sProp 𝕄) := by
    refine (sep_mono_left (BI.bigSep_of_persistent (Finset.univ : Finset (Fin 31)) (reached ER (barCell c) 0))).trans ?_
    rw [← bigSep_sep']
    unfold barOwn
    exact bigSep_mono fun i _ => BI.sep_comm
  unfold G Gmid ownToks
  iintro ⟨Hos, Hus, Hst, Hat, Htb, Htok⟩
  ihave Hv := (of_eq (sems_eq (F := F) c)) $$ [Hos Hus]
  · isplitl [Hus]
    · iexact Hus
    · iexact Hos
  imod hinv $$ [Hv Hst] with Hi
  · isplitl [Hv]
    · iexact Hv
    · iexact Hst
  imodintro
  ihave Hat := (of_eq hat) $$ Hat
  icases Hat with ⟨⟨Hb, #Hr⟩, Hp⟩
  isplitl [Hi]
  · iexact Hi
  isplitl [Hb]
  · iexact Hb
  isplitl [Htb]
  · iapply hbar
    isplitr
    · iexact Hr
    · iexact Htb
  isplitl [Hp]
  · iexact Hp
  · iexact Htok

/-! ## The dealing -/

theorem deal_bar : (bigSep Finset.univ fun c : Dev nD => barOwn (F := F) c) = bigSep Finset.univ fun c : Dev nD => barToks c := by
  unfold barOwn barToks
  exact around fun c i => iprop(dutyTok ER (barCell c) 0 i ∗ reached ER (barCell c) 0)

theorem deal_toks (l : ℕ) : (bigSep Finset.univ fun c : Dev nD => kToks (F := F) l c) = bigSep Finset.univ fun c : Dev nD => payToks l c := by
  unfold payToks kToks
  rw [swap fun c x => toksX (F := F) x l c]
  have h1 : ∀ c : Dev nD, (bigSep Finset.univ fun k : Kz => tok (F := F) (bzCell (c, some k)) l)
      = bigSep Finset.univ fun x : Fin 4 => iprop(tok (locCell c x) l ∗ (bigSep Finset.univ fun i => tok (sndCell c x i) l)
        ∗ bigSep Finset.univ fun i => tok (rcvCell c x i) l) := fun c => bigSep_cells _
  rw [bigSep_congr fun c _ => h1 c, swap]
  refine bigSep_congr fun x _ => ?_
  unfold toksX
  rw [bigSep_sep', bigSep_sep', bigSep_sep', bigSep_sep', around fun c i => tok (rcvCell c x i) l]

theorem regroup : (bigSep Finset.univ fun c : Dev nD => Gmid I c) ⊢ (bigSep Finset.univ (G' I) : sProp 𝕄) := by
  have h1 : (bigSep Finset.univ fun c : Dev nD => Gmid I c) = iprop(invs I ∗ (bigSep Finset.univ fun c : Dev nD => atPos ER (barCell c) 0 ∅ 0)
      ∗ (bigSep Finset.univ fun c : Dev nD => barToks c) ∗ (bigSep Finset.univ fun c : Dev nD => posAll 0 c)
      ∗ bigSep Finset.univ fun c : Dev nD => bigSep Finset.univ fun l : Fin 3 => payToks l.val c) := by
    unfold Gmid invs
    rw [bigSep_sep', bigSep_sep', bigSep_sep', bigSep_sep', deal_bar, ← bigSep_univ_prod (fun cb : Dev nD × Bz => cinv I (bzCell cb)),
      swap fun c (l : Fin 3) => kToks (F := F) l.val c,
      bigSep_congr fun (l : Fin 3) _ => deal_toks (F := F) l.val,
      swap fun c (l : Fin 3) => payToks (F := F) l.val c]
  rw [h1]
  refine (sep_mono_left (BI.bigSep_of_persistent (Finset.univ : Finset (Dev nD)) (invs I))).trans ?_
  rw [← bigSep_sep', ← bigSep_sep', ← bigSep_sep', ← bigSep_sep']
  exact of_eq rfl

theorem glob : (bigSep Finset.univ fun c => iprop(Pipeline.ownSems0 (Ix := ℕ) (Name := ℕ) (U := UU) (Lvl := ℕ) (Val := Elt F) (τ := τ) osem c
      ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credits -/

theorem creds_x (x : Fin 4) (l : ℕ) (c : Dev nD) : (Pipeline.launchCred (oweX x l) c : sProp 𝕄) ⊢ credsX x l c := by
  unfold credsX
  refine (of_eq (Pipeline.launchCred_sum Finset.univ (fun (i : Fin 31) d => tallyAt (rcvCell (peer d i) x i) l N) c)).trans ?_
  exact bigSep_mono fun i _ => Pipeline.launchCred_tallyAt (.dma (rcvS x i)) (fun d => peer d i) (fun d => prev d i)
    (fun d => peer_prev d i) (fun d => prev_peer d i) l N c

theorem creds_bar (c : Dev nD) : (Pipeline.launchCred oweBar c : sProp 𝕄) ⊢ cred (tallyAt (barCell c) 0 31) := by
  refine (of_eq (Pipeline.launchCred_sum Finset.univ (fun (i : Fin 31) d => tallyAt (barCell (peer d i)) 0 1) c)).trans ?_
  have h1 : ∀ i : Fin 31, (Pipeline.launchCred (fun d => tallyAt (barCell (peer d i)) 0 1) c : sProp 𝕄) ⊢ cred (tallyAt (barCell c) 0 1) := fun i =>
    Pipeline.launchCred_tallyAt (.reg barS) (fun d => peer d i) (fun d => prev d i) (fun d => peer_prev d i) (fun d => prev_peer d i) 0 1 c
  refine (bigSep_mono fun i _ => h1 i).trans (of_eq ?_)
  rw [← Pipeline.cred_finsetSum (Finset.univ : Finset (Fin 31)) fun _ => tallyAt (barCell c) 0 1]
  refine congrArg cred ?_
  funext g
  refine Finsupp.ext fun u => ?_
  rw [Finset.sum_const, Finset.card_univ, Fintype.card_fin, Pi.smul_apply, Finsupp.smul_apply, tallyAt_apply, tallyAt_apply]
  split <;> rfl

/-- The credits of layer `l`. -/
def credsL (l : ℕ) (c : Dev nD) : sProp 𝕄 := bigSep Finset.univ fun x : Fin 4 => credsX x l c

theorem fut_eq (l : ℕ) (c : Dev nD) : (fut l c : sProp 𝕄) = iprop(payToks l c ∗ credsL l c) := by
  unfold payToks credsL
  rw [← bigSep_sep', bigSep_four]; rfl

theorem creds_all (c : Dev nD) :
    (Pipeline.launchCred (oweFrom 0) c : sProp 𝕄) ⊢ iprop(credsL 0 c ∗ credsL 1 c ∗ credsL 2 c) := by
  refine (of_eq (Pipeline.launchCred_sum (Finset.Ico 0 12) (fun p => oweX ⟨p % 4, Nat.mod_lt _ (by decide)⟩ (p / 4)) c)).trans ?_
  refine (bigSep_mono fun p _ => creds_x (F := F) ⟨p % 4, Nat.mod_lt _ (by decide)⟩ (p / 4) c).trans ?_
  rw [bigSep_eq_bigSepL_of_eq [0, 1, 2, 3, 4, 5, 6, 7, 8, 9, 10, 11] (by decide) (by decide)]
  unfold credsL
  rw [bigSep_four, bigSep_four, bigSep_four]
  show iprop(credsX 0 0 c ∗ credsX 1 0 c ∗ credsX 2 0 c ∗ credsX 3 0 c ∗ credsX 0 1 c ∗ credsX 1 1 c ∗ credsX 2 1 c ∗ credsX 3 1 c
    ∗ credsX 0 2 c ∗ credsX 1 2 c ∗ credsX 2 2 c ∗ credsX 3 2 c) ⊢ _
  iintro ⟨H0, H1, H2, H3, H4, H5, H6, H7, H8, H9, H10, H11⟩
  isplitl [H0 H1 H2 H3]
  · isplitl [H0]
    · iexact H0
    isplitl [H1]
    · iexact H1
    isplitl [H2]
    · iexact H2
    · iexact H3
  isplitl [H4 H5 H6 H7]
  · isplitl [H4]
    · iexact H4
    isplitl [H5]
    · iexact H5
    isplitl [H6]
    · iexact H6
    · iexact H7
  · isplitl [H8]
    · iexact H8
    isplitl [H9]
    · iexact H9
    isplitl [H10]
    · iexact H10
    · iexact H11

theorem creds (c : Dev nD) :
    (Pipeline.launchCred owe₀ c : sProp 𝕄) ⊢ iprop(cred (tallyAt (barCell c) 0 31) ∗ credsL 0 c ∗ credsL 1 c ∗ credsL 2 c) := by
  refine (of_eq (Pipeline.launchCred_add (oweFrom 0) oweBar c)).trans ?_
  iintro ⟨Hf, Hb⟩
  ihave Hf := (creds_all (F := F) c) $$ Hf
  ihave Hb := (creds_bar (F := F) c) $$ Hb
  isplitl [Hb]
  · iexact Hb
  · iexact Hf

/-- What a device starts with: its cells, its duties, its credits. -/
theorem start_eq (c : Dev nD) :
    iprop(G' I c ∗ Pipeline.launchCred owe₀ c) ⊢ (iprop(invs I ∗ atPos ER (barCell c) 0 ∅ 0 ∗ barToks c ∗ cred (tallyAt (barCell c) 0 31)
      ∗ posAll 0 c ∗ fut 0 c ∗ fut 1 c ∗ fut 2 c) : sProp 𝕄) := by
  rw [fut_eq, fut_eq, fut_eq]
  unfold G'
  rw [bigSep_univ_eq_bigSepL [0, 1, 2] (by decide) (by decide)]
  show iprop((invs I ∗ atPos ER (barCell c) 0 ∅ 0 ∗ barToks c ∗ posAll 0 c ∗ payToks 0 c ∗ payToks 1 c ∗ payToks 2 c) ∗ Pipeline.launchCred owe₀ c) ⊢ _
  iintro ⟨⟨#HI, Ha, Hb, Hp, H0, H1, H2⟩, Hc⟩
  ihave Hc := (creds (F := F) c) $$ Hc
  icases Hc with ⟨Hcb, Hc0, Hc1, Hc2⟩
  isplitr
  · iexact HI
  isplitl [Ha]
  · iexact Ha
  isplitl [Hb]
  · iexact Hb
  isplitl [Hcb]
  · iexact Hcb
  isplitl [Hp]
  · iexact Hp
  isplitl [H0 Hc0]
  · isplitl [H0]
    · iexact H0
    · iexact Hc0
  isplitl [H1 Hc1]
  · isplitl [H1]
    · iexact H1
    · iexact Hc1
  · isplitl [H2]
    · iexact H2
    · iexact Hc2

end Cert.KernelIdeal.Mlp
-- ==== Proof.KILaunch.lean ====
module

public import proofs.«01_k».proof.Proof.KIDeal
public import proofs.«01_k».proof.Proof.Gen.KernelIdeal.Points

/-! # The run

From any memory with all counters at zero, the program ends on all devices, with every argument unchanged, all counters
at zero again, and in the result of each device its columns of the last layer. -/

@[expose] public section

noncomputable section

namespace Cert.KernelIdeal.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Facts₀ Facts
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The state at launch. -/
def s₀ : MemSt nD τ sig (Elt F) := ⟨m, fun _ => 0, ρ⟩

/-- What the devices are given. -/
def giv : Given F where
  x c := m ((c : Thread nD τ).loc main_arg0)
  win l c := match l with
    | 0 => m ((c : Thread nD τ).loc main_arg1)
    | 1 => m ((c : Thread nD τ).loc main_arg2)
    | _ => m ((c : Thread nD τ).loc main_arg3)
  wout l c := match l with
    | 0 => m ((c : Thread nD τ).loc main_arg4)
    | 1 => m ((c : Thread nD τ).loc main_arg5)
    | _ => m ((c : Thread nD τ).loc main_arg6)

/-- What a device has before the body. -/
def start (c : Dev nD) : sProp 𝕄 :=
  iprop((invs (giv m) ∗ atPos ER (barCell c) 0 ∅ 0 ∗ barToks c ∗ cred (tallyAt (barCell c) 0 31) ∗ posAll 0 c ∗ fut 0 c ∗ fut 1 c ∗ fut 2 c)
    ∗ levAts layers level)
def Φ₀ (c : Dev nD) : sProp 𝕄 := iprop(start m c ∗ scr c)
/-- What it has after. -/
def Φ₁ (c : Dev nD) : sProp 𝕄 := iprop(ended c ∗ scr c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (giv m).x c
    | ⟨1, _⟩ => (giv m).win 0 c
    | ⟨2, _⟩ => (giv m).wout 0 c
    | ⟨3, _⟩ => (giv m).win 1 c
    | ⟨4, _⟩ => (giv m).wout 1 c
    | ⟨5, _⟩ => (giv m).win 2 c
    | ⟨6, _⟩ => (giv m).wout 2 c
    | ⟨7, _⟩ => act (giv m) 3 c
  Φ t := match t with
    | ⟨0, _⟩ => Φ₀ m c
    | ⟨_ + 1, _⟩ => Φ₁ c
  q _ := fullShare
  owed t := match t with
    | ⟨0, _⟩ => owe₀ c
    | ⟨_ + 1, _⟩ => 0

/-! ## The staging buffers hold the arguments -/

theorem before_0 (c : Dev nD) (d) : (dats m ρ 0 c).before (0 : Fin 8) t0_0 d = (giv m).x c := by
  unfold Dat.before
  rw [if_pos (fetch0_0 t0_0)]
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem before_1 (c : Dev nD) (d) : (dats m ρ 0 c).before (1 : Fin 8) t0_0 d = (giv m).win 0 c := by
  unfold Dat.before
  rw [if_pos (fetch0_1 t0_0)]
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem before_2 (c : Dev nD) (d) : (dats m ρ 0 c).before (2 : Fin 8) t0_0 d = (giv m).wout 0 c := by
  unfold Dat.before
  rw [if_pos (fetch0_2 t0_0)]
  have hz : (fun a => (win0_2.index (0 : Fin 1)) a * main_arg4.ty.shape.size a) = fun _ => 0 := funext fun a => by fin_cases a <;> decide
  exact Memref.read_access_unit_zero (Elt F) main_arg4 hz (fun a => by fin_cases a <;> decide) _
theorem before_3 (c : Dev nD) (d) : (dats m ρ 0 c).before (3 : Fin 8) t0_0 d = (giv m).win 1 c := by
  unfold Dat.before
  rw [if_pos (fetch0_3 t0_0)]
  have hz : (fun a => (win0_3.index (0 : Fin 1)) a * main_arg2.ty.shape.size a) = fun _ => 0 := funext fun a => by fin_cases a <;> decide
  exact Memref.read_access_unit_zero (Elt F) main_arg2 hz (fun a => by fin_cases a <;> decide) _
theorem before_4 (c : Dev nD) (d) : (dats m ρ 0 c).before (4 : Fin 8) t0_0 d = (giv m).wout 1 c := by
  unfold Dat.before
  rw [if_pos (fetch0_4 t0_0)]
  have hz : (fun a => (win0_4.index (0 : Fin 1)) a * main_arg5.ty.shape.size a) = fun _ => 0 := funext fun a => by fin_cases a <;> decide
  exact Memref.read_access_unit_zero (Elt F) main_arg5 hz (fun a => by fin_cases a <;> decide) _
theorem before_5 (c : Dev nD) (d) : (dats m ρ 0 c).before (5 : Fin 8) t0_0 d = (giv m).win 2 c := by
  unfold Dat.before
  rw [if_pos (fetch0_5 t0_0)]
  have hz : (fun a => (win0_5.index (0 : Fin 1)) a * main_arg3.ty.shape.size a) = fun _ => 0 := funext fun a => by fin_cases a <;> decide
  exact Memref.read_access_unit_zero (Elt F) main_arg3 hz (fun a => by fin_cases a <;> decide) _
theorem before_6 (c : Dev nD) (d) : (dats m ρ 0 c).before (6 : Fin 8) t0_0 d = (giv m).wout 2 c := by
  unfold Dat.before
  rw [if_pos (fetch0_6 t0_0)]
  have hz : (fun a => (win0_6.index (0 : Fin 1)) a * main_arg6.ty.shape.size a) = fun _ => 0 := funext fun a => by fin_cases a <;> decide
  exact Memref.read_access_unit_zero (Elt F) main_arg6 hz (fun a => by fin_cases a <;> decide) _

/-! ## The body's obligation -/

abbrev stg (c : Dev nD) (b : Ref sig .tc) (X : b.ty.Contents (Elt F)) : sProp 𝕄 :=
  owns (Ix := ℕ) (Name := ℕ) (U := UU) (Lvl := ℕ) (c : Thread nD τ) (Memref.whole b) fullShare X

set_option maxRecDepth 4000 in
def bodyPre (c : Dev nD) : sProp 𝕄 :=
  iprop(Φ₀ m c ∗ (dats m ρ 0 c).owesAt 0 t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

set_option maxRecDepth 4000 in
def bodyPost (c : Dev nD) : sProp 𝕄 :=
  iprop(Φ₁ c ∗ (dats m ρ 0 c).owesAt 0 t0_0.succ
    ∗ ins (giv m) c (Memref.whole cc0_stg0_0) (Memref.whole cc0_stg1_0) (Memref.whole cc0_stg2_0) (Memref.whole cc0_stg3_0)
        (Memref.whole cc0_stg4_0) (Memref.whole cc0_stg5_0) (Memref.whole cc0_stg6_0)
    ∗ stg c cc0_stg7_0 (act (giv m) 3 c))

/-- The body at the staging buffers. -/
def bodyAt : P F :=
  cc0_body (Memref.whole cc0_stg0_0) (hwh _) (Memref.whole cc0_stg1_0) (hwh _) (Memref.whole cc0_stg2_0) (hwh _) (Memref.whole cc0_stg3_0) (hwh _)
    (Memref.whole cc0_stg4_0) (hwh _) (Memref.whole cc0_stg5_0) (hwh _) (Memref.whole cc0_stg6_0) (hwh _) (Memref.whole cc0_stg7_0) (hwh _)
    hM (hwh _) raM (hwh _) rbM (hwh _) gM (hwh _) daM (hwh _) dbM (hwh _)
    cc0_scratch6 cc0_scratch7 cc0_scratch8 cc0_scratch9 cc0_scratch10 cc0_scratch11 cc0_scratch12 cc0_scratch13
    cc0_scratch14 cc0_scratch15 cc0_scratch16 cc0_scratch17

theorem sound_body (c : Dev nD) : bodyPre m ρ c ⊢ WP c bodyAt fun _ => bodyPost m ρ c := by
  unfold bodyAt
  rw [cc0_body_eq]
  unfold bodyPre Φ₀ start Dat.owesAt Pipeline.owesWithin
  simp only [before_0, before_1, before_2, before_3, before_4, before_5, before_6]
  rw [show (dats m ρ 0 c).owed t0_0.castSucc = owe₀ c from rfl]
  iintro ⟨⟨⟨⟨#HI, Ha, Hb, Hc, Hp, Hf0, Hf1, Hf2⟩, #HL⟩, Hs⟩, ⟨%W, %hW, HO⟩, ⟨%d0, H0⟩, ⟨%d1, H1⟩, ⟨%d2, H2⟩, ⟨%d3, H3⟩, ⟨%d4, H4⟩, ⟨%d5, H5⟩,
    ⟨%d6, H6⟩, ⟨%d7, H7⟩⟩
  iapply (wp_body (I := giv m) c (Memref.whole cc0_stg0_0) (Memref.whole cc0_stg1_0) (Memref.whole cc0_stg2_0) (Memref.whole cc0_stg3_0)
    (Memref.whole cc0_stg4_0) (Memref.whole cc0_stg5_0) (Memref.whole cc0_stg6_0) (Memref.whole cc0_stg7_0) fun _ => bodyPost m ρ c)
  isplitr
  · iexact HI
  isplitr
  · iexact HL
  isplitl [Ha]
  · iexact Ha
  isplitl [Hb]
  · iexact Hb
  isplitl [Hc]
  · iexact Hc
  isplitl [Hp]
  · iexact Hp
  isplitl [Hf0]
  · iexact Hf0
  isplitl [Hf1]
  · iexact Hf1
  isplitl [Hf2]
  · iexact Hf2
  isplitl [Hs]
  · iexact Hs
  isplitl [HO]
  · unfold owesAny; iexists W; iexact HO
  isplitl [H0 H1 H2 H3 H4 H5 H6]
  · unfold ins
    isplitl [H0]
    · iexact H0
    isplitl [H1]
    · iexact H1
    isplitl [H2]
    · iexact H2
    isplitl [H3]
    · iexact H3
    isplitl [H4]
    · iexact H4
    isplitl [H5]
    · iexact H5
    · iexact H6
  isplitl [H7]
  · iexists _; iexact H7
  iintro ⟨He, Hs, HO, Hi, H7⟩
  unfold bodyPost Φ₁ Dat.owesAt Pipeline.owesWithin owesAny
  rw [show (dats m ρ 0 c).owed t0_0.succ = 0 from rfl]
  icases HO with ⟨%W', HO⟩
  isplitl [He Hs]
  · isplitl [He]
    · iexact He
    · iexact Hs
  isplitl [HO]
  · iexists W'
    isplitr
    · ipureintro; exact fun _ _ => Or.inl trivial
    · iexact HO
  isplitl [Hi]
  · iexact Hi
  · iexact H7

theorem bigSep_win (Φ : Fin cfg0.W → sProp 𝕄) : bigSep Finset.univ Φ = iprop(Φ (0 : Fin 8) ∗ Φ (1 : Fin 8) ∗ Φ (2 : Fin 8) ∗ Φ (3 : Fin 8)
    ∗ Φ (4 : Fin 8) ∗ Φ (5 : Fin 8) ∗ Φ (6 : Fin 8) ∗ Φ (7 : Fin 8)) := bigSep_W0 Φ

/-- The same, buffer by buffer. -/
def bodyPost' (c : Dev nD) : sProp 𝕄 :=
  iprop(Φ₁ c ∗ (dats m ρ 0 c).owesAt 0 t0_0.succ ∗ stg c cc0_stg0_0 ((giv m).x c) ∗ stg c cc0_stg1_0 ((giv m).win 0 c)
    ∗ stg c cc0_stg2_0 ((giv m).wout 0 c) ∗ stg c cc0_stg3_0 ((giv m).win 1 c) ∗ stg c cc0_stg4_0 ((giv m).wout 1 c) ∗ stg c cc0_stg5_0 ((giv m).win 2 c)
    ∗ stg c cc0_stg6_0 ((giv m).wout 2 c) ∗ stg c cc0_stg7_0 (act (giv m) 3 c))

theorem post_eq (c : Dev nD) : bodyPost m ρ c ⊢ bodyPost' m ρ c := by
  unfold bodyPost bodyPost' ins
  iintro ⟨H1, H2, ⟨I0, I1, I2, I3, I4, I5, I6⟩, I7⟩
  isplitl [H1]
  · iexact H1
  isplitl [H2]
  · iexact H2
  isplitl [I0]
  · iexact I0
  isplitl [I1]
  · iexact I1
  isplitl [I2]
  · iexact I2
  isplitl [I3]
  · iexact I3
  isplitl [I4]
  · iexact I4
  isplitl [I5]
  · iexact I5
  isplitl [I6]
  · iexact I6
  · iexact I7

/-- The call runs the body at the staging buffers. -/
theorem body_at : defs₀ (F := F) .tc cfg0.body (cfg0.bodyArgs t0_0 (cfg0.slots t0_0)) = bodyAt := by
  unfold bodyAt
  rfl

set_option maxRecDepth 32000 in
/-- The obligation of the body. -/
theorem body_obligation (c : Dev nD) : BodyObligation (dats (F := F) m ρ 0 c) (defs₀ (F := F)) 𝒱₀ 0 Set.univ := fun t => by
  rw [fin_N0 t]
  rw [bigSep_win, bigSep_win]
  rw [body_at]
  refine BIBase.Entails.trans (show _ ⊢ bodyPre m ρ c from ?_) (BIBase.Entails.trans (sound_body m ρ c) ?_)
  · exact of_eq rfl
  unfold WP
  generalize (bodyAt (F := F)) = p
  refine (wp frame (wpE (defs₀ (F := F)) 𝒱₀ (c : Thread nD τ) none) Set.univ p).mono ?_
  intro _
  exact BIBase.Entails.trans (post_eq m ρ c) (of_eq rfl)

end Cert.KernelIdeal.Mlp
-- ==== Proof.KIRun.lean ====
module

public import proofs.«01_k».proof.Proof.KILaunch
public import Idealize.ShloMosaic.Lib.Pipeline.CollectiveSegs

/-! # The run

From any memory with all counters at zero, the program ends on all devices, with every argument unchanged, all counters
at zero again, and in the result of each device its columns of the last layer. -/

@[expose] public section

noncomputable section

namespace Cert.KernelIdeal.Mlp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Facts₀ Facts
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## Entering and leaving the call -/

theorem share_eq (c : Dev nD) (w : Fin cfg0.W) : (dats m ρ 0 c).share w = fullShare := by unfold Dat.share; split <;> rfl

theorem stage_part : ∀ (w : Fin 8) (s : Fin (spec0 w).nbuf), part ((spec0 w).sem s) = .stage := by decide

theorem bz_scoped : ∀ k : Kz, (osem k).isScoped .tc = true := by decide +kernel

theorem ownSemFacts : Pipeline.OwnSemFacts cfg0.spec osem where
  isScoped := bz_scoped
  inj := fun a b h => Option.some.inj (bzSem_inj h)
  disj k w s h := by
    have h1 := congrArg semPart h
    rw [osem, semPart_bz] at h1
    have h2 : semPart (.dma ((cfg0.spec w).sem s)) = some .stage := congrArg some (stage_part w s)
    rw [h2] at h1
    rcases k with x | ⟨x, i⟩ | ⟨x, i⟩ <;> simp [bzPart] at h1

theorem level_stage (c : Dev nD) {s : DmaSem sig} (h : part s = .stage) (l : ℕ) : level ((c : Thread nD τ), .dma s) l = 0 := by
  unfold level; dsimp only; rw [h]

theorem waits (c : Dev nD) : (levAts layers level : sProp 𝕄) ⊢ Pipeline.cellsWaits cfgs (dats m ρ) 0 0 c :=
  Pipeline.cellsWaits_intro cfgs (dats m ρ) 0 0 c fun w s t =>
    mayWait_of (k := 0) (by decide) (le_of_eq (level_stage c (stage_part w s) 0)) (by
      intro g u hg
      rcases t with ⟨_ | n, ht⟩
      · have hg' : 0 < oweFrom 0 c g u + oweBar c g u := hg
        rcases Nat.eq_zero_or_pos (oweFrom 0 c g u) with h0 | h0
        · rw [h0, Nat.zero_add] at hg'
          exact oweBar_pos hg'
        · exact ⟨(oweFrom_pos h0).1, lt_of_lt_of_le (by decide) (oweFrom_pos h0).2⟩
      · exact absurd (show 0 < (0 : CellTallies nD τ sig ℕ) g u from hg) (Nat.lt_irrefl 0))

theorem any_whole (c : Dev nD) (b : Ref sig .tc) :
    (iprop(∃ f : Buf (Elt F) ((c : Thread nD τ).loc b), ((c : Thread nD τ).loc b) ↦{fullShare} f) : sProp 𝕄) = anyM c (Memref.whole b) := by
  show _ = iprop(∃ X, hold c (Memref.whole b) fullShare X)
  simp only [hold, owns_whole]

theorem scr_eq (c : Dev nD) : (Pipeline.scopedRest (Ix := ℕ) (Name := ℕ) (U := UU) (Lvl := ℕ) (Val := Elt F) cfg0.spec c : sProp 𝕄) = scr c := by
  refine (scopedRest0_eq c).trans ?_
  rw [any_whole, any_whole, any_whole, any_whole, any_whole, any_whole]
  rfl

theorem start_intro (c : Dev nD) :
    iprop(Pipeline.unscopedRestP Pipeline.Prefetch.none cfg0.spec c (fun b => m ((c : Thread nD τ).loc b)) ∗ levAts layers level
        ∗ Pipeline.launchCred owe₀ c ∗ prngReg c (ρ c) ∗ G' (giv m) c)
      ⊢ (|={Set.univ}=> iprop(start m c ∗ emp) : sProp 𝕄) := by
  iintro ⟨-, Hl, Hc, -, HG⟩
  ihave Hs := (start_eq (giv m) c) $$ [HG Hc]
  · isplitl [HG]
    · iexact HG
    · iexact Hc
  imodintro
  unfold start
  isplitl
  · isplitl [Hs]
    · iexact Hs
    · iexact Hl
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs]
  · iexact Hs
  · iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq]
  unfold Φ₁
  rw [ended_eq]
  exact BI.sep_assoc

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe₀) (howed₀ := fun _ => rfl) (howedN := fun _ => rfl)
    (L := layers) (lv := level) (hL := layers_of_ne) (hwaits := waits m ρ)
    (G := G (giv m)) (G' := G' (giv m)) (u₀ := u₀)
    (hu₀ := by
      unfold u₀
      iintro Hu
      ihave H := (ownU_pair _ _) $$ Hu
      icases H with ⟨HP, HX⟩
      imod (fund_all (giv m)) $$ HX with HG
      imodintro
      isplitl [HP] <;> iassumption)
    (hglob := glob (giv m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold after it -/

theorem final_in (c : Dev nD) (w : Fin cfg0.W) (h : (cfg0.win w).isOut = false) :
    finalA m ρ c w = m ((cfg0.win w).arr.view.loc (c : Thread nD τ)) :=
  (dats (F := F) m ρ 0 c).arrAt_in w h _

theorem final_out (c : Dev nD) : finalA m ρ c (7 : Fin 8) = act (giv m) 3 c := by
  have hz : (fun a => (win0_7.index (0 : Fin 1)) a * main_v1.ty.shape.size a) = fun _ => 0 := funext fun a => by fin_cases a <;> decide
  have hr := fun f => Memref.read_access_unit_zero (Elt F) main_v1 hz (fun a => by fin_cases a <;> decide) f
  have h1 : (win0_7.blk t0_0).view.read (Elt F) (finalA m ρ c (7 : Fin 8)) = act (giv m) 3 c := by
    unfold finalA
    rw [show cfg0.N = (t0_0 : Fin cfg0.N).val + 1 from rfl, (dats m ρ 0 c).arrAt_succ (7 : Fin 8) t0_0, if_pos (flush0_7 t0_0)]
    exact View.read_write_univ _ _
  exact (hr _).symm.trans h1

/-- The run, buffer by buffer. -/
theorem run : θ_run defs (onTc (τ := τ) (main (F := F))) (s₀ m ρ) fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ (∀ c : Dev nD, r.2.mem ((c.tc : Thread nD τ).loc main_v1) = act (giv m) 3 c)
    ∧ r.2.sem = fun _ => 0 := by
  refine (θ_run _ _ _).mono ?_ (run_main m ρ)
  rintro r ⟨hr, hsem⟩
  exact ⟨fun c => ⟨(hr c (0 : Fin 8)).trans (final_in m ρ c (0 : Fin 8) rfl), (hr c (1 : Fin 8)).trans (final_in m ρ c (1 : Fin 8) rfl),
      (hr c (3 : Fin 8)).trans (final_in m ρ c (3 : Fin 8) rfl), (hr c (5 : Fin 8)).trans (final_in m ρ c (5 : Fin 8) rfl),
      (hr c (2 : Fin 8)).trans (final_in m ρ c (2 : Fin 8) rfl), (hr c (4 : Fin 8)).trans (final_in m ρ c (4 : Fin 8) rfl),
      (hr c (6 : Fin 8)).trans (final_in m ρ c (6 : Fin 8) rfl)⟩,
    fun c => (hr c (7 : Fin 8)).trans (final_out m ρ c), hsem⟩

end Cert.KernelIdeal.Mlp
-- ==== Proof.KIPoint.lean ====
module

public import proofs.«01_k».proof.Proof.KIVal
public import Idealize.ShloMosaic.Lib.Pointwise

/-! # One layer, element by element, over the extended reals

Casts change nothing there, so every array of the layer is read as a sum of products of what it is made of. -/

@[expose] public section

noncomputable section

namespace Cert.KernelIdeal.Mlp

open Idealize.ShloMosaic Idealize.SL.Sem
open Facts₀ Facts

/-- The product with one block of a matrix: a sum over the block's rows. -/
theorem prod_apply (x : FVec Ideal S64x1024 .bf16) (w : Vec Ideal S1024x1024 .f32) (r : Fin 64) (q : Fin 1024) :
    prod x w (ix2 r q) = ∑ p : Fin 1024, x (ix2 r p) * w (ix2 p q) := by
  pointwise [prod]

/-- A partial hidden layer is that product. -/
theorem hidden_apply (a : FVec Ideal S64x1024 .f32) (w : Vec Ideal S1024x1024 .f32) (r : Fin 64) (q : Fin 1024) :
    hidden (castIn a) w (ix2 r q) = ∑ p : Fin 1024, a (ix2 r p) * w (ix2 p q) := by
  pointwise [hidden, castIn, prod]

/-- One device's two rows, out of all that were received. -/
theorem slot_apply (v : FVec Ideal S64x1024 .f32) (k : Fin 32) (i : Fin 2) (q : Fin 1024) :
    slot v k (ix2 i q) = v (ix2 ⟨2 * k.val + i.val, by omega⟩ q) := by
  pointwise [slot]

/-- The sum of the first devices' rows, as a sum. -/
theorem sumTo_apply (v : FVec Ideal S64x1024 .f32) (i : Fin 2) (q : Fin 1024) : ∀ (n : ℕ) (h : n < 32),
    sumTo v n h (ix2 i q) = ∑ k : Fin (n + 1), v (ix2 ⟨2 * k.val + i.val, by omega⟩ q)
  | 0, h => by rw [Fin.sum_univ_one]; exact slot_apply v ⟨0, h⟩ i q
  | n + 1, h => (congrArg₂ (fun x y : EReal => x + y) (sumTo_apply v i q n (Nat.lt_of_succ_lt h))
      (slot_apply v ⟨n + 1, h⟩ i q)).trans (Fin.sum_univ_castSucc
        fun k : Fin (n + 1 + 1) => (v (ix2 ⟨2 * k.val + i.val, by omega⟩ q) : EReal)).symm

/-- The reduced rows: the positive part of the sum over the devices. -/
theorem reduced_apply (v : Vec Ideal S64x1024 .bf16) (i : Fin 2) (q : Fin 1024) :
    reduced v (ix2 i q) = max (∑ k : Fin 32, v (ix2 ⟨2 * k.val + i.val, by omega⟩ q)) 0 := by
  have h := sumTo_apply (extf .f32 v bitsLt_bf16_f32) i q 31 (by decide)
  pointwise [reduced]
  rw [h]
  pointwise

/-! ## Rows and halves by their coordinates -/

theorem emb_ix (c : Dev nD) (i : Fin 2) (q : Fin 1024) :
    (rectN c).emb (ix2 i q) = ix2 (n0 := 64) (n1 := 1024) ⟨2 * c.val + i.val, by have : c.val < 32 := c.isLt; omega⟩ q := by
  funext a
  apply Fin.ext
  match a with
  | 0 => exact emb_row c (ix2 i q)
  | 1 => exact emb_col c (ix2 i q)

theorem rows2_apply (v : Vec Ideal S64x1024 .bf16) (c : Dev nD) (i : Fin 2) (q : Fin 1024) :
    rows2 v c (ix2 i q) = v (ix2 ⟨2 * c.val + i.val, by have : c.val < 32 := c.isLt; omega⟩ q) :=
  congrArg v (emb_ix c i q)

theorem stack_apply (w : Dev nD → Vec Ideal S2x1024 .bf16) (k : Dev nD) (i : Fin 2) (q : Fin 1024) :
    stack w (ix2 ⟨2 * k.val + i.val, by have : k.val < 32 := k.isLt; omega⟩ q) = w k (ix2 i q) :=
  (congrArg (stack w) (emb_ix k i q)).symm.trans (congrFun (rows2_stack w k) (ix2 i q))

theorem winBlk_apply (w : Vec Ideal S1024x2048 .f32) (b : Fin 2) (p q : Fin 1024) :
    winBlk w b (ix2 p q) = w (ix2 p ⟨1024 * b.val + q.val, by omega⟩) := by
  refine congrArg w ?_
  funext a
  apply Fin.ext
  match a with
  | 0 => simp [Rect.emb_apply, ix2]
  | 1 => simp [Rect.emb_apply, ix2]

theorem woutBlk_apply (w : Vec Ideal S2048x1024 .f32) (b : Fin 2) (p q : Fin 1024) :
    woutBlk w b (ix2 p q) = w (ix2 ⟨1024 * b.val + p.val, by omega⟩ q) := by
  refine congrArg w ?_
  funext a
  apply Fin.ext
  match a with
  | 0 => simp [Rect.emb_apply, ix2]
  | 1 => simp [Rect.emb_apply, ix2]

/-! ## The layer -/

/-- The gathered hidden layer: at each place, the positive part of the whole contraction, device by device. -/
theorem gathOf_apply (a : Dev nD → FVec Ideal S64x1024 .f32) (win : Dev nD → Vec Ideal S1024x2048 .f32) (b : Fin 2)
    (r : Fin 64) (q : Fin 1024) :
    gathOf a win b (ix2 r q)
      = max (∑ k : Fin 32, ∑ p : Fin 1024, a k (ix2 r p) * win k (ix2 p ⟨1024 * b.val + q.val, by omega⟩)) 0 := by
  obtain ⟨c, i, e⟩ : ∃ (c : Fin 32) (i : Fin 2), r.val = 2 * c.val + i.val :=
    ⟨⟨r.val / 2, by omega⟩, ⟨r.val % 2, by omega⟩, by show r.val = 2 * (r.val / 2) + r.val % 2; omega⟩
  obtain rfl : r = ⟨2 * c.val + i.val, by clear e; omega⟩ := Fin.ext e
  unfold gathOf
  refine (stack_apply (redOf a win b) c i q).trans ?_
  unfold redOf
  rw [reduced_apply]
  refine congrArg (fun x : EReal => max x 0) (Finset.sum_congr rfl fun k _ => ?_)
  unfold gotOf
  refine (stack_apply _ k i q).trans ?_
  rw [rows2_apply]
  unfold hidOf
  rw [hidden_apply]
  exact Finset.sum_congr rfl fun p _ => by rw [winBlk_apply]

/-- A device's columns of the layer's result. -/
theorem outOf_apply (a : Dev nD → FVec Ideal S64x1024 .f32) (win : Dev nD → Vec Ideal S1024x2048 .f32)
    (wout : Dev nD → Vec Ideal S2048x1024 .f32) (c : Dev nD) (r : Fin 64) (s : Fin 1024) :
    outOf a win wout c (ix2 r s)
      = (∑ q : Fin 1024, gathOf a win 0 (ix2 r q) * wout c (ix2 ⟨q.val, by omega⟩ s))
        + ∑ q : Fin 1024, gathOf a win 1 (ix2 r q) * wout c (ix2 ⟨1024 + q.val, by omega⟩ s) := by
  show prod (gathOf a win 0) (woutBlk (wout c) 0) (ix2 r s) + prod (gathOf a win 1) (woutBlk (wout c) 1) (ix2 r s) = _
  rw [prod_apply, prod_apply]
  refine congrArg₂ (fun x y : EReal => x + y) (Finset.sum_congr rfl fun q _ => ?_) (Finset.sum_congr rfl fun q _ => ?_)
  · rw [woutBlk_apply]; simp
  · rw [woutBlk_apply]; simp

end Cert.KernelIdeal.Mlp
-- ==== Proof.RefLayer.lean ====
module

public import proofs.«01_k».proof.Proof.Gen.ReferenceIdeal.Run
public import Idealize.ShloMosaic.Lib.Pointwise

/-! # What the reference computes

Three times the same layer: a product, its positive part, and a second product. -/

@[expose] public section

noncomputable section

namespace Cert.ReferenceIdeal.Mlp

open Idealize.ShloMosaic Idealize.SL.Sem Cert.ReferenceIdeal
open Cert.ReferenceIdeal.Facts₀

/-- One layer of the reference. -/
def layer (x : FVec Ideal S64x32768 .f32) (w : FVec Ideal S32768x2048 .f32) (v : FVec Ideal S2048x32768 .f32) :
    FVec Ideal S64x32768 .f32 :=
  Host.dotGeneral dot_S64x2048_S2048x32768_S64x32768_1_0_0_1_n_n none
    (maximumf (Host.dotGeneral dot_S64x32768_S32768x2048_S64x2048_1_0_0_1_n_n none x w)
      (broadcastInDim S64x2048 ![] bcast_S_S64x2048 (constant S_ .f32 0x00000000#32))) v

/-- The layer at a place. -/
theorem layer_apply (x : FVec Ideal S64x32768 .f32) (w : FVec Ideal S32768x2048 .f32) (v : FVec Ideal S2048x32768 .f32)
    (r : Fin 64) (s : Fin 32768) :
    layer x w v (ix2 r s)
      = ∑ q : Fin 2048, max (∑ p : Fin 32768, x (ix2 r p) * w (ix2 p q)) 0 * v (ix2 q s) := by
  pointwise [layer]

end Cert.ReferenceIdeal.Mlp
-- ==== Proof.KIEq.lean ====
module

public import proofs.«01_k».proof.Proof.KIPoint
public import proofs.«01_k».proof.Proof.RefLayer
public import Idealize.ShloMosaic.Lib.Layout
public import Idealize.ShloMosaic.Lib.Pipeline.ValueKit.Acc

/-! # The layer is the reference's, cut along the columns

The hidden layer is contracted device by device on one side and at once on the other; the second product is summed
in two halves on one side and at once on the other. Addition of extended reals may be regrouped, so the two agree. -/

@[expose] public section

noncomputable section

namespace Cert.KernelIdeal.Mlp

open Idealize.ShloMosaic Idealize.SL.Sem

/-- Device `c`'s columns of an array of activations; -/
abbrev colsX (c : Dev nD) (x : (⟨2, ![64, 32768]⟩ : Shape).Idx → EReal) : (⟨2, ![64, 1024]⟩ : Shape).Idx → EReal :=
  Layout.block ⟨2, ![64, 1024]⟩ ⟨2, ![64, 32768]⟩ 1 32 c x
/-- its rows of a first matrix; -/
abbrev rowsW (c : Dev nD) (w : (⟨2, ![32768, 2048]⟩ : Shape).Idx → EReal) : (⟨2, ![1024, 2048]⟩ : Shape).Idx → EReal :=
  Layout.block ⟨2, ![1024, 2048]⟩ ⟨2, ![32768, 2048]⟩ 0 32 c w
/-- and its columns of a second one. -/
abbrev colsV (c : Dev nD) (v : (⟨2, ![2048, 32768]⟩ : Shape).Idx → EReal) : (⟨2, ![2048, 1024]⟩ : Shape).Idx → EReal :=
  Layout.block ⟨2, ![2048, 1024]⟩ ⟨2, ![2048, 32768]⟩ 1 32 c v

theorem place_lt (c : Dev nD) (p : Fin 1024) : c.val * 1024 + p.val < 32768 := by
  have : c.val < 32 := c.isLt
  omega

theorem colsX_apply (c : Dev nD) (x : (⟨2, ![64, 32768]⟩ : Shape).Idx → EReal) (r : Fin 64) (p : Fin 1024) :
    colsX c x (ix2 r p) = x (ix2 r ⟨c.val * 1024 + p.val, place_lt c p⟩) := by
  refine congrArg x ?_
  funext a
  apply Fin.ext
  match a with
  | 0 => rfl
  | 1 => rfl

theorem rowsW_apply (c : Dev nD) (w : (⟨2, ![32768, 2048]⟩ : Shape).Idx → EReal) (p : Fin 1024) (q : Fin 2048) :
    rowsW c w (ix2 p q) = w (ix2 ⟨c.val * 1024 + p.val, place_lt c p⟩ q) := by
  refine congrArg w ?_
  funext a
  apply Fin.ext
  match a with
  | 0 => rfl
  | 1 => rfl

theorem colsV_apply (c : Dev nD) (v : (⟨2, ![2048, 32768]⟩ : Shape).Idx → EReal) (q : Fin 2048) (s : Fin 1024) :
    colsV c v (ix2 q s) = v (ix2 q ⟨c.val * 1024 + s.val, place_lt c s⟩) := by
  refine congrArg v ?_
  funext a
  apply Fin.ext
  match a with
  | 0 => rfl
  | 1 => rfl

/-- A sum over all columns, device by device. -/
theorem sum_devices (f : Fin 32768 → EReal) :
    ∑ k : Fin 32, ∑ p : Fin 1024, f ⟨k.val * 1024 + p.val, by omega⟩ = ∑ l : Fin 32768, f l := by
  have h := Fin.sum_univ_univ_mul_add 32 1024 fun l => if h : l < 32768 then f ⟨l, h⟩ else 0
  have e1 : ∀ (k : Fin 32) (p : Fin 1024), k.val * 1024 + p.val < 32768 := fun k p => by omega
  have e2 : ∀ l : Fin (32 * 1024), l.val < 32768 := fun l => l.isLt
  simp only [e1, e2, dite_true] at h
  exact h

/-- One layer. -/
theorem outOf_block (x : FVec Ideal Cert.ReferenceIdeal.S64x32768 .f32) (w : FVec Ideal Cert.ReferenceIdeal.S32768x2048 .f32)
    (v : FVec Ideal Cert.ReferenceIdeal.S2048x32768 .f32) (c : Dev nD) :
    outOf (F := Ideal) (fun k => colsX k x) (fun k => rowsW k w) (fun k => colsV k v) c
      = colsX c (Cert.ReferenceIdeal.Mlp.layer x w v) := by
  funext j
  obtain ⟨r, s, rfl⟩ : ∃ (r : Fin 64) (s : Fin 1024), j = ix2 r s := ⟨j 0, j 1, eq_ix2 j⟩
  have g : ∀ (b : Fin 2) (q : Fin 1024) (h : 1024 * b.val + q.val < 2048),
      gathOf (F := Ideal) (fun k => colsX k x) (fun k => rowsW k w) b (ix2 r q)
        = max (∑ p : Fin 32768, x (ix2 r p) * w (ix2 p ⟨1024 * b.val + q.val, h⟩)) 0 := fun b q h => by
    rw [gathOf_apply, ← sum_devices]
    refine congrArg (fun t : EReal => max t 0) (Finset.sum_congr rfl fun k _ => Finset.sum_congr rfl fun p _ => ?_)
    rw [colsX_apply, rowsW_apply]
  rw [outOf_apply, colsX_apply, Cert.ReferenceIdeal.Mlp.layer_apply, Fin.sum_univ_two_halves 1024 1024 rfl]
  refine congrArg₂ (fun s t : EReal => s + t) (Finset.sum_congr rfl fun q _ => ?_) (Finset.sum_congr rfl fun q _ => ?_)
  · rw [g 0 q (by show 1024 * 0 + _ < _; omega), colsV_apply]
    simp
  · rw [g 1 q (by show 1024 * 1 + _ < _; omega), colsV_apply]
    simp

/-- All layers: what the devices hold after layer `n` are the columns of what the reference has computed by then. -/
theorem act_block (I : Given Ideal) (x : FVec Ideal Cert.ReferenceIdeal.S64x32768 .f32)
    (w : ℕ → FVec Ideal Cert.ReferenceIdeal.S32768x2048 .f32) (v : ℕ → FVec Ideal Cert.ReferenceIdeal.S2048x32768 .f32)
    (hx : ∀ c, I.x c = colsX c x) (hw : ∀ l c, I.win l c = rowsW c (w l)) (hv : ∀ l c, I.wout l c = colsV c (v l))
    (y : ℕ → FVec Ideal Cert.ReferenceIdeal.S64x32768 .f32) (h0 : y 0 = x)
    (hs : ∀ l, y (l + 1) = Cert.ReferenceIdeal.Mlp.layer (y l) (w l) (v l)) : ∀ n c, act I n c = colsX c (y n)
  | 0, c => by
    rw [h0, ← hx c]
    exact shapeCast_self _ _
  | n + 1, c => by
    have e1 : act I n = fun k => colsX k (y n) := funext fun k => act_block I x w v hx hw hv y h0 hs n k
    have e2 : I.win n = fun k => rowsW k (w n) := funext (hw n)
    have e3 : I.wout n = fun k => colsV k (v n) := funext (hv n)
    show outOf (act I n) (I.win n) (I.wout n) c = _
    rw [e1, e2, e3, hs]
    exact outOf_block (y n) (w n) (v n) c

end Cert.KernelIdeal.Mlp
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.KIRun
public import proofs.«01_k».proof.Proof.KIEq
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m g _ =>
  (θ_run _ _ _).mono (fun r h => ⟨h.1, h.2.2⟩) (Cert.Kernel.Mlp.run m g)

theorem frame_kernelIdeal : Cert.quiescent_KernelIdeal := fun m g _ =>
  (θ_run _ _ _).mono (fun r h => ⟨h.1, h.2.2⟩) (Cert.KernelIdeal.Mlp.run m g)

/-- The reference's program has no semaphore, so their counters end at zero. -/
theorem frame_reference : Cert.quiescent_ReferenceIdeal := fun m g _ =>
  (θ_run _ _ _).mono (fun r h => ⟨fun c => (h c).2, funext fun g => by
    rcases g with ⟨_, ⟨s⟩ | ⟨s⟩⟩ <;> exact s.elim0⟩) (Cert.ReferenceIdeal.Value.run m g)

/-- What the reference's layers are given. -/
private abbrev given3 {α : Type} (a b d : α) : ℕ → α
  | 0 => a
  | 1 => b
  | _ => d

theorem algebraic_kernel : Cert.algebraic_KernelIdeal_ReferenceIdeal := fun m g m' g' _ hm => by
  let x := m' (((0 : Dev Cert.ReferenceIdeal.nD).tc : Thread Cert.ReferenceIdeal.nD Cert.ReferenceIdeal.τ).loc Cert.ReferenceIdeal.main_arg0)
  let w := given3
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
  let v := given3
    (m' (((0 : Dev Cert.ReferenceIdeal.nD).tc : Thread Cert.ReferenceIdeal.nD Cert.ReferenceIdeal.τ).loc Cert.ReferenceIdeal.main_arg4))
    (m' (((0 : Dev Cert.ReferenceIdeal.nD).tc : Thread Cert.ReferenceIdeal.nD Cert.ReferenceIdeal.τ).loc Cert.ReferenceIdeal.main_arg5))
    (m' (((0 : Dev Cert.ReferenceIdeal.nD).tc : Thread Cert.ReferenceIdeal.nD Cert.ReferenceIdeal.τ).loc Cert.ReferenceIdeal.main_arg6))
  let y : ℕ → FVec Ideal Cert.ReferenceIdeal.S64x32768 .f32 := fun n =>
    Nat.rec x (fun l z => Cert.ReferenceIdeal.Mlp.layer z (w l) (v l)) n
  have hw : ∀ l c, (Cert.KernelIdeal.Mlp.giv m).win l c = Cert.KernelIdeal.Mlp.rowsW c (w l) := fun l c => match l with
    | 0 => (hm c).2.1
    | 1 => (hm c).2.2.1
    | _ + 2 => (hm c).2.2.2.1
  have hv : ∀ l c, (Cert.KernelIdeal.Mlp.giv m).wout l c = Cert.KernelIdeal.Mlp.colsV c (v l) := fun l c => match l with
    | 0 => (hm c).2.2.2.2.1
    | 1 => (hm c).2.2.2.2.2.1
    | _ + 2 => (hm c).2.2.2.2.2.2
  have ha : ∀ c, Cert.KernelIdeal.Mlp.act (Cert.KernelIdeal.Mlp.giv m) 3 c = Cert.KernelIdeal.Mlp.colsX c (y 3) :=
    Cert.KernelIdeal.Mlp.act_block (Cert.KernelIdeal.Mlp.giv m) x w v (fun c => (hm c).1) hw hv y rfl (fun l => rfl) 3
  refine ⟨y 3, ?_, ?_⟩
  · exact (θ_run _ _ _).mono (fun r h c => ⟨(h.2.1 c).trans (ha c), h.1 c⟩) (Cert.KernelIdeal.Mlp.run m g)
  · exact (θ_run _ _ _).mono (fun r h => h 0) (Cert.ReferenceIdeal.Value.run m' g')

theorem claim : Cert.Claim := ⟨Cert.Kernel.Gen.facts, Cert.KernelIdeal.Gen.facts, Cert.ReferenceIdeal.Gen.facts,
  frame_kernel, frame_kernelIdeal,
  frame_reference, trivial, algebraic_kernel⟩

end Cert.Proof

end
